-- ==== Defs.lean ====
def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnPre (m : (ℓ : Loc Cert.FfnPre.nD Cert.FfnPre.τ Cert.FfnPre.sig) → Buf (Elt Bits) ℓ) : Prop :=
  True

def Pre_FfnPreIdeal (m : (ℓ : Loc Cert.FfnPreIdeal.nD Cert.FfnPreIdeal.τ Cert.FfnPreIdeal.sig) → Buf (Elt Ideal) ℓ) : Prop :=
  True

def Pre_RefFfnPreIdeal (m : (ℓ : Loc Cert.RefFfnPreIdeal.nD Cert.RefFfnPreIdeal.τ Cert.RefFfnPreIdeal.sig) → Buf (Elt Ideal) ℓ) : Prop :=
  True

def Pre_FfnEnd (m : (ℓ : Loc Cert.FfnEnd.nD Cert.FfnEnd.τ Cert.FfnEnd.sig) → Buf (Elt Bits) ℓ) : Prop :=
  True

def Pre_FfnEndIdeal (m : (ℓ : Loc Cert.FfnEndIdeal.nD Cert.FfnEndIdeal.τ Cert.FfnEndIdeal.sig) → Buf (Elt Ideal) ℓ) : Prop :=
  True

def Pre_RefFfnEndIdeal (m : (ℓ : Loc Cert.RefFfnEndIdeal.nD Cert.RefFfnEndIdeal.τ Cert.RefFfnEndIdeal.sig) → Buf (Elt Ideal) ℓ) : Prop :=
  True

def Pre_HeadDft (m : (ℓ : Loc Cert.HeadDft.nD Cert.HeadDft.τ Cert.HeadDft.sig) → Buf (Elt Bits) ℓ) : Prop :=
  True

def Pre_HeadDftIdeal (m : (ℓ : Loc Cert.HeadDftIdeal.nD Cert.HeadDftIdeal.τ Cert.HeadDftIdeal.sig) → Buf (Elt Ideal) ℓ) : Prop :=
  True

def Pre_RefHeadIdeal (m : (ℓ : Loc Cert.RefHeadIdeal.nD Cert.RefHeadIdeal.τ Cert.RefHeadIdeal.sig) → Buf (Elt Ideal) ℓ) : Prop :=
  True

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_FfnPre [hFfnPre : Cert.FfnPre.Facts] : Prop :=
  ∀ (m : (ℓ : Loc Cert.FfnPre.nD Cert.FfnPre.τ Cert.FfnPre.sig) → Buf (Elt Bits) ℓ) (g : Dev Cert.FfnPre.nD → PrngReg), Pre_FfnPre m →
    θ_run (Cert.FfnPre.defs (F := Bits)) (onTc (τ := Cert.FfnPre.τ) (Cert.FfnPre.main (F := Bits))) ⟨m, fun _ => 0, g⟩ (fun r => (∀ c : Dev Cert.FfnPre.nD,
      r.2.mem ((c.tc : Thread Cert.FfnPre.nD Cert.FfnPre.τ).loc Cert.FfnPre.main_arg0) = m ((c.tc : Thread Cert.FfnPre.nD Cert.FfnPre.τ).loc Cert.FfnPre.main_arg0)
      ∧ r.2.mem ((c.tc : Thread Cert.FfnPre.nD Cert.FfnPre.τ).loc Cert.FfnPre.main_arg1) = m ((c.tc : Thread Cert.FfnPre.nD Cert.FfnPre.τ).loc Cert.FfnPre.main_arg1)
      ∧ r.2.mem ((c.tc : Thread Cert.FfnPre.nD Cert.FfnPre.τ).loc Cert.FfnPre.main_arg2) = m ((c.tc : Thread Cert.FfnPre.nD Cert.FfnPre.τ).loc Cert.FfnPre.main_arg2)
      ∧ r.2.mem ((c.tc : Thread Cert.FfnPre.nD Cert.FfnPre.τ).loc Cert.FfnPre.main_arg3) = m ((c.tc : Thread Cert.FfnPre.nD Cert.FfnPre.τ).loc Cert.FfnPre.main_arg3)
      ∧ r.2.mem ((c.tc : Thread Cert.FfnPre.nD Cert.FfnPre.τ).loc Cert.FfnPre.main_arg4) = m ((c.tc : Thread Cert.FfnPre.nD Cert.FfnPre.τ).loc Cert.FfnPre.main_arg4)
      ∧ r.2.mem ((c.tc : Thread Cert.FfnPre.nD Cert.FfnPre.τ).loc Cert.FfnPre.main_arg5) = m ((c.tc : Thread Cert.FfnPre.nD Cert.FfnPre.τ).loc Cert.FfnPre.main_arg5)
      ∧ r.2.mem ((c.tc : Thread Cert.FfnPre.nD Cert.FfnPre.τ).loc Cert.FfnPre.main_arg6) = m ((c.tc : Thread Cert.FfnPre.nD Cert.FfnPre.τ).loc Cert.FfnPre.main_arg6))
      ∧ r.2.sem = fun _ => 0)

def quiescent_FfnPreIdeal [hFfnPreIdeal : Cert.FfnPreIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg), Pre_FfnPreIdeal m →
    θ_run (Cert.FfnPreIdeal.defs (F := Ideal)) (onTc (τ := Cert.FfnPreIdeal.τ) (Cert.FfnPreIdeal.main (F := Ideal))) ⟨m, fun _ => 0, g⟩ (fun r => (∀ c : Dev Cert.FfnPreIdeal.nD,
      r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
      ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
      ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
      ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
      ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
      ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
      ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6))
      ∧ r.2.sem = fun _ => 0)

def quiescent_RefFfnPreIdeal [hRefFfnPreIdeal : Cert.RefFfnPreIdeal.Facts] : Prop :=
  ∀ (m : (ℓ : Loc Cert.RefFfnPreIdeal.nD Cert.RefFfnPreIdeal.τ Cert.RefFfnPreIdeal.sig) → Buf (Elt Ideal) ℓ) (g : Dev Cert.RefFfnPreIdeal.nD → PrngReg), Pre_RefFfnPreIdeal m →
    θ_run (Cert.RefFfnPreIdeal.defs (F := Ideal)) (onTc (τ := Cert.RefFfnPreIdeal.τ) (Cert.RefFfnPreIdeal.main (F := Ideal))) ⟨m, fun _ => 0, g⟩ (fun r => (∀ c : Dev Cert.RefFfnPreIdeal.nD,
      r.2.mem ((c.tc : Thread Cert.RefFfnPreIdeal.nD Cert.RefFfnPreIdeal.τ).loc Cert.RefFfnPreIdeal.main_arg0) = m ((c.tc : Thread Cert.RefFfnPreIdeal.nD Cert.RefFfnPreIdeal.τ).loc Cert.RefFfnPreIdeal.main_arg0)
      ∧ r.2.mem ((c.tc : Thread Cert.RefFfnPreIdeal.nD Cert.RefFfnPreIdeal.τ).loc Cert.RefFfnPreIdeal.main_arg1) = m ((c.tc : Thread Cert.RefFfnPreIdeal.nD Cert.RefFfnPreIdeal.τ).loc Cert.RefFfnPreIdeal.main_arg1)
      ∧ r.2.mem ((c.tc : Thread Cert.RefFfnPreIdeal.nD Cert.RefFfnPreIdeal.τ).loc Cert.RefFfnPreIdeal.main_arg2) = m ((c.tc : Thread Cert.RefFfnPreIdeal.nD Cert.RefFfnPreIdeal.τ).loc Cert.RefFfnPreIdeal.main_arg2)
      ∧ r.2.mem ((c.tc : Thread Cert.RefFfnPreIdeal.nD Cert.RefFfnPreIdeal.τ).loc Cert.RefFfnPreIdeal.main_arg3) = m ((c.tc : Thread Cert.RefFfnPreIdeal.nD Cert.RefFfnPreIdeal.τ).loc Cert.RefFfnPreIdeal.main_arg3)
      ∧ r.2.mem ((c.tc : Thread Cert.RefFfnPreIdeal.nD Cert.RefFfnPreIdeal.τ).loc Cert.RefFfnPreIdeal.main_arg4) = m ((c.tc : Thread Cert.RefFfnPreIdeal.nD Cert.RefFfnPreIdeal.τ).loc Cert.RefFfnPreIdeal.main_arg4)
      ∧ r.2.mem ((c.tc : Thread Cert.RefFfnPreIdeal.nD Cert.RefFfnPreIdeal.τ).loc Cert.RefFfnPreIdeal.main_arg5) = m ((c.tc : Thread Cert.RefFfnPreIdeal.nD Cert.RefFfnPreIdeal.τ).loc Cert.RefFfnPreIdeal.main_arg5)
      ∧ r.2.mem ((c.tc : Thread Cert.RefFfnPreIdeal.nD Cert.RefFfnPreIdeal.τ).loc Cert.RefFfnPreIdeal.main_arg6) = m ((c.tc : Thread Cert.RefFfnPreIdeal.nD Cert.RefFfnPreIdeal.τ).loc Cert.RefFfnPreIdeal.main_arg6))
      ∧ r.2.sem = fun _ => 0)

def quiescent_FfnEnd [hFfnEnd : Cert.FfnEnd.Facts] : Prop :=
  ∀ (m : (ℓ : Loc Cert.FfnEnd.nD Cert.FfnEnd.τ Cert.FfnEnd.sig) → Buf (Elt Bits) ℓ) (g : Dev Cert.FfnEnd.nD → PrngReg), Pre_FfnEnd m →
    θ_run (Cert.FfnEnd.defs (F := Bits)) (onTc (τ := Cert.FfnEnd.τ) (Cert.FfnEnd.main (F := Bits))) ⟨m, fun _ => 0, g⟩ (fun r => (∀ c : Dev Cert.FfnEnd.nD,
      r.2.mem ((c.tc : Thread Cert.FfnEnd.nD Cert.FfnEnd.τ).loc Cert.FfnEnd.main_arg0) = m ((c.tc : Thread Cert.FfnEnd.nD Cert.FfnEnd.τ).loc Cert.FfnEnd.main_arg0)
      ∧ r.2.mem ((c.tc : Thread Cert.FfnEnd.nD Cert.FfnEnd.τ).loc Cert.FfnEnd.main_arg1) = m ((c.tc : Thread Cert.FfnEnd.nD Cert.FfnEnd.τ).loc Cert.FfnEnd.main_arg1)
      ∧ r.2.mem ((c.tc : Thread Cert.FfnEnd.nD Cert.FfnEnd.τ).loc Cert.FfnEnd.main_arg2) = m ((c.tc : Thread Cert.FfnEnd.nD Cert.FfnEnd.τ).loc Cert.FfnEnd.main_arg2)
      ∧ r.2.mem ((c.tc : Thread Cert.FfnEnd.nD Cert.FfnEnd.τ).loc Cert.FfnEnd.main_arg3) = m ((c.tc : Thread Cert.FfnEnd.nD Cert.FfnEnd.τ).loc Cert.FfnEnd.main_arg3)
      ∧ r.2.mem ((c.tc : Thread Cert.FfnEnd.nD Cert.FfnEnd.τ).loc Cert.FfnEnd.main_arg4) = m ((c.tc : Thread Cert.FfnEnd.nD Cert.FfnEnd.τ).loc Cert.FfnEnd.main_arg4)
      ∧ r.2.mem ((c.tc : Thread Cert.FfnEnd.nD Cert.FfnEnd.τ).loc Cert.FfnEnd.main_arg5) = m ((c.tc : Thread Cert.FfnEnd.nD Cert.FfnEnd.τ).loc Cert.FfnEnd.main_arg5))
      ∧ r.2.sem = fun _ => 0)

def quiescent_FfnEndIdeal [hFfnEndIdeal : Cert.FfnEndIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg), Pre_FfnEndIdeal m →
    θ_run (Cert.FfnEndIdeal.defs (F := Ideal)) (onTc (τ := Cert.FfnEndIdeal.τ) (Cert.FfnEndIdeal.main (F := Ideal))) ⟨m, fun _ => 0, g⟩ (fun r => (∀ c : Dev Cert.FfnEndIdeal.nD,
      r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
      ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
      ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
      ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
      ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
      ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5))
      ∧ r.2.sem = fun _ => 0)

def quiescent_RefFfnEndIdeal [hRefFfnEndIdeal : Cert.RefFfnEndIdeal.Facts] : Prop :=
  ∀ (m : (ℓ : Loc Cert.RefFfnEndIdeal.nD Cert.RefFfnEndIdeal.τ Cert.RefFfnEndIdeal.sig) → Buf (Elt Ideal) ℓ) (g : Dev Cert.RefFfnEndIdeal.nD → PrngReg), Pre_RefFfnEndIdeal m →
    θ_run (Cert.RefFfnEndIdeal.defs (F := Ideal)) (onTc (τ := Cert.RefFfnEndIdeal.τ) (Cert.RefFfnEndIdeal.main (F := Ideal))) ⟨m, fun _ => 0, g⟩ (fun r => (∀ c : Dev Cert.RefFfnEndIdeal.nD,
      r.2.mem ((c.tc : Thread Cert.RefFfnEndIdeal.nD Cert.RefFfnEndIdeal.τ).loc Cert.RefFfnEndIdeal.main_arg0) = m ((c.tc : Thread Cert.RefFfnEndIdeal.nD Cert.RefFfnEndIdeal.τ).loc Cert.RefFfnEndIdeal.main_arg0)
      ∧ r.2.mem ((c.tc : Thread Cert.RefFfnEndIdeal.nD Cert.RefFfnEndIdeal.τ).loc Cert.RefFfnEndIdeal.main_arg1) = m ((c.tc : Thread Cert.RefFfnEndIdeal.nD Cert.RefFfnEndIdeal.τ).loc Cert.RefFfnEndIdeal.main_arg1)
      ∧ r.2.mem ((c.tc : Thread Cert.RefFfnEndIdeal.nD Cert.RefFfnEndIdeal.τ).loc Cert.RefFfnEndIdeal.main_arg2) = m ((c.tc : Thread Cert.RefFfnEndIdeal.nD Cert.RefFfnEndIdeal.τ).loc Cert.RefFfnEndIdeal.main_arg2)
      ∧ r.2.mem ((c.tc : Thread Cert.RefFfnEndIdeal.nD Cert.RefFfnEndIdeal.τ).loc Cert.RefFfnEndIdeal.main_arg3) = m ((c.tc : Thread Cert.RefFfnEndIdeal.nD Cert.RefFfnEndIdeal.τ).loc Cert.RefFfnEndIdeal.main_arg3)
      ∧ r.2.mem ((c.tc : Thread Cert.RefFfnEndIdeal.nD Cert.RefFfnEndIdeal.τ).loc Cert.RefFfnEndIdeal.main_arg4) = m ((c.tc : Thread Cert.RefFfnEndIdeal.nD Cert.RefFfnEndIdeal.τ).loc Cert.RefFfnEndIdeal.main_arg4)
      ∧ r.2.mem ((c.tc : Thread Cert.RefFfnEndIdeal.nD Cert.RefFfnEndIdeal.τ).loc Cert.RefFfnEndIdeal.main_arg5) = m ((c.tc : Thread Cert.RefFfnEndIdeal.nD Cert.RefFfnEndIdeal.τ).loc Cert.RefFfnEndIdeal.main_arg5))
      ∧ r.2.sem = fun _ => 0)

def quiescent_HeadDft [hHeadDft : Cert.HeadDft.Facts] : Prop :=
  ∀ (m : (ℓ : Loc Cert.HeadDft.nD Cert.HeadDft.τ Cert.HeadDft.sig) → Buf (Elt Bits) ℓ) (g : Dev Cert.HeadDft.nD → PrngReg), Pre_HeadDft m →
    θ_run (Cert.HeadDft.defs (F := Bits)) (onTc (τ := Cert.HeadDft.τ) (Cert.HeadDft.main (F := Bits))) ⟨m, fun _ => 0, g⟩ (fun r => (∀ c : Dev Cert.HeadDft.nD,
      r.2.mem ((c.tc : Thread Cert.HeadDft.nD Cert.HeadDft.τ).loc Cert.HeadDft.main_arg0) = m ((c.tc : Thread Cert.HeadDft.nD Cert.HeadDft.τ).loc Cert.HeadDft.main_arg0)
      ∧ r.2.mem ((c.tc : Thread Cert.HeadDft.nD Cert.HeadDft.τ).loc Cert.HeadDft.main_arg1) = m ((c.tc : Thread Cert.HeadDft.nD Cert.HeadDft.τ).loc Cert.HeadDft.main_arg1))
      ∧ r.2.sem = fun _ => 0)

def quiescent_HeadDftIdeal [hHeadDftIdeal : Cert.HeadDftIdeal.Facts] : Prop :=
  ∀ (m : (ℓ : Loc Cert.HeadDftIdeal.nD Cert.HeadDftIdeal.τ Cert.HeadDftIdeal.sig) → Buf (Elt Ideal) ℓ) (g : Dev Cert.HeadDftIdeal.nD → PrngReg), Pre_HeadDftIdeal m →
    θ_run (Cert.HeadDftIdeal.defs (F := Ideal)) (onTc (τ := Cert.HeadDftIdeal.τ) (Cert.HeadDftIdeal.main (F := Ideal))) ⟨m, fun _ => 0, g⟩ (fun r => (∀ c : Dev Cert.HeadDftIdeal.nD,
      r.2.mem ((c.tc : Thread Cert.HeadDftIdeal.nD Cert.HeadDftIdeal.τ).loc Cert.HeadDftIdeal.main_arg0) = m ((c.tc : Thread Cert.HeadDftIdeal.nD Cert.HeadDftIdeal.τ).loc Cert.HeadDftIdeal.main_arg0)
      ∧ r.2.mem ((c.tc : Thread Cert.HeadDftIdeal.nD Cert.HeadDftIdeal.τ).loc Cert.HeadDftIdeal.main_arg1) = m ((c.tc : Thread Cert.HeadDftIdeal.nD Cert.HeadDftIdeal.τ).loc Cert.HeadDftIdeal.main_arg1))
      ∧ r.2.sem = fun _ => 0)

def quiescent_RefHeadIdeal [hRefHeadIdeal : Cert.RefHeadIdeal.Facts] : Prop :=
  ∀ (m : (ℓ : Loc Cert.RefHeadIdeal.nD Cert.RefHeadIdeal.τ Cert.RefHeadIdeal.sig) → Buf (Elt Ideal) ℓ) (g : Dev Cert.RefHeadIdeal.nD → PrngReg), Pre_RefHeadIdeal m →
    θ_run (Cert.RefHeadIdeal.defs (F := Ideal)) (onTc (τ := Cert.RefHeadIdeal.τ) (Cert.RefHeadIdeal.main (F := Ideal))) ⟨m, fun _ => 0, g⟩ (fun r => (∀ c : Dev Cert.RefHeadIdeal.nD,
      r.2.mem ((c.tc : Thread Cert.RefHeadIdeal.nD Cert.RefHeadIdeal.τ).loc Cert.RefHeadIdeal.main_arg0) = m ((c.tc : Thread Cert.RefHeadIdeal.nD Cert.RefHeadIdeal.τ).loc Cert.RefHeadIdeal.main_arg0)
      ∧ r.2.mem ((c.tc : Thread Cert.RefHeadIdeal.nD Cert.RefHeadIdeal.τ).loc Cert.RefHeadIdeal.main_arg1) = m ((c.tc : Thread Cert.RefHeadIdeal.nD Cert.RefHeadIdeal.τ).loc Cert.RefHeadIdeal.main_arg1))
      ∧ r.2.sem = fun _ => 0)

def preserves_MixOut_MixOutIdeal : Prop :=
  IdealRules.shift_out.By16TwiceStatement Cert.MixOutIdeal.S16x128

def algebraic_MixOutIdeal_RefOutIdeal [hMixOutIdeal : Cert.MixOutIdeal.Facts] [hRefOutIdeal : Cert.RefOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_MixOutIdeal m →
    (∀ c : Dev Cert.MixOutIdeal.nD,
      m' ((c.tc : Thread Cert.RefOutIdeal.nD Cert.RefOutIdeal.τ).loc Cert.RefOutIdeal.main_arg0) = m ((c.tc : Thread Cert.MixOutIdeal.nD Cert.MixOutIdeal.τ).loc Cert.MixOutIdeal.main_arg0)
      ∧ m' ((c.tc : Thread Cert.RefOutIdeal.nD Cert.RefOutIdeal.τ).loc Cert.RefOutIdeal.main_arg1) = m ((c.tc : Thread Cert.MixOutIdeal.nD Cert.MixOutIdeal.τ).loc Cert.MixOutIdeal.main_arg1)
      ∧ m' ((c.tc : Thread Cert.RefOutIdeal.nD Cert.RefOutIdeal.τ).loc Cert.RefOutIdeal.main_arg2) = m ((c.tc : Thread Cert.MixOutIdeal.nD Cert.MixOutIdeal.τ).loc Cert.MixOutIdeal.main_arg2)
      ∧ m' ((c.tc : Thread Cert.RefOutIdeal.nD Cert.RefOutIdeal.τ).loc Cert.RefOutIdeal.main_arg3) = m ((c.tc : Thread Cert.MixOutIdeal.nD Cert.MixOutIdeal.τ).loc Cert.MixOutIdeal.main_arg3)
      ∧ m' ((c.tc : Thread Cert.RefOutIdeal.nD Cert.RefOutIdeal.τ).loc Cert.RefOutIdeal.main_arg4) = m ((c.tc : Thread Cert.MixOutIdeal.nD Cert.MixOutIdeal.τ).loc Cert.MixOutIdeal.main_arg4)
      ∧ m' ((c.tc : Thread Cert.RefOutIdeal.nD Cert.RefOutIdeal.τ).loc Cert.RefOutIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v25) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5))

def preserves_Ffn_FfnIdeal : Prop :=
  IdealRules.shift_out.By16TwiceStatement Cert.FfnIdeal.S16x128

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v29) = v0 c
          ∧ r.2.mem ((c.tc : Thread Cert.RefFfnIdeal.nD Cert.RefFfnIdeal.τ).loc Cert.RefFfnIdeal.main_v45) = v1 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_FfnPre_FfnPreIdeal : Prop :=
  IdealRules.shift_out.By16TwiceStatement Cert.FfnPreIdeal.S16x128

def algebraic_FfnPreIdeal_RefFfnPreIdeal [hFfnPreIdeal : Cert.FfnPreIdeal.Facts] [hRefFfnPreIdeal : Cert.RefFfnPreIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg)
    (m' : (ℓ : Loc Cert.RefFfnPreIdeal.nD Cert.RefFfnPreIdeal.τ Cert.RefFfnPreIdeal.sig) → Buf (Elt Ideal) ℓ) (g' : Dev Cert.RefFfnPreIdeal.nD → PrngReg), Pre_FfnPreIdeal m →
    (∀ c : Dev Cert.FfnPreIdeal.nD,
      m' ((c.tc : Thread Cert.RefFfnPreIdeal.nD Cert.RefFfnPreIdeal.τ).loc Cert.RefFfnPreIdeal.main_arg0) = m ((c.tc : Thread Cert.FfnPreIdeal.nD Cert.FfnPreIdeal.τ).loc Cert.FfnPreIdeal.main_arg0)
      ∧ m' ((c.tc : Thread Cert.RefFfnPreIdeal.nD Cert.RefFfnPreIdeal.τ).loc Cert.RefFfnPreIdeal.main_arg1) = m ((c.tc : Thread Cert.FfnPreIdeal.nD Cert.FfnPreIdeal.τ).loc Cert.FfnPreIdeal.main_arg1)
      ∧ m' ((c.tc : Thread Cert.RefFfnPreIdeal.nD Cert.RefFfnPreIdeal.τ).loc Cert.RefFfnPreIdeal.main_arg2) = m ((c.tc : Thread Cert.FfnPreIdeal.nD Cert.FfnPreIdeal.τ).loc Cert.FfnPreIdeal.main_arg2)
      ∧ m' ((c.tc : Thread Cert.RefFfnPreIdeal.nD Cert.RefFfnPreIdeal.τ).loc Cert.RefFfnPreIdeal.main_arg3) = m ((c.tc : Thread Cert.FfnPreIdeal.nD Cert.FfnPreIdeal.τ).loc Cert.FfnPreIdeal.main_arg3)
      ∧ m' ((c.tc : Thread Cert.RefFfnPreIdeal.nD Cert.RefFfnPreIdeal.τ).loc Cert.RefFfnPreIdeal.main_arg4) = m ((c.tc : Thread Cert.FfnPreIdeal.nD Cert.FfnPreIdeal.τ).loc Cert.FfnPreIdeal.main_arg4)
      ∧ m' ((c.tc : Thread Cert.RefFfnPreIdeal.nD Cert.RefFfnPreIdeal.τ).loc Cert.RefFfnPreIdeal.main_arg5) = m ((c.tc : Thread Cert.FfnPreIdeal.nD Cert.FfnPreIdeal.τ).loc Cert.FfnPreIdeal.main_arg5)
      ∧ m' ((c.tc : Thread Cert.RefFfnPreIdeal.nD Cert.RefFfnPreIdeal.τ).loc Cert.RefFfnPreIdeal.main_arg6) = m ((c.tc : Thread Cert.FfnPreIdeal.nD Cert.FfnPreIdeal.τ).loc Cert.FfnPreIdeal.main_arg6)) →
    ∃ (v0 : (c : Dev Cert.FfnPreIdeal.nD) → Buf (Elt Ideal) ((c.tc : Thread Cert.FfnPreIdeal.nD Cert.FfnPreIdeal.τ).loc Cert.FfnPreIdeal.main_v0_0)) (v1 : (c : Dev Cert.FfnPreIdeal.nD) → Buf (Elt Ideal) ((c.tc : Thread Cert.FfnPreIdeal.nD Cert.FfnPreIdeal.τ).loc Cert.FfnPreIdeal.main_v0_1)),
      θ_run (Cert.FfnPreIdeal.defs (F := Ideal)) (onTc (τ := Cert.FfnPreIdeal.τ) (Cert.FfnPreIdeal.main (F := Ideal))) ⟨m, fun _ => 0, g⟩ (fun r => ∀ c : Dev Cert.FfnPreIdeal.nD,
          r.2.mem ((c.tc : Thread Cert.FfnPreIdeal.nD Cert.FfnPreIdeal.τ).loc Cert.FfnPreIdeal.main_v0_0) = v0 c
          ∧ r.2.mem ((c.tc : Thread Cert.FfnPreIdeal.nD Cert.FfnPreIdeal.τ).loc Cert.FfnPreIdeal.main_v0_1) = v1 c
          ∧ r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
          ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
          ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
          ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
          ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
          ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
          ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6))
      ∧ θ_run (Cert.RefFfnPreIdeal.defs (F := Ideal)) (onTc (τ := Cert.RefFfnPreIdeal.τ) (Cert.RefFfnPreIdeal.main (F := Ideal))) ⟨m', fun _ => 0, g'⟩ (fun r => ∀ c : Dev Cert.RefFfnPreIdeal.nD,
          r.2.mem ((c.tc : Thread Cert.RefFfnPreIdeal.nD Cert.RefFfnPreIdeal.τ).loc Cert.RefFfnPreIdeal.main_v43) = v0 c
          ∧ r.2.mem ((c.tc : Thread Cert.RefFfnPreIdeal.nD Cert.RefFfnPreIdeal.τ).loc Cert.RefFfnPreIdeal.main_v59) = v1 c
          ∧ r.2.mem ((c.tc : Thread Cert.RefFfnPreIdeal.nD Cert.RefFfnPreIdeal.τ).loc Cert.RefFfnPreIdeal.main_arg0) = m' ((c.tc : Thread Cert.RefFfnPreIdeal.nD Cert.RefFfnPreIdeal.τ).loc Cert.RefFfnPreIdeal.main_arg0)
          ∧ r.2.mem ((c.tc : Thread Cert.RefFfnPreIdeal.nD Cert.RefFfnPreIdeal.τ).loc Cert.RefFfnPreIdeal.main_arg1) = m' ((c.tc : Thread Cert.RefFfnPreIdeal.nD Cert.RefFfnPreIdeal.τ).loc Cert.RefFfnPreIdeal.main_arg1)
          ∧ r.2.mem ((c.tc : Thread Cert.RefFfnPreIdeal.nD Cert.RefFfnPreIdeal.τ).loc Cert.RefFfnPreIdeal.main_arg2) = m' ((c.tc : Thread Cert.RefFfnPreIdeal.nD Cert.RefFfnPreIdeal.τ).loc Cert.RefFfnPreIdeal.main_arg2)
          ∧ r.2.mem ((c.tc : Thread Cert.RefFfnPreIdeal.nD Cert.RefFfnPreIdeal.τ).loc Cert.RefFfnPreIdeal.main_arg3) = m' ((c.tc : Thread Cert.RefFfnPreIdeal.nD Cert.RefFfnPreIdeal.τ).loc Cert.RefFfnPreIdeal.main_arg3)
          ∧ r.2.mem ((c.tc : Thread Cert.RefFfnPreIdeal.nD Cert.RefFfnPreIdeal.τ).loc Cert.RefFfnPreIdeal.main_arg4) = m' ((c.tc : Thread Cert.RefFfnPreIdeal.nD Cert.RefFfnPreIdeal.τ).loc Cert.RefFfnPreIdeal.main_arg4)
          ∧ r.2.mem ((c.tc : Thread Cert.RefFfnPreIdeal.nD Cert.RefFfnPreIdeal.τ).loc Cert.RefFfnPreIdeal.main_arg5) = m' ((c.tc : Thread Cert.RefFfnPreIdeal.nD Cert.RefFfnPreIdeal.τ).loc Cert.RefFfnPreIdeal.main_arg5)
          ∧ r.2.mem ((c.tc : Thread Cert.RefFfnPreIdeal.nD Cert.RefFfnPreIdeal.τ).loc Cert.RefFfnPreIdeal.main_arg6) = m' ((c.tc : Thread Cert.RefFfnPreIdeal.nD Cert.RefFfnPreIdeal.τ).loc Cert.RefFfnPreIdeal.main_arg6))

def preserves_FfnEnd_FfnEndIdeal : Prop :=
  IdealRules.shift_out.By16TwiceStatement Cert.FfnEndIdeal.S16x128

def algebraic_FfnEndIdeal_RefFfnEndIdeal [hFfnEndIdeal : Cert.FfnEndIdeal.Facts] [hRefFfnEndIdeal : Cert.RefFfnEndIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg)
    (m' : (ℓ : Loc Cert.RefFfnEndIdeal.nD Cert.RefFfnEndIdeal.τ Cert.RefFfnEndIdeal.sig) → Buf (Elt Ideal) ℓ) (g' : Dev Cert.RefFfnEndIdeal.nD → PrngReg), Pre_FfnEndIdeal m →
    (∀ c : Dev Cert.FfnEndIdeal.nD,
      m' ((c.tc : Thread Cert.RefFfnEndIdeal.nD Cert.RefFfnEndIdeal.τ).loc Cert.RefFfnEndIdeal.main_arg0) = m ((c.tc : Thread Cert.FfnEndIdeal.nD Cert.FfnEndIdeal.τ).loc Cert.FfnEndIdeal.main_arg0)
      ∧ m' ((c.tc : Thread Cert.RefFfnEndIdeal.nD Cert.RefFfnEndIdeal.τ).loc Cert.RefFfnEndIdeal.main_arg1) = m ((c.tc : Thread Cert.FfnEndIdeal.nD Cert.FfnEndIdeal.τ).loc Cert.FfnEndIdeal.main_arg1)
      ∧ m' ((c.tc : Thread Cert.RefFfnEndIdeal.nD Cert.RefFfnEndIdeal.τ).loc Cert.RefFfnEndIdeal.main_arg2) = m ((c.tc : Thread Cert.FfnEndIdeal.nD Cert.FfnEndIdeal.τ).loc Cert.FfnEndIdeal.main_arg2)
      ∧ m' ((c.tc : Thread Cert.RefFfnEndIdeal.nD Cert.RefFfnEndIdeal.τ).loc Cert.RefFfnEndIdeal.main_arg3) = m ((c.tc : Thread Cert.FfnEndIdeal.nD Cert.FfnEndIdeal.τ).loc Cert.FfnEndIdeal.main_arg3)
      ∧ m' ((c.tc : Thread Cert.RefFfnEndIdeal.nD Cert.RefFfnEndIdeal.τ).loc Cert.RefFfnEndIdeal.main_arg4) = m ((c.tc : Thread Cert.FfnEndIdeal.nD Cert.FfnEndIdeal.τ).loc Cert.FfnEndIdeal.main_arg4)
      ∧ m' ((c.tc : Thread Cert.RefFfnEndIdeal.nD Cert.RefFfnEndIdeal.τ).loc Cert.RefFfnEndIdeal.main_arg5) = m ((c.tc : Thread Cert.FfnEndIdeal.nD Cert.FfnEndIdeal.τ).loc Cert.FfnEndIdeal.main_arg5)) →
    ∃ (v0 : (c : Dev Cert.FfnEndIdeal.nD) → Buf (Elt Ideal) ((c.tc : Thread Cert.FfnEndIdeal.nD Cert.FfnEndIdeal.τ).loc Cert.FfnEndIdeal.main_v0)),
      θ_run (Cert.FfnEndIdeal.defs (F := Ideal)) (onTc (τ := Cert.FfnEndIdeal.τ) (Cert.FfnEndIdeal.main (F := Ideal))) ⟨m, fun _ => 0, g⟩ (fun r => ∀ c : Dev Cert.FfnEndIdeal.nD,
          r.2.mem ((c.tc : Thread Cert.FfnEndIdeal.nD Cert.FfnEndIdeal.τ).loc Cert.FfnEndIdeal.main_v0) = v0 c
          ∧ r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
          ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
          ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
          ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
          ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
          ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5))
      ∧ θ_run (Cert.RefFfnEndIdeal.defs (F := Ideal)) (onTc (τ := Cert.RefFfnEndIdeal.τ) (Cert.RefFfnEndIdeal.main (F := Ideal))) ⟨m', fun _ => 0, g'⟩ (fun r => ∀ c : Dev Cert.RefFfnEndIdeal.nD,
          r.2.mem ((c.tc : Thread Cert.RefFfnEndIdeal.nD Cert.RefFfnEndIdeal.τ).loc Cert.RefFfnEndIdeal.main_v43) = v0 c
          ∧ r.2.mem ((c.tc : Thread Cert.RefFfnEndIdeal.nD Cert.RefFfnEndIdeal.τ).loc Cert.RefFfnEndIdeal.main_arg0) = m' ((c.tc : Thread Cert.RefFfnEndIdeal.nD Cert.RefFfnEndIdeal.τ).loc Cert.RefFfnEndIdeal.main_arg0)
          ∧ r.2.mem ((c.tc : Thread Cert.RefFfnEndIdeal.nD Cert.RefFfnEndIdeal.τ).loc Cert.RefFfnEndIdeal.main_arg1) = m' ((c.tc : Thread Cert.RefFfnEndIdeal.nD Cert.RefFfnEndIdeal.τ).loc Cert.RefFfnEndIdeal.main_arg1)
          ∧ r.2.mem ((c.tc : Thread Cert.RefFfnEndIdeal.nD Cert.RefFfnEndIdeal.τ).loc Cert.RefFfnEndIdeal.main_arg2) = m' ((c.tc : Thread Cert.RefFfnEndIdeal.nD Cert.RefFfnEndIdeal.τ).loc Cert.RefFfnEndIdeal.main_arg2)
          ∧ r.2.mem ((c.tc : Thread Cert.RefFfnEndIdeal.nD Cert.RefFfnEndIdeal.τ).loc Cert.RefFfnEndIdeal.main_arg3) = m' ((c.tc : Thread Cert.RefFfnEndIdeal.nD Cert.RefFfnEndIdeal.τ).loc Cert.RefFfnEndIdeal.main_arg3)
          ∧ r.2.mem ((c.tc : Thread Cert.RefFfnEndIdeal.nD Cert.RefFfnEndIdeal.τ).loc Cert.RefFfnEndIdeal.main_arg4) = m' ((c.tc : Thread Cert.RefFfnEndIdeal.nD Cert.RefFfnEndIdeal.τ).loc Cert.RefFfnEndIdeal.main_arg4)
          ∧ r.2.mem ((c.tc : Thread Cert.RefFfnEndIdeal.nD Cert.RefFfnEndIdeal.τ).loc Cert.RefFfnEndIdeal.main_arg5) = m' ((c.tc : Thread Cert.RefFfnEndIdeal.nD Cert.RefFfnEndIdeal.τ).loc Cert.RefFfnEndIdeal.main_arg5))

def preserves_HeadDft_HeadDftIdeal : Prop :=
  True

def algebraic_HeadDftIdeal_RefHeadIdeal [hHeadDftIdeal : Cert.HeadDftIdeal.Facts] [hRefHeadIdeal : Cert.RefHeadIdeal.Facts] : Prop :=
  ∀ (m : (ℓ : Loc Cert.HeadDftIdeal.nD Cert.HeadDftIdeal.τ Cert.HeadDftIdeal.sig) → Buf (Elt Ideal) ℓ) (g : Dev Cert.HeadDftIdeal.nD → PrngReg)
    (m' : (ℓ : Loc Cert.RefHeadIdeal.nD Cert.RefHeadIdeal.τ Cert.RefHeadIdeal.sig) → Buf (Elt Ideal) ℓ) (g' : Dev Cert.RefHeadIdeal.nD → PrngReg), Pre_HeadDftIdeal m →
    (∀ c : Dev Cert.HeadDftIdeal.nD,
      m' ((c.tc : Thread Cert.RefHeadIdeal.nD Cert.RefHeadIdeal.τ).loc Cert.RefHeadIdeal.main_arg0) = m ((c.tc : Thread Cert.HeadDftIdeal.nD Cert.HeadDftIdeal.τ).loc Cert.HeadDftIdeal.main_arg0)
      ∧ m' ((c.tc : Thread Cert.RefHeadIdeal.nD Cert.RefHeadIdeal.τ).loc Cert.RefHeadIdeal.main_arg1) = m ((c.tc : Thread Cert.HeadDftIdeal.nD Cert.HeadDftIdeal.τ).loc Cert.HeadDftIdeal.main_arg1)) →
    ∃ (v0 : (c : Dev Cert.HeadDftIdeal.nD) → Buf (Elt Ideal) ((c.tc : Thread Cert.HeadDftIdeal.nD Cert.HeadDftIdeal.τ).loc Cert.HeadDftIdeal.main_v0)),
      θ_run (Cert.HeadDftIdeal.defs (F := Ideal)) (onTc (τ := Cert.HeadDftIdeal.τ) (Cert.HeadDftIdeal.main (F := Ideal))) ⟨m, fun _ => 0, g⟩ (fun r => ∀ c : Dev Cert.HeadDftIdeal.nD,
          r.2.mem ((c.tc : Thread Cert.HeadDftIdeal.nD Cert.HeadDftIdeal.τ).loc Cert.HeadDftIdeal.main_v0) = v0 c
          ∧ r.2.mem ((c.tc : Thread Cert.HeadDftIdeal.nD Cert.HeadDftIdeal.τ).loc Cert.HeadDftIdeal.main_arg0) = m ((c.tc : Thread Cert.HeadDftIdeal.nD Cert.HeadDftIdeal.τ).loc Cert.HeadDftIdeal.main_arg0)
          ∧ r.2.mem ((c.tc : Thread Cert.HeadDftIdeal.nD Cert.HeadDftIdeal.τ).loc Cert.HeadDftIdeal.main_arg1) = m ((c.tc : Thread Cert.HeadDftIdeal.nD Cert.HeadDftIdeal.τ).loc Cert.HeadDftIdeal.main_arg1))
      ∧ θ_run (Cert.RefHeadIdeal.defs (F := Ideal)) (onTc (τ := Cert.RefHeadIdeal.τ) (Cert.RefHeadIdeal.main (F := Ideal))) ⟨m', fun _ => 0, g'⟩ (fun r => ∀ c : Dev Cert.RefHeadIdeal.nD,
          r.2.mem ((c.tc : Thread Cert.RefHeadIdeal.nD Cert.RefHeadIdeal.τ).loc Cert.RefHeadIdeal.main_v3) = v0 c
          ∧ r.2.mem ((c.tc : Thread Cert.RefHeadIdeal.nD Cert.RefHeadIdeal.τ).loc Cert.RefHeadIdeal.main_arg0) = m' ((c.tc : Thread Cert.RefHeadIdeal.nD Cert.RefHeadIdeal.τ).loc Cert.RefHeadIdeal.main_arg0)
          ∧ r.2.mem ((c.tc : Thread Cert.RefHeadIdeal.nD Cert.RefHeadIdeal.τ).loc Cert.RefHeadIdeal.main_arg1) = m' ((c.tc : Thread Cert.RefHeadIdeal.nD Cert.RefHeadIdeal.τ).loc Cert.RefHeadIdeal.main_arg1))

def Claim : Prop :=
  ∃ (hMixOut : Cert.MixOut.Facts) (hMixOutIdeal : Cert.MixOutIdeal.Facts) (hRefOutIdeal : Cert.RefOutIdeal.Facts) (hFfn : Cert.Ffn.Facts) (hFfnIdeal : Cert.FfnIdeal.Facts) (hRefFfnIdeal : Cert.RefFfnIdeal.Facts) (hFfnPre : Cert.FfnPre.Facts) (hFfnPreIdeal : Cert.FfnPreIdeal.Facts) (hRefFfnPreIdeal : Cert.RefFfnPreIdeal.Facts) (hFfnEnd : Cert.FfnEnd.Facts) (hFfnEndIdeal : Cert.FfnEndIdeal.Facts) (hRefFfnEndIdeal : Cert.RefFfnEndIdeal.Facts) (hHeadDft : Cert.HeadDft.Facts) (hHeadDftIdeal : Cert.HeadDftIdeal.Facts) (hRefHeadIdeal : Cert.RefHeadIdeal.Facts),
    quiescent_MixOut (hMixOut := hMixOut)
    ∧ quiescent_MixOutIdeal (hMixOutIdeal := hMixOutIdeal)
    ∧ quiescent_RefOutIdeal (hRefOutIdeal := hRefOutIdeal)
    ∧ quiescent_Ffn (hFfn := hFfn)
    ∧ quiescent_FfnIdeal (hFfnIdeal := hFfnIdeal)
    ∧ quiescent_RefFfnIdeal (hRefFfnIdeal := hRefFfnIdeal)
    ∧ quiescent_FfnPre (hFfnPre := hFfnPre)
    ∧ quiescent_FfnPreIdeal (hFfnPreIdeal := hFfnPreIdeal)
    ∧ quiescent_RefFfnPreIdeal (hRefFfnPreIdeal := hRefFfnPreIdeal)
    ∧ quiescent_FfnEnd (hFfnEnd := hFfnEnd)
    ∧ quiescent_FfnEndIdeal (hFfnEndIdeal := hFfnEndIdeal)
    ∧ quiescent_RefFfnEndIdeal (hRefFfnEndIdeal := hRefFfnEndIdeal)
    ∧ quiescent_HeadDft (hHeadDft := hHeadDft)
    ∧ quiescent_HeadDftIdeal (hHeadDftIdeal := hHeadDftIdeal)
    ∧ quiescent_RefHeadIdeal (hRefHeadIdeal := hRefHeadIdeal)
    ∧ preserves_MixOut_MixOutIdeal
    ∧ algebraic_MixOutIdeal_RefOutIdeal (hMixOutIdeal := hMixOutIdeal) (hRefOutIdeal := hRefOutIdeal)
    ∧ preserves_Ffn_FfnIdeal
    ∧ algebraic_FfnIdeal_RefFfnIdeal (hFfnIdeal := hFfnIdeal) (hRefFfnIdeal := hRefFfnIdeal)
    ∧ preserves_FfnPre_FfnPreIdeal
    ∧ algebraic_FfnPreIdeal_RefFfnPreIdeal (hFfnPreIdeal := hFfnPreIdeal) (hRefFfnPreIdeal := hRefFfnPreIdeal)
    ∧ preserves_FfnEnd_FfnEndIdeal
    ∧ algebraic_FfnEndIdeal_RefFfnEndIdeal (hFfnEndIdeal := hFfnEndIdeal) (hRefFfnEndIdeal := hRefFfnEndIdeal)
    ∧ preserves_HeadDft_HeadDftIdeal
    ∧ algebraic_HeadDftIdeal_RefHeadIdeal (hHeadDftIdeal := hHeadDftIdeal) (hRefHeadIdeal := hRefHeadIdeal)
-- ==== MixOut.lean ====
abbrev S16x2048x1024 : Shape := ⟨3, ![16, 2048, 1024]⟩
abbrev S2x1024x2048 : Shape := ⟨3, ![2, 1024, 2048]⟩
abbrev S16x2x2048x512 : Shape := ⟨4, ![16, 2, 2048, 512]⟩
abbrev S16x2048x512 : Shape := ⟨3, ![16, 2048, 512]⟩
abbrev S4x1024x1024 : Shape := ⟨3, ![4, 1024, 1024]⟩
abbrev S4x1x1024 : Shape := ⟨3, ![4, 1, 1024]⟩
abbrev S1x2x2048x512 : Shape := ⟨4, ![1, 2, 2048, 512]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1024x1024 : Shape := ⟨2, ![1024, 1024]⟩
abbrev S4x1024x128 : Shape := ⟨3, ![4, 1024, 128]⟩
abbrev S1x1024 : Shape := ⟨2, ![1, 1024]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S16x128 : Shape := ⟨2, ![16, 128]⟩
abbrev S1x512x2048 : Shape := ⟨3, ![1, 512, 2048]⟩
abbrev S512x2048 : Shape := ⟨2, ![512, 2048]⟩
abbrev S1x1x2048x512 : Shape := ⟨4, ![1, 1, 2048, 512]⟩
abbrev S2048x512 : Shape := ⟨2, ![2048, 512]⟩
abbrev S512x512 : Shape := ⟨2, ![512, 512]⟩
abbrev S512x128 : Shape := ⟨2, ![512, 128]⟩
abbrev S1x512x128 : Shape := ⟨3, ![1, 512, 128]⟩
abbrev S1x1024x128 : Shape := ⟨3, ![1, 1024, 128]⟩
abbrev S1024x128 : Shape := ⟨2, ![1024, 128]⟩
abbrev S1024x512 : Shape := ⟨2, ![1024, 512]⟩

abbrev nBuf : Space → Nat
  | .hbm => 7
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S2x1024x2048, .bf16⟩
  | .hbm, ⟨2, _⟩ => ⟨S16x2x2048x512, .bf16⟩
  | .hbm, ⟨3, _⟩ => ⟨S16x2048x512, .bf16⟩
  | .hbm, ⟨4, _⟩ => ⟨S4x1024x1024, .f32⟩
  | .hbm, ⟨5, _⟩ => ⟨S4x1x1024, .f32⟩
  | .hbm, ⟨6, _⟩ => ⟨S16x2048x1024, .f32⟩
  | .local _ .vmem, ⟨0, _⟩ => ⟨S1x2x2048x512, .bf16⟩
  | .local _ .vmem, ⟨1, _⟩ => ⟨S1x2x2048x512, .bf16⟩
  | .local _ .vmem, ⟨2, _⟩ => ⟨S2x1024x2048, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S4x1024x128, .f32⟩
  | .local _ .vmem, ⟨13, _⟩ => ⟨S1024x1024, .bf16⟩
  | .local _ .vmem, ⟨14, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c2_i32 : BitVec 32 := 2#32
  let c0_i32_86 : BitVec 32 := 0#32
  let v171 : BitVec 1 := Scalar.cmpi .eq c2_i32 c0_i32_86
  let c1_i32 : BitVec 32 := 1#32
  let v172 : BitVec 32 := Scalar.select v171 c1_i32 c2_i32
  let v173 : BitVec 32 := Scalar.remsi arg0 v172
  let c0_i32_88 : BitVec 32 := 0#32
  let v175 : BitVec 1 := Scalar.cmpi .slt v173 c0_i32_88
  let c0_i32_89 : BitVec 32 := 0#32
  let v176 : BitVec 1 := Scalar.cmpi .slt v172 c0_i32_89
  let v177 : BitVec 1 := Scalar.xori v175 v176
  let c0_i32_87 : BitVec 32 := 0#32
  let v174 : BitVec 1 := Scalar.cmpi .ne v173 c0_i32_87
  let v178 : BitVec 1 := Scalar.andi v177 v174
  let v179 : BitVec 32 := Scalar.addi v173 v172
  let v180 : BitVec 32 := Scalar.select v178 v179 v173
  let c512_i32 : BitVec 32 := 512#32
  let v181 : BitVec 32 := Scalar.muli v180 c512_i32
  v181
def k0_off1 (i : grid0.Coords) : Fin 3 → Nat :=
  let c0_90 : Index := 0#32
  let arg0 : BitVec 32 := BitVec.ofNat 32 (i 0).val
  let c2_i32 : BitVec 32 := 2#32
  let c0_i32_86 : BitVec 32 := 0#32
  let v171 : BitVec 1 := Scalar.cmpi .eq c2_i32 c0_i32_86
  let c1_i32 : BitVec 32 := 1#32
  let v172 : BitVec 32 := Scalar.select v171 c1_i32 c2_i32
  let v173 : BitVec 32 := Scalar.remsi arg0 v172
  let c0_i32_88 : BitVec 32 := 0#32
  let v175 : BitVec 1 := Scalar.cmpi .slt v173 c0_i32_88
  let c0_i32_89 : BitVec 32 := 0#32
  let v176 : BitVec 1 := Scalar.cmpi .slt v172 c0_i32_89
  let v177 : BitVec 1 := Scalar.xori v175 v176
  let c0_i32_87 : BitVec 32 := 0#32
  let v174 : BitVec 1 := Scalar.cmpi .ne v173 c0_i32_87
  let v178 : BitVec 1 := Scalar.andi v177 v174
  let v179 : BitVec 32 := Scalar.addi v173 v172
  let v180 : BitVec 32 := Scalar.select v178 v179 v173
  let c512_i32 : BitVec 32 := 512#32
  let v181 : BitVec 32 := Scalar.muli v180 c512_i32
  let v182 : BitVec 32 := v181
  let v183 : Index := Scalar.indexCast v182
  let c0_91 : Index := 0#32
  ![0, v183.toNat, 0]
def k0_off2 (i : grid0.Coords) : Fin 3 → Nat :=
  let c1_106 : Index := 1#32
  let arg0 : BitVec 32 := BitVec.ofNat 32 (i 0).val
  let c2_i32 : BitVec 32 := 2#32
  let c0_i32_86 : BitVec 32 := 0#32
  let v171 : BitVec 1 := Scalar.cmpi .eq c2_i32 c0_i32_86
  let c1_i32 : BitVec 32 := 1#32
  let v172 : BitVec 32 := Scalar.select v171 c1_i32 c2_i32
  let v173 : BitVec 32 := Scalar.remsi arg0 v172
  let c0_i32_88 : BitVec 32 := 0#32
  let v175 : BitVec 1 := Scalar.cmpi .slt v173 c0_i32_88
  let c0_i32_89 : BitVec 32 := 0#32
  let v176 : BitVec 1 := Scalar.cmpi .slt v172 c0_i32_89
  let v177 : BitVec 1 := Scalar.xori v175 v176
  let c0_i32_87 : BitVec 32 := 0#32
  let v174 : BitVec 1 := Scalar.cmpi .ne v173 c0_i32_87
  let v178 : BitVec 1 := Scalar.andi v177 v174
  let v179 : BitVec 32 := Scalar.addi v173 v172
  let v180 : BitVec 32 := Scalar.select v178 v179 v173
  let c512_i32 : BitVec 32 := 512#32
  let v181 : BitVec 32 := Scalar.muli v180 c512_i32
  let v182 : BitVec 32 := v181
  let v205 : Index := Scalar.indexCast v182
  let c0_107 : Index := 0#32
  ![1, v205.toNat, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  ![v17.toNat, c0_i32_10.toNat, c0_i32_11.toNat, c0_i32_12.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c31_i32_10 : BitVec 32 := 31#32
  let v28 : BitVec 32 := Scalar.minsi arg0 c31_i32_10
  let c2_i32_11 : BitVec 32 := 2#32
  let v29 : BitVec 32 := Scalar.divsi v28 c2_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, v55.toNat, c0_i32_24.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x2x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutIdeal.lean ====
variable {F : FTy → Type} [FloatOps F]
-- ==== RefOutIdeal.lean ====
abbrev S16x2048x1024 : Shape := ⟨3, ![16, 2048, 1024]⟩
abbrev S2x1024x2048 : Shape := ⟨3, ![2, 1024, 2048]⟩
abbrev S16x2x2048x512 : Shape := ⟨4, ![16, 2, 2048, 512]⟩
abbrev S16x2048x512 : Shape := ⟨3, ![16, 2048, 512]⟩
abbrev S4x1024x1024 : Shape := ⟨3, ![4, 1024, 1024]⟩
abbrev S4x1x1024 : Shape := ⟨3, ![4, 1, 1024]⟩
abbrev S2x16x512x1024 : Shape := ⟨4, ![2, 16, 512, 1024]⟩
abbrev S16x1024x2x512 : Shape := ⟨4, ![16, 1024, 2, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x2048, .bf16⟩
  | .hbm, ⟨2, _⟩ => ⟨S16x2x2048x512, .bf16⟩
  | .hbm, ⟨3, _⟩ => ⟨S16x2048x512, .bf16⟩
  | .hbm, ⟨4, _⟩ => ⟨S4x1024x1024, .f32⟩
  | .hbm, ⟨5, _⟩ => ⟨S4x1x1024, .f32⟩
  | .hbm, ⟨6, _⟩ => ⟨S2x1024x2048, .f32⟩
  | .hbm, ⟨7, _⟩ => ⟨S16x2x2048x512, .f32⟩
  | .hbm, ⟨8, _⟩ => ⟨S2x16x512x1024, .f32⟩
  | .hbm, ⟨9, _⟩ => ⟨S16x1024x2x512, .f32⟩
  | .hbm, ⟨10, _⟩ => ⟨S16x2048x512, .f32⟩
  | .hbm, ⟨11, _⟩ => ⟨S16x2048x512, .f32⟩
  | .hbm, ⟨12, _⟩ => ⟨S16x2048x1024, .f32⟩
  | .hbm, ⟨13, _⟩ => ⟨S1x1024x1024, .f32⟩
  | .hbm, ⟨14, _⟩ => ⟨S1024x1024, .f32⟩
  | .hbm, ⟨15, _⟩ => ⟨S16x2048x1024, .f32⟩
  | .hbm, ⟨16, _⟩ => ⟨S1x1x1024, .f32⟩
  | .hbm, ⟨17, _⟩ => ⟨S1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Ffn.lean ====
abbrev S32768x1024 : Shape := ⟨2, ![32768, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S512x1024 : Shape := ⟨2, ![512, 1024]⟩
abbrev S1x256x2816 : Shape := ⟨3, ![1, 256, 2816]⟩
abbrev S1x704x1024 : Shape := ⟨3, ![1, 704, 1024]⟩
abbrev S1x1x1024 : Shape := ⟨3, ![1, 1, 1024]⟩
abbrev S1024x2816 : Shape := ⟨2, ![1024, 2816]⟩
abbrev S2816x1024 : Shape := ⟨2, ![2816, 1024]⟩
abbrev S512x2816 : Shape := ⟨2, ![512, 2816]⟩
abbrev S256x2816 : Shape := ⟨2, ![256, 2816]⟩
abbrev S704x1024 : Shape := ⟨2, ![704, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S16x128 : Shape := ⟨2, ![16, 128]⟩
abbrev S1024x256 : Shape := ⟨2, ![1024, 256]⟩
abbrev S512x256 : Shape := ⟨2, ![512, 256]⟩

abbrev nBuf : Space → Nat
  | .hbm => 9
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1x1024, .f32⟩
  | .hbm, ⟨7, _⟩ => ⟨S32768x1024, .f32⟩
  | .hbm, ⟨8, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x256x2816, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x704x1024, .f32⟩
  | .local _ .vmem, ⟨9, _⟩ => ⟨S1x704x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x2816, .bf16⟩
  | .local _ .vmem, ⟨20, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![69], ![false]⟩

def k0_cond1 (i : grid0.Coords) : BitVec 1 :=
  let arg0 : BitVec 32 := BitVec.ofNat 32 (i 0).val
  let c4_i32_0 : BitVec 32 := 4#32
  let v1 : BitVec 1 := Scalar.cmpi .slt arg0 c4_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c256_i32 : BitVec 32 := 256#32
  let v15 : BitVec 32 := Scalar.muli arg0 c256_i32
  v15
def k0_off1 (i : grid0.Coords) : Fin 2 → Nat :=
  let arg0 : BitVec 32 := BitVec.ofNat 32 (i 0).val
  let c256_i32 : BitVec 32 := 256#32
  let v15 : BitVec 32 := Scalar.muli arg0 c256_i32
  let v16 : BitVec 32 := v15
  let v20 : Index := Scalar.indexCast v16
  let c0_9 : Index := 0#32
  ![v20.toNat, 0]
def k0_mult2 (i : grid0.Coords) : BitVec 32 :=
  let arg0 : BitVec 32 := BitVec.ofNat 32 (i 0).val
  let c256_i32_10 : BitVec 32 := 256#32
  let v24 : BitVec 32 := Scalar.muli arg0 c256_i32_10
  v24
def k0_mult3 (i : grid0.Coords) : BitVec 32 :=
  let arg0 : BitVec 32 := BitVec.ofNat 32 (i 0).val
  let c704_i32 : BitVec 32 := 704#32
  let v33 : BitVec 32 := Scalar.muli arg0 c704_i32
  v33
def k0_off2 (i : grid0.Coords) : Fin 2 → Nat :=
  let arg0 : BitVec 32 := BitVec.ofNat 32 (i 0).val
  let c704_i32 : BitVec 32 := 704#32
  let v33 : BitVec 32 := Scalar.muli arg0 c704_i32
  let v34 : BitVec 32 := v33
  let v38 : Index := Scalar.indexCast v34
  let c0_18 : Index := 0#32
  ![v38.toNat, 0]
def k0_cond3 (i : grid0.Coords) : BitVec 1 :=
  let arg0 : BitVec 32 := BitVec.ofNat 32 (i 0).val
  let c4_i32 : BitVec 32 := 4#32
  let v0 : BitVec 32 := Scalar.subi arg0 c4_i32
  let c0_i32_3 : BitVec 32 := 0#32
  let v7 : BitVec 1 := Scalar.cmpi .sge v0 c0_i32_3
  let c64_i32 : BitVec 32 := 64#32
  let v8 : BitVec 1 := Scalar.cmpi .slt v0 c64_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond4 (i : grid0.Coords) : BitVec 1 :=
  let arg0 : BitVec 32 := BitVec.ofNat 32 (i 0).val
  let c4_i32 : BitVec 32 := 4#32
  let v0 : BitVec 32 := Scalar.subi arg0 c4_i32
  let c64_i32_5 : BitVec 32 := 64#32
  let v12 : BitVec 1 := Scalar.cmpi .eq v0 c64_i32_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.addi v0 c0_i32
  let c0_i32_0 : BitVec 32 := 0#32
  let c63_i32 : BitVec 32 := 63#32
  let v2 : BitVec 32 := Scalar.maxsi c0_i32_0 v1
  let v3 : BitVec 32 := Scalar.minsi c63_i32 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnIdeal.lean ====
variable {F : FTy → Type} [FloatOps F]
-- ==== RefFfnIdeal.lean ====
abbrev S32768x1024 : Shape := ⟨2, ![32768, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩
abbrev S_ : Shape := ⟨0, ![]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1x1024, .f32⟩
  | .hbm, ⟨7, _⟩ => ⟨S32768x1024, .f32⟩
  | .hbm, ⟨8, _⟩ => ⟨S1x1024x2816, .f32⟩
  | .hbm, ⟨9, _⟩ => ⟨S1024x2816, .f32⟩
  | .hbm, ⟨10, _⟩ => ⟨S1x1024x2816, .f32⟩
  | .hbm, ⟨11, _⟩ => ⟨S1024x2816, .f32⟩
  | .hbm, ⟨12, _⟩ => ⟨S1x2816x1024, .f32⟩
  | .hbm, ⟨13, _⟩ => ⟨S2816x1024, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S_, .f32⟩
  | .hbm, ⟨19, _⟩ => ⟨S32768x2816, .f32⟩
  | .hbm, ⟨20, _⟩ => ⟨S32768x2816, .f32⟩
  | .hbm, ⟨21, _⟩ => ⟨S_, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x1024, .f32⟩
  | .hbm, ⟨27, _⟩ => ⟨S1x1x1024, .f32⟩
  | .hbm, ⟨28, _⟩ => ⟨S1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S1x1x1024, .f32⟩
  | .hbm, ⟨50, _⟩ => ⟨S1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S32768x1024, .f32⟩
  | .hbm, ⟨66, _⟩ => ⟨S32768x1024, .f32⟩
  | .hbm, ⟨67, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== FfnPre.lean ====
abbrev S32768x1024 : Shape := ⟨2, ![32768, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S512x1024 : Shape := ⟨2, ![512, 1024]⟩
abbrev S1x1x1024 : Shape := ⟨3, ![1, 1, 1024]⟩
abbrev S1x256x2816 : Shape := ⟨3, ![1, 256, 2816]⟩
abbrev S1x704x1024 : Shape := ⟨3, ![1, 704, 1024]⟩
abbrev S1024x2816 : Shape := ⟨2, ![1024, 2816]⟩
abbrev S2816x1024 : Shape := ⟨2, ![2816, 1024]⟩
abbrev S512x2816 : Shape := ⟨2, ![512, 2816]⟩
abbrev S256x2816 : Shape := ⟨2, ![256, 2816]⟩
abbrev S704x1024 : Shape := ⟨2, ![704, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S16x128 : Shape := ⟨2, ![16, 128]⟩
abbrev S1024x256 : Shape := ⟨2, ![1024, 256]⟩
abbrev S512x256 : Shape := ⟨2, ![512, 256]⟩

abbrev nBuf : Space → Nat
  | .hbm => 9
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1x1024, .f32⟩
  | .hbm, ⟨7, _⟩ => ⟨S32768x1024, .f32⟩
  | .hbm, ⟨8, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x256x2816, .f32⟩
  | .local _ .vmem, ⟨9, _⟩ => ⟨S1x704x1024, .f32⟩
  | .local _ .vmem, ⟨10, _⟩ => ⟨S1x704x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S512x2816, .bf16⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![69], ![false]⟩

def k0_cond1 (i : grid0.Coords) : BitVec 1 :=
  let arg0 : BitVec 32 := BitVec.ofNat 32 (i 0).val
  let c4_i32_0 : BitVec 32 := 4#32
  let v1 : BitVec 1 := Scalar.cmpi .slt arg0 c4_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c256_i32 : BitVec 32 := 256#32
  let v44 : BitVec 32 := Scalar.muli arg0 c256_i32
  v44
def k0_off1 (i : grid0.Coords) : Fin 2 → Nat :=
  let arg0 : BitVec 32 := BitVec.ofNat 32 (i 0).val
  let c256_i32 : BitVec 32 := 256#32
  let v44 : BitVec 32 := Scalar.muli arg0 c256_i32
  let v45 : BitVec 32 := v44
  let v49 : Index := Scalar.indexCast v45
  let c0_24 : Index := 0#32
  ![v49.toNat, 0]
def k0_mult2 (i : grid0.Coords) : BitVec 32 :=
  let arg0 : BitVec 32 := BitVec.ofNat 32 (i 0).val
  let c256_i32_25 : BitVec 32 := 256#32
  let v53 : BitVec 32 := Scalar.muli arg0 c256_i32_25
  v53
def k0_mult3 (i : grid0.Coords) : BitVec 32 :=
  let arg0 : BitVec 32 := BitVec.ofNat 32 (i 0).val
  let c704_i32 : BitVec 32 := 704#32
  let v62 : BitVec 32 := Scalar.muli arg0 c704_i32
  v62
def k0_off2 (i : grid0.Coords) : Fin 2 → Nat :=
  let arg0 : BitVec 32 := BitVec.ofNat 32 (i 0).val
  let c704_i32 : BitVec 32 := 704#32
  let v62 : BitVec 32 := Scalar.muli arg0 c704_i32
  let v63 : BitVec 32 := v62
  let v67 : Index := Scalar.indexCast v63
  let c0_33 : Index := 0#32
  ![v67.toNat, 0]
def k0_cond3 (i : grid0.Coords) : BitVec 1 :=
  let arg0 : BitVec 32 := BitVec.ofNat 32 (i 0).val
  let c4_i32 : BitVec 32 := 4#32
  let v0 : BitVec 32 := Scalar.subi arg0 c4_i32
  let c0_i32_3 : BitVec 32 := 0#32
  let v7 : BitVec 1 := Scalar.cmpi .sge v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let v22 : BitVec 32 := Scalar.extui v21
  let c0_i32_9 : BitVec 32 := 0#32
  let v23 : BitVec 1 := Scalar.cmpi .ne v22 c0_i32_9
  v23

def k0_cond4 (i : grid0.Coords) : BitVec 1 :=
  let arg0 : BitVec 32 := BitVec.ofNat 32 (i 0).val
  let c4_i32 : BitVec 32 := 4#32
  let v0 : BitVec 32 := Scalar.subi arg0 c4_i32
  let c0_i32_10 : BitVec 32 := 0#32
  let v24 : BitVec 1 := Scalar.cmpi .sge v0 c0_i32_10
  let c64_i32_11 : BitVec 32 := 64#32
  let v25 : BitVec 1 := Scalar.cmpi .slt v0 c64_i32_11
  let v26 : BitVec 1 := Scalar.andi v24 v25
  let c2_i32_12 : BitVec 32 := 2#32
  let c0_i32_13 : BitVec 32 := 0#32
  let v27 : BitVec 1 := Scalar.cmpi .eq c2_i32_12 c0_i32_13
  let c1_i32_14 : BitVec 32 := 1#32
  let v28 : BitVec 32 := Scalar.select v27 c1_i32_14 c2_i32_12
  let v29 : BitVec 32 := Scalar.remsi v0 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_18 : BitVec 32 := 1#32
  let v37 : BitVec 1 := Scalar.cmpi .eq v36 c1_i32_18
  let v38 : BitVec 1 := Scalar.andi v26 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg0 : BitVec 32 := BitVec.ofNat 32 (i 0).val
  let c4_i32 : BitVec 32 := 4#32
  let v0 : BitVec 32 := Scalar.subi arg0 c4_i32
  let c64_i32_20 : BitVec 32 := 64#32
  let v41 : BitVec 1 := Scalar.cmpi .eq v0 c64_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnPreIdeal.lean ====
variable {F : FTy → Type} [FloatOps F]
-- ==== RefFfnPreIdeal.lean ====
abbrev S32768x1024 : Shape := ⟨2, ![32768, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1x1024, .f32⟩
  | .hbm, ⟨7, _⟩ => ⟨S1x1x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1x1024x2816, .f32⟩
  | .hbm, ⟨26, _⟩ => ⟨S1024x2816, .f32⟩
  | .hbm, ⟨27, _⟩ => ⟨S1x1024x2816, .f32⟩
  | .hbm, ⟨28, _⟩ => ⟨S1024x2816, .f32⟩
  | .hbm, ⟨29, _⟩ => ⟨S1x2816x1024, .f32⟩
  | .hbm, ⟨30, _⟩ => ⟨S2816x1024, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x1024, .f32⟩
  | .hbm, ⟨44, _⟩ => ⟨S1x1x1024, .f32⟩
  | .hbm, ⟨45, _⟩ => ⟨S1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S1x1x1024, .f32⟩
  | .hbm, ⟨67, _⟩ => ⟨S1024, .f32⟩
  | .hbm, ⟨68, _⟩ => ⟨S32768x1024, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S1x1024, .f32⟩
  | .hbm, ⟨82, _⟩ => ⟨S32768x1024, .f32⟩
  | .hbm, ⟨83, _⟩ => ⟨S32768x1024, .f32⟩
  | .hbm, ⟨84, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== FfnEnd.lean ====
abbrev S32768x1024 : Shape := ⟨2, ![32768, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S512x1024 : Shape := ⟨2, ![512, 1024]⟩
abbrev S1x1x1024 : Shape := ⟨3, ![1, 1, 1024]⟩
abbrev S1x256x2816 : Shape := ⟨3, ![1, 256, 2816]⟩
abbrev S1x704x1024 : Shape := ⟨3, ![1, 704, 1024]⟩
abbrev S1024x2816 : Shape := ⟨2, ![1024, 2816]⟩
abbrev S2816x1024 : Shape := ⟨2, ![2816, 1024]⟩
abbrev S512x2816 : Shape := ⟨2, ![512, 2816]⟩
abbrev S256x2816 : Shape := ⟨2, ![256, 2816]⟩
abbrev S704x1024 : Shape := ⟨2, ![704, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S16x128 : Shape := ⟨2, ![16, 128]⟩
abbrev S1024x256 : Shape := ⟨2, ![1024, 256]⟩
abbrev S512x256 : Shape := ⟨2, ![512, 256]⟩

abbrev nBuf : Space → Nat
  | .hbm => 7
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x256x2816, .f32⟩
  | .local _ .vmem, ⟨9, _⟩ => ⟨S1x704x1024, .f32⟩
  | .local _ .vmem, ⟨10, _⟩ => ⟨S1x704x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x2816, .bf16⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![69], ![false]⟩

def k0_cond1 (i : grid0.Coords) : BitVec 1 :=
  let arg0 : BitVec 32 := BitVec.ofNat 32 (i 0).val
  let c4_i32_0 : BitVec 32 := 4#32
  let v1 : BitVec 1 := Scalar.cmpi .slt arg0 c4_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c256_i32 : BitVec 32 := 256#32
  let v44 : BitVec 32 := Scalar.muli arg0 c256_i32
  v44
def k0_off1 (i : grid0.Coords) : Fin 2 → Nat :=
  let arg0 : BitVec 32 := BitVec.ofNat 32 (i 0).val
  let c256_i32 : BitVec 32 := 256#32
  let v44 : BitVec 32 := Scalar.muli arg0 c256_i32
  let v45 : BitVec 32 := v44
  let v49 : Index := Scalar.indexCast v45
  let c0_24 : Index := 0#32
  ![v49.toNat, 0]
def k0_mult2 (i : grid0.Coords) : BitVec 32 :=
  let arg0 : BitVec 32 := BitVec.ofNat 32 (i 0).val
  let c256_i32_25 : BitVec 32 := 256#32
  let v53 : BitVec 32 := Scalar.muli arg0 c256_i32_25
  v53
def k0_mult3 (i : grid0.Coords) : BitVec 32 :=
  let arg0 : BitVec 32 := BitVec.ofNat 32 (i 0).val
  let c704_i32 : BitVec 32 := 704#32
  let v62 : BitVec 32 := Scalar.muli arg0 c704_i32
  v62
def k0_off2 (i : grid0.Coords) : Fin 2 → Nat :=
  let arg0 : BitVec 32 := BitVec.ofNat 32 (i 0).val
  let c704_i32 : BitVec 32 := 704#32
  let v62 : BitVec 32 := Scalar.muli arg0 c704_i32
  let v63 : BitVec 32 := v62
  let v67 : Index := Scalar.indexCast v63
  let c0_33 : Index := 0#32
  ![v67.toNat, 0]
def k0_cond3 (i : grid0.Coords) : BitVec 1 :=
  let arg0 : BitVec 32 := BitVec.ofNat 32 (i 0).val
  let c4_i32 : BitVec 32 := 4#32
  let v0 : BitVec 32 := Scalar.subi arg0 c4_i32
  let c0_i32_3 : BitVec 32 := 0#32
  let v7 : BitVec 1 := Scalar.cmpi .sge v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let v22 : BitVec 32 := Scalar.extui v21
  let c0_i32_9 : BitVec 32 := 0#32
  let v23 : BitVec 1 := Scalar.cmpi .ne v22 c0_i32_9
  v23

def k0_cond4 (i : grid0.Coords) : BitVec 1 :=
  let arg0 : BitVec 32 := BitVec.ofNat 32 (i 0).val
  let c4_i32 : BitVec 32 := 4#32
  let v0 : BitVec 32 := Scalar.subi arg0 c4_i32
  let c0_i32_10 : BitVec 32 := 0#32
  let v24 : BitVec 1 := Scalar.cmpi .sge v0 c0_i32_10
  let c64_i32_11 : BitVec 32 := 64#32
  let v25 : BitVec 1 := Scalar.cmpi .slt v0 c64_i32_11
  let v26 : BitVec 1 := Scalar.andi v24 v25
  let c2_i32_12 : BitVec 32 := 2#32
  let c0_i32_13 : BitVec 32 := 0#32
  let v27 : BitVec 1 := Scalar.cmpi .eq c2_i32_12 c0_i32_13
  let c1_i32_14 : BitVec 32 := 1#32
  let v28 : BitVec 32 := Scalar.select v27 c1_i32_14 c2_i32_12
  let v29 : BitVec 32 := Scalar.remsi v0 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_18 : BitVec 32 := 1#32
  let v37 : BitVec 1 := Scalar.cmpi .eq v36 c1_i32_18
  let v38 : BitVec 1 := Scalar.andi v26 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg0 : BitVec 32 := BitVec.ofNat 32 (i 0).val
  let c4_i32 : BitVec 32 := 4#32
  let v0 : BitVec 32 := Scalar.subi arg0 c4_i32
  let c64_i32_20 : BitVec 32 := 64#32
  let v41 : BitVec 1 := Scalar.cmpi .eq v0 c64_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.addi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnEndIdeal.lean ====
variable {F : FTy → Type} [FloatOps F]
-- ==== RefFfnEndIdeal.lean ====
abbrev S32768x1024 : Shape := ⟨2, ![32768, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S1x1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S1x1x1024, .f32⟩
  | .hbm, ⟨44, _⟩ => ⟨S1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== HeadDft.lean ====
abbrev S2x128x128 : Shape := ⟨3, ![2, 128, 128]⟩
abbrev S4x4x128x128 : Shape := ⟨4, ![4, 4, 128, 128]⟩
abbrev S4x4x128x256 : Shape := ⟨4, ![4, 4, 128, 256]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 3
  | .vmem => 3
  | .smem => 0
  | _ => 0

abbrev bufTy : (tb : Table) → Fin (tcTables nBuf tb) → BufTy
  | .hbm, ⟨0, _⟩ => ⟨S2x128x128, .f32⟩
  | .hbm, ⟨1, _⟩ => ⟨S4x4x128x128, .f32⟩
  | .hbm, ⟨2, _⟩ => ⟨S4x4x128x256, .bf16⟩
  | .local _ .vmem, ⟨0, _⟩ => ⟨S2x128x128, .f32⟩
  | .local _ .vmem, ⟨1, _⟩ => ⟨S4x4x128x128, .f32⟩
  | .local _ .vmem, ⟨2, _⟩ => ⟨S4x4x128x256, .bf16⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefHeadIdeal.lean ====
abbrev S2x128x128 : Shape := ⟨3, ![2, 128, 128]⟩
abbrev S4x4x128x128 : Shape := ⟨4, ![4, 4, 128, 128]⟩
abbrev S4x4x128x2x128 : Shape := ⟨5, ![4, 4, 128, 2, 128]⟩
abbrev S4x4x128x256 : Shape := ⟨4, ![4, 4, 128, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x128x128, .f32⟩
  | .hbm, ⟨1, _⟩ => ⟨S4x4x128x128, .f32⟩
  | .hbm, ⟨2, _⟩ => ⟨S4x4x128x2x128, .f32⟩
  | .hbm, ⟨3, _⟩ => ⟨S4x4x128x2x128, .f32⟩
  | .hbm, ⟨4, _⟩ => ⟨S4x4x128x256, .f32⟩
  | .hbm, ⟨5, _⟩ => ⟨S4x4x128x256, .bf16⟩
  | _, _ => ⟨S2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.OutPure.lean ====
module

public import proofs.«01_k».proof.Proof.Gen.MixOutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

/-- The Fourier half of one tile of the mixed sequence: row `r` is channel `r % 2` of the transform's row `r / 2`. -/
def yfS (d0 d1 : Vec Ideal S1x512x2048 .bf16) (a0 a1 : Vec Ideal S1x1x2048x512 .bf16) (r : Fin 1024) (k : Fin 512) : EReal :=
  if r.val % 2 = 0 then ∑ n : Fin 2048, d0 (ix3 0 ⟨r.val / 2, by omega⟩ n) * a0 (ix4 0 0 n k)
  else ∑ n : Fin 2048, d1 (ix3 0 ⟨r.val / 2, by omega⟩ n) * a1 (ix4 0 0 n k)

theorem yfS_even (d0 d1 : Vec Ideal S1x512x2048 .bf16) (a0 a1 : Vec Ideal S1x1x2048x512 .bf16) (r : Fin 1024) (k : Fin 512) (j : Fin 512)
    (h : r.val = 2 * j.val) : yfS d0 d1 a0 a1 r k = ∑ n : Fin 2048, d0 (ix3 0 j n) * a0 (ix4 0 0 n k) := by
  rw [yfS, if_pos (by omega), show (⟨r.val / 2, by omega⟩ : Fin 512) = j from Fin.ext (by show r.val / 2 = j.val; omega)]

theorem yfS_odd (d0 d1 : Vec Ideal S1x512x2048 .bf16) (a0 a1 : Vec Ideal S1x1x2048x512 .bf16) (r : Fin 1024) (k : Fin 512) (j : Fin 512)
    (h : r.val = 1 + 2 * j.val) : yfS d0 d1 a0 a1 r k = ∑ n : Fin 2048, d1 (ix3 0 j n) * a1 (ix4 0 0 n k) := by
  rw [yfS, if_neg (by omega), show (⟨r.val / 2, by omega⟩ : Fin 512) = j from Fin.ext (by show r.val / 2 = j.val; omega)]

/-- The interleaving scratch, filled: lane group `q`, row `r`, lane `l`. -/
def ilG (d0 d1 : Vec Ideal S1x512x2048 .bf16) (a0 a1 : Vec Ideal S1x1x2048x512 .bf16) : S4x1024x128.Idx → Elt Ideal .f32 :=
  fun y => yfS d0 d1 a0 a1 (y 1) ⟨128 * (y 0).val + (y 2).val, by
    have h0 : (y 0).val < 4 := (y 0).isLt
    have h2 : (y 2).val < 128 := (y 2).isLt
    omega⟩

theorem idx3 (x : S1x512x128.Idx) : ∃ (x1 : Fin 512) (x2 : Fin 128), x = ix3 0 x1 x2 :=
  ⟨x 1, x 2, funext fun a => by fin_cases a; exact Fin.ext (by have h := (x 0).isLt; exact Nat.lt_one_iff.mp h); rfl; rfl⟩

theorem ilG_even (d0 d1 : Vec Ideal S1x512x2048 .bf16) (a0 a1 : Vec Ideal S1x1x2048x512 .bf16) (y : S4x1024x128.Idx) (j : Fin 512) (k : Fin 512)
    (h : (y 1).val = 2 * j.val) (hk : 128 * (y 0).val + (y 2).val = k.val) : ilG d0 d1 a0 a1 y = ∑ n : Fin 2048, d0 (ix3 0 j n) * a0 (ix4 0 0 n k) := by
  rw [ilG, yfS_even d0 d1 a0 a1 _ _ j h]; simp only [hk]

theorem ilG_odd (d0 d1 : Vec Ideal S1x512x2048 .bf16) (a0 a1 : Vec Ideal S1x1x2048x512 .bf16) (y : S4x1024x128.Idx) (j : Fin 512) (k : Fin 512)
    (h : (y 1).val = 1 + 2 * j.val) (hk : 128 * (y 0).val + (y 2).val = k.val) : ilG d0 d1 a0 a1 y = ∑ n : Fin 2048, d1 (ix3 0 j n) * a1 (ix4 0 0 n k) := by
  rw [ilG, yfS_odd d0 d1 a0 a1 _ _ j h]; simp only [hk]

theorem il_3_1 (d0 d1 : Vec Ideal S1x512x2048 .bf16) (a0 a1 : Vec Ideal S1x1x2048x512 .bf16) (x : S1x512x128.Idx) (y : S4x1024x128.Idx)
    (h1 : (y 1).val = 1 + 2 * (x 1).val) (hk : (y 0).val = 3) (h2 : (y 2).val = (x 2).val) :
    k0_pay34 (k0_pay29 d1 a1) x = ilG d0 d1 a0 a1 y := by
  obtain ⟨x1, x2, rfl⟩ := idx3 x
  replace h1 : (y 1).val = 1 + 2 * x1.val := h1
  replace h2 : (y 2).val = x2.val := h2
  rw [ilG_odd d0 d1 a0 a1 y x1 ⟨384 + x2.val, by omega⟩ h1 (by rw [hk, h2])]
  pointwise [k0_pay29, k0_pay34]

theorem il_2_1 (d0 d1 : Vec Ideal S1x512x2048 .bf16) (a0 a1 : Vec Ideal S1x1x2048x512 .bf16) (x : S1x512x128.Idx) (y : S4x1024x128.Idx)
    (h1 : (y 1).val = 1 + 2 * (x 1).val) (hk : (y 0).val = 2) (h2 : (y 2).val = (x 2).val) :
    k0_pay33 (k0_pay32 d1 a1) x = ilG d0 d1 a0 a1 y := by
  obtain ⟨x1, x2, rfl⟩ := idx3 x
  replace h1 : (y 1).val = 1 + 2 * x1.val := h1
  replace h2 : (y 2).val = x2.val := h2
  rw [ilG_odd d0 d1 a0 a1 y x1 ⟨256 + x2.val, by omega⟩ h1 (by rw [hk, h2])]
  pointwise [k0_pay29, k0_pay32, k0_pay33]

theorem il_1_1 (d0 d1 : Vec Ideal S1x512x2048 .bf16) (a0 a1 : Vec Ideal S1x1x2048x512 .bf16) (x : S1x512x128.Idx) (y : S4x1024x128.Idx)
    (h1 : (y 1).val = 1 + 2 * (x 1).val) (hk : (y 0).val = 1) (h2 : (y 2).val = (x 2).val) :
    k0_pay31 d1 a1 x = ilG d0 d1 a0 a1 y := by
  obtain ⟨x1, x2, rfl⟩ := idx3 x
  replace h1 : (y 1).val = 1 + 2 * x1.val := h1
  replace h2 : (y 2).val = x2.val := h2
  rw [ilG_odd d0 d1 a0 a1 y x1 ⟨128 + x2.val, by omega⟩ h1 (by rw [hk, h2])]
  pointwise [k0_pay29, k0_pay31]

theorem il_0_1 (d0 d1 : Vec Ideal S1x512x2048 .bf16) (a0 a1 : Vec Ideal S1x1x2048x512 .bf16) (x : S1x512x128.Idx) (y : S4x1024x128.Idx)
    (h1 : (y 1).val = 1 + 2 * (x 1).val) (hk : (y 0).val = 0) (h2 : (y 2).val = (x 2).val) :
    k0_pay30 d1 a1 x = ilG d0 d1 a0 a1 y := by
  obtain ⟨x1, x2, rfl⟩ := idx3 x
  replace h1 : (y 1).val = 1 + 2 * x1.val := h1
  replace h2 : (y 2).val = x2.val := h2
  rw [ilG_odd d0 d1 a0 a1 y x1 ⟨0 + x2.val, by omega⟩ h1 (by rw [hk, h2])]
  pointwise [k0_pay29, k0_pay30]

theorem il_3_0 (d0 d1 : Vec Ideal S1x512x2048 .bf16) (a0 a1 : Vec Ideal S1x1x2048x512 .bf16) (x : S1x512x128.Idx) (y : S4x1024x128.Idx)
    (h1 : (y 1).val = 2 * (x 1).val) (hk : (y 0).val = 3) (h2 : (y 2).val = (x 2).val) :
    k0_pay28 (k0_pay24 d0 a0) x = ilG d0 d1 a0 a1 y := by
  obtain ⟨x1, x2, rfl⟩ := idx3 x
  replace h1 : (y 1).val = 2 * x1.val := h1
  replace h2 : (y 2).val = x2.val := h2
  rw [ilG_even d0 d1 a0 a1 y x1 ⟨384 + x2.val, by omega⟩ h1 (by rw [hk, h2])]
  pointwise [k0_pay24, k0_pay28]

theorem il_2_0 (d0 d1 : Vec Ideal S1x512x2048 .bf16) (a0 a1 : Vec Ideal S1x1x2048x512 .bf16) (x : S1x512x128.Idx) (y : S4x1024x128.Idx)
    (h1 : (y 1).val = 2 * (x 1).val) (hk : (y 0).val = 2) (h2 : (y 2).val = (x 2).val) :
    k0_pay27 (k0_pay24 d0 a0) x = ilG d0 d1 a0 a1 y := by
  obtain ⟨x1, x2, rfl⟩ := idx3 x
  replace h1 : (y 1).val = 2 * x1.val := h1
  replace h2 : (y 2).val = x2.val := h2
  rw [ilG_even d0 d1 a0 a1 y x1 ⟨256 + x2.val, by omega⟩ h1 (by rw [hk, h2])]
  pointwise [k0_pay24, k0_pay27]

theorem il_1_0 (d0 d1 : Vec Ideal S1x512x2048 .bf16) (a0 a1 : Vec Ideal S1x1x2048x512 .bf16) (x : S1x512x128.Idx) (y : S4x1024x128.Idx)
    (h1 : (y 1).val = 2 * (x 1).val) (hk : (y 0).val = 1) (h2 : (y 2).val = (x 2).val) :
    k0_pay26 (k0_pay24 d0 a0) x = ilG d0 d1 a0 a1 y := by
  obtain ⟨x1, x2, rfl⟩ := idx3 x
  replace h1 : (y 1).val = 2 * x1.val := h1
  replace h2 : (y 2).val = x2.val := h2
  rw [ilG_even d0 d1 a0 a1 y x1 ⟨128 + x2.val, by omega⟩ h1 (by rw [hk, h2])]
  pointwise [k0_pay24, k0_pay26]

theorem il_0_0 (d0 d1 : Vec Ideal S1x512x2048 .bf16) (a0 a1 : Vec Ideal S1x1x2048x512 .bf16) (x : S1x512x128.Idx) (y : S4x1024x128.Idx)
    (h1 : (y 1).val = 2 * (x 1).val) (hk : (y 0).val = 0) (h2 : (y 2).val = (x 2).val) :
    k0_pay25 d0 a0 x = ilG d0 d1 a0 a1 y := by
  obtain ⟨x1, x2, rfl⟩ := idx3 x
  replace h1 : (y 1).val = 2 * x1.val := h1
  replace h2 : (y 2).val = x2.val := h2
  rw [ilG_even d0 d1 a0 a1 y x1 ⟨0 + x2.val, by omega⟩ h1 (by rw [hk, h2])]
  pointwise [k0_pay24, k0_pay25]

/-- The eight stores that fill the interleaving scratch, the last first. -/
abbrev ilL (d0 d1 : Vec Ideal S1x512x2048 .bf16) (a0 a1 : Vec Ideal S1x1x2048x512 .bf16) : List (View.Piece (Elt Ideal) S4x1024x128 .f32) :=
  [⟨⟨(⟨![3, 1, 0], S1x512x128.size, ![1, 2, 1], inb_S4x1024x128_S1x512x128_3_1_0_s_1_2_1⟩ : LoadRect S4x1024x128), spos_1_2_1⟩, k0_pay34 (k0_pay29 d1 a1)⟩,
    ⟨⟨(⟨![2, 1, 0], S1x512x128.size, ![1, 2, 1], inb_S4x1024x128_S1x512x128_2_1_0_s_1_2_1⟩ : LoadRect S4x1024x128), spos_1_2_1⟩, k0_pay33 (k0_pay32 d1 a1)⟩,
    ⟨⟨(⟨![1, 1, 0], S1x512x128.size, ![1, 2, 1], inb_S4x1024x128_S1x512x128_1_1_0_s_1_2_1⟩ : LoadRect S4x1024x128), spos_1_2_1⟩, k0_pay31 d1 a1⟩,
    ⟨⟨(⟨![0, 1, 0], S1x512x128.size, ![1, 2, 1], inb_S4x1024x128_S1x512x128_0_1_0_s_1_2_1⟩ : LoadRect S4x1024x128), spos_1_2_1⟩, k0_pay30 d1 a1⟩,
    ⟨⟨(⟨![3, 0, 0], S1x512x128.size, ![1, 2, 1], inb_S4x1024x128_S1x512x128_3_0_0_s_1_2_1⟩ : LoadRect S4x1024x128), spos_1_2_1⟩, k0_pay28 (k0_pay24 d0 a0)⟩,
    ⟨⟨(⟨![2, 0, 0], S1x512x128.size, ![1, 2, 1], inb_S4x1024x128_S1x512x128_2_0_0_s_1_2_1⟩ : LoadRect S4x1024x128), spos_1_2_1⟩, k0_pay27 (k0_pay24 d0 a0)⟩,
    ⟨⟨(⟨![1, 0, 0], S1x512x128.size, ![1, 2, 1], inb_S4x1024x128_S1x512x128_1_0_0_s_1_2_1⟩ : LoadRect S4x1024x128), spos_1_2_1⟩, k0_pay26 (k0_pay24 d0 a0)⟩,
    ⟨⟨(⟨![0, 0, 0], S1x512x128.size, ![1, 2, 1], inb_S4x1024x128_S1x512x128_0_0_0_s_1_2_1⟩ : LoadRect S4x1024x128), spos_1_2_1⟩, k0_pay25 d0 a0⟩]

theorem ilL_canon (d0 d1 : Vec Ideal S1x512x2048 .bf16) (a0 a1 : Vec Ideal S1x1x2048x512 .bf16) : View.canon (ilL d0 d1 a0 a1) = ilG d0 d1 a0 a1 := by
  funext y
  refine View.canon_apply_of_pieces _ _ ?_ y ?_
  · simp only [ilL, List.forall_mem_cons]
    refine ⟨fun x => il_3_1 d0 d1 a0 a1 x _ ?_ ?_ ?_, fun x => il_2_1 d0 d1 a0 a1 x _ ?_ ?_ ?_, fun x => il_1_1 d0 d1 a0 a1 x _ ?_ ?_ ?_, fun x => il_0_1 d0 d1 a0 a1 x _ ?_ ?_ ?_,
      fun x => il_3_0 d0 d1 a0 a1 x _ ?_ ?_ ?_, fun x => il_2_0 d0 d1 a0 a1 x _ ?_ ?_ ?_, fun x => il_1_0 d0 d1 a0 a1 x _ ?_ ?_ ?_, fun x => il_0_0 d0 d1 a0 a1 x _ ?_ ?_ ?_, fun p hp => absurd hp List.not_mem_nil⟩
    all_goals have hx0 : (x 0).val < 1 := (x 0).isLt
    all_goals simp only [Rect.emb_apply]
    all_goals first
      | exact (Nat.zero_add _).trans (Nat.one_mul _)
      | exact Nat.zero_add _
      | exact Nat.add_left_cancel_iff.mpr ((Nat.one_mul _).trans (Nat.lt_one_iff.mp hx0))
      | rfl
  · obtain ⟨y0, y1, y2, rfl⟩ : ∃ (y0 : Fin 4) (y1 : Fin 1024) (y2 : Fin 128), y = ix3 y0 y1 y2 := ⟨y 0, y 1, y 2, by funext a; fin_cases a <;> rfl⟩
    have key : ∀ (r : Rect S4x1024x128) (x : r.shape.Idx), (∀ a, r.off a + r.stride a * (x a).val = (ix3 y0 y1 y2 a).val) → ix3 y0 y1 y2 ∈ r.set := by
      intro r x h
      rw [← Rect.map_emb_univ]
      exact Finset.mem_map.mpr ⟨x, Finset.mem_univ _, funext fun a => Fin.ext (h a)⟩
    obtain hp | hp : y1.val % 2 = 0 ∨ y1.val % 2 = 1 := by omega
    all_goals fin_cases y0
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key _ (ix3 0 ⟨y1.val / 2, by omega⟩ y2 : S1x512x128.Idx) fun a => by
        fin_cases a; rfl; exact (show 0 + 2 * (y1.val / 2) = y1.val by omega); exact (Nat.zero_add _).trans (Nat.one_mul _)⟩
    · exact ⟨_, (List.mem_cons_of_mem _ (List.mem_cons_of_mem _ (List.mem_cons_of_mem _ (List.mem_cons_of_mem _ (List.mem_cons_of_mem _ (List.mem_cons_of_mem _ List.mem_cons_self)))))), key _ (ix3 0 ⟨y1.val / 2, by omega⟩ y2 : S1x512x128.Idx) fun a => by
        fin_cases a; rfl; exact (show 0 + 2 * (y1.val / 2) = y1.val by omega); exact (Nat.zero_add _).trans (Nat.one_mul _)⟩
    · exact ⟨_, (List.mem_cons_of_mem _ (List.mem_cons_of_mem _ (List.mem_cons_of_mem _ (List.mem_cons_of_mem _ (List.mem_cons_of_mem _ List.mem_cons_self))))), key _ (ix3 0 ⟨y1.val / 2, by omega⟩ y2 : S1x512x128.Idx) fun a => by
        fin_cases a; rfl; exact (show 0 + 2 * (y1.val / 2) = y1.val by omega); exact (Nat.zero_add _).trans (Nat.one_mul _)⟩
    · exact ⟨_, (List.mem_cons_of_mem _ (List.mem_cons_of_mem _ (List.mem_cons_of_mem _ (List.mem_cons_of_mem _ List.mem_cons_self)))), key _ (ix3 0 ⟨y1.val / 2, by omega⟩ y2 : S1x512x128.Idx) fun a => by
        fin_cases a; rfl; exact (show 0 + 2 * (y1.val / 2) = y1.val by omega); exact (Nat.zero_add _).trans (Nat.one_mul _)⟩
    · exact ⟨_, (List.mem_cons_of_mem _ (List.mem_cons_of_mem _ (List.mem_cons_of_mem _ List.mem_cons_self))), key _ (ix3 0 ⟨y1.val / 2, by omega⟩ y2 : S1x512x128.Idx) fun a => by
        fin_cases a; rfl; exact (show 1 + 2 * (y1.val / 2) = y1.val by omega); exact (Nat.zero_add _).trans (Nat.one_mul _)⟩
    · exact ⟨_, (List.mem_cons_of_mem _ (List.mem_cons_of_mem _ List.mem_cons_self)), key _ (ix3 0 ⟨y1.val / 2, by omega⟩ y2 : S1x512x128.Idx) fun a => by
        fin_cases a; rfl; exact (show 1 + 2 * (y1.val / 2) = y1.val by omega); exact (Nat.zero_add _).trans (Nat.one_mul _)⟩
    · exact ⟨_, (List.mem_cons_of_mem _ List.mem_cons_self), key _ (ix3 0 ⟨y1.val / 2, by omega⟩ y2 : S1x512x128.Idx) fun a => by
        fin_cases a; rfl; exact (show 1 + 2 * (y1.val / 2) = y1.val by omega); exact (Nat.zero_add _).trans (Nat.one_mul _)⟩
    · exact ⟨_, List.mem_cons_self, key _ (ix3 0 ⟨y1.val / 2, by omega⟩ y2 : S1x512x128.Idx) fun a => by
        fin_cases a; rfl; exact (show 1 + 2 * (y1.val / 2) = y1.val by omega); exact (Nat.zero_add _).trans (Nat.one_mul _)⟩

/-- One tile of the mixed sequence: the Fourier half beside the pooled half `p`. -/
def catG (d0 d1 : Vec Ideal S1x512x2048 .bf16) (a0 a1 : Vec Ideal S1x1x2048x512 .bf16) (p : Vec Ideal S1x1024x512 .bf16) : S1024x1024.Idx → Elt Ideal .bf16 :=
  fun y => if h : (y 1).val < 512 then yfS d0 d1 a0 a1 (y 0) ⟨(y 1).val, h⟩
    else p (ix3 0 (y 0) ⟨(y 1).val - 512, by
      have h1 : (y 1).val < 1024 := (y 1).isLt
      omega⟩)

theorem catG_left (d0 d1 : Vec Ideal S1x512x2048 .bf16) (a0 a1 : Vec Ideal S1x1x2048x512 .bf16) (p : Vec Ideal S1x1024x512 .bf16) (y : S1024x1024.Idx) (r : Fin 1024) (k : Fin 512)
    (h0 : (y 0).val = r.val) (h1 : (y 1).val = k.val) : catG d0 d1 a0 a1 p y = yfS d0 d1 a0 a1 r k := by
  rw [catG, dif_pos (by omega), show y 0 = r from Fin.ext h0]; simp only [h1]

theorem catG_right (d0 d1 : Vec Ideal S1x512x2048 .bf16) (a0 a1 : Vec Ideal S1x1x2048x512 .bf16) (p : Vec Ideal S1x1024x512 .bf16) (y : S1024x1024.Idx) (r : Fin 1024) (k : Fin 512)
    (h0 : (y 0).val = r.val) (h1 : (y 1).val = 512 + k.val) : catG d0 d1 a0 a1 p y = p (ix3 0 r k) := by
  rw [catG, dif_neg (by omega), show y 0 = r from Fin.ext h0]
  refine congrArg p (congrArg (ix3 0 r) (Fin.ext ?_)); show (y 1).val - 512 = k.val; omega

theorem idx2 (x : S1024x128.Idx) : ∃ (x0 : Fin 1024) (x1 : Fin 128), x = ix2 x0 x1 :=
  ⟨x 0, x 1, funext fun a => by fin_cases a <;> rfl⟩

theorem idx2' (x : S1024x512.Idx) : ∃ (x0 : Fin 1024) (x1 : Fin 512), x = ix2 x0 x1 :=
  ⟨x 0, x 1, funext fun a => by fin_cases a <;> rfl⟩

theorem cat_4 (d0 d1 : Vec Ideal S1x512x2048 .bf16) (a0 a1 : Vec Ideal S1x1x2048x512 .bf16) (p : Vec Ideal S1x1024x512 .bf16) (x : S1024x512.Idx) (y : S1024x1024.Idx)
    (h0 : (y 0).val = (x 0).val) (h1 : (y 1).val = 512 + (x 1).val) : k0_pay39 p x = catG d0 d1 a0 a1 p y := by
  obtain ⟨x0, x1, rfl⟩ := idx2' x
  rw [catG_right d0 d1 a0 a1 p y x0 x1 h0 h1]
  pointwise [k0_pay39]

theorem cat_0 (d0 d1 : Vec Ideal S1x512x2048 .bf16) (a0 a1 : Vec Ideal S1x1x2048x512 .bf16) (p : Vec Ideal S1x1024x512 .bf16) (x : S1024x128.Idx) (y : S1024x1024.Idx)
    (h0 : (y 0).val = (x 0).val) (h1 : (y 1).val = 0 + (x 1).val) :
    k0_pay35 ((View.whole cc0_scratch1).readCov (ilL d0 d1 a0 a1) (Rect.unit (s := S4x1024x128) ![0, 0, 0] S1x1024x128.size inb_S4x1024x128_S1x1024x128_0_0_0).toLoadRect) x = catG d0 d1 a0 a1 p y := by
  obtain ⟨x0, x1, rfl⟩ := idx2 x
  replace h1 : (y 1).val = 0 + x1.val := h1
  rw [catG_left d0 d1 a0 a1 p y x0 ⟨0 + x1.val, by omega⟩ h0 h1, View.readCov_eq_canon', ilL_canon]
  pointwise [k0_pay35]
  refine congrArg (yfS d0 d1 a0 a1 x0) (Fin.ext ?_)
  show 128 * 0 + x1.val = x1.val
  omega

theorem cat_1 (d0 d1 : Vec Ideal S1x512x2048 .bf16) (a0 a1 : Vec Ideal S1x1x2048x512 .bf16) (p : Vec Ideal S1x1024x512 .bf16) (x : S1024x128.Idx) (y : S1024x1024.Idx)
    (h0 : (y 0).val = (x 0).val) (h1 : (y 1).val = 128 + (x 1).val) :
    k0_pay36 ((View.whole cc0_scratch1).readCov (ilL d0 d1 a0 a1) (Rect.unit (s := S4x1024x128) ![1, 0, 0] S1x1024x128.size inb_S4x1024x128_S1x1024x128_1_0_0).toLoadRect) x = catG d0 d1 a0 a1 p y := by
  obtain ⟨x0, x1, rfl⟩ := idx2 x
  replace h1 : (y 1).val = 128 + x1.val := h1
  rw [catG_left d0 d1 a0 a1 p y x0 ⟨128 + x1.val, by omega⟩ h0 h1, View.readCov_eq_canon', ilL_canon]
  pointwise [k0_pay36]
  refine congrArg (yfS d0 d1 a0 a1 x0) (Fin.ext ?_)
  show 128 * 1 + x1.val = 128 + x1.val
  omega

theorem cat_2 (d0 d1 : Vec Ideal S1x512x2048 .bf16) (a0 a1 : Vec Ideal S1x1x2048x512 .bf16) (p : Vec Ideal S1x1024x512 .bf16) (x : S1024x128.Idx) (y : S1024x1024.Idx)
    (h0 : (y 0).val = (x 0).val) (h1 : (y 1).val = 256 + (x 1).val) :
    k0_pay37 ((View.whole cc0_scratch1).readCov (ilL d0 d1 a0 a1) (Rect.unit (s := S4x1024x128) ![2, 0, 0] S1x1024x128.size inb_S4x1024x128_S1x1024x128_2_0_0).toLoadRect) x = catG d0 d1 a0 a1 p y := by
  obtain ⟨x0, x1, rfl⟩ := idx2 x
  replace h1 : (y 1).val = 256 + x1.val := h1
  rw [catG_left d0 d1 a0 a1 p y x0 ⟨256 + x1.val, by omega⟩ h0 h1, View.readCov_eq_canon', ilL_canon]
  pointwise [k0_pay37]
  refine congrArg (yfS d0 d1 a0 a1 x0) (Fin.ext ?_)
  show 128 * 2 + x1.val = 256 + x1.val
  omega

theorem cat_3 (d0 d1 : Vec Ideal S1x512x2048 .bf16) (a0 a1 : Vec Ideal S1x1x2048x512 .bf16) (p : Vec Ideal S1x1024x512 .bf16) (x : S1024x128.Idx) (y : S1024x1024.Idx)
    (h0 : (y 0).val = (x 0).val) (h1 : (y 1).val = 384 + (x 1).val) :
    k0_pay38 ((View.whole cc0_scratch1).readCov (ilL d0 d1 a0 a1) (Rect.unit (s := S4x1024x128) ![3, 0, 0] S1x1024x128.size inb_S4x1024x128_S1x1024x128_3_0_0).toLoadRect) x = catG d0 d1 a0 a1 p y := by
  obtain ⟨x0, x1, rfl⟩ := idx2 x
  replace h1 : (y 1).val = 384 + x1.val := h1
  rw [catG_left d0 d1 a0 a1 p y x0 ⟨384 + x1.val, by omega⟩ h0 h1, View.readCov_eq_canon', ilL_canon]
  pointwise [k0_pay38]
  refine congrArg (yfS d0 d1 a0 a1 x0) (Fin.ext ?_)
  show 128 * 3 + x1.val = 384 + x1.val
  omega

/-- The five stores that fill one tile of the mixed sequence, the last first. -/
abbrev catL (d0 d1 : Vec Ideal S1x512x2048 .bf16) (a0 a1 : Vec Ideal S1x1x2048x512 .bf16) (p : Vec Ideal S1x1024x512 .bf16) : List (View.Piece (Elt Ideal) S1024x1024 .bf16) :=
  [⟨Rect.unit (s := S1024x1024) ![0, 512] S1024x512.size inb_S1024x1024_S1024x512_0_512, k0_pay39 p⟩,
    ⟨Rect.unit (s := S1024x1024) ![0, 384] S1024x128.size inb_S1024x1024_S1024x128_0_384, k0_pay38 ((View.whole cc0_scratch1).readCov (ilL d0 d1 a0 a1) (Rect.unit (s := S4x1024x128) ![3, 0, 0] S1x1024x128.size inb_S4x1024x128_S1x1024x128_3_0_0).toLoadRect)⟩,
    ⟨Rect.unit (s := S1024x1024) ![0, 256] S1024x128.size inb_S1024x1024_S1024x128_0_256, k0_pay37 ((View.whole cc0_scratch1).readCov (ilL d0 d1 a0 a1) (Rect.unit (s := S4x1024x128) ![2, 0, 0] S1x1024x128.size inb_S4x1024x128_S1x1024x128_2_0_0).toLoadRect)⟩,
    ⟨Rect.unit (s := S1024x1024) ![0, 128] S1024x128.size inb_S1024x1024_S1024x128_0_128, k0_pay36 ((View.whole cc0_scratch1).readCov (ilL d0 d1 a0 a1) (Rect.unit (s := S4x1024x128) ![1, 0, 0] S1x1024x128.size inb_S4x1024x128_S1x1024x128_1_0_0).toLoadRect)⟩,
    ⟨Rect.unit (s := S1024x1024) ![0, 0] S1024x128.size inb_S1024x1024_S1024x128_0_0, k0_pay35 ((View.whole cc0_scratch1).readCov (ilL d0 d1 a0 a1) (Rect.unit (s := S4x1024x128) ![0, 0, 0] S1x1024x128.size inb_S4x1024x128_S1x1024x128_0_0_0).toLoadRect)⟩]

theorem catL_canon (d0 d1 : Vec Ideal S1x512x2048 .bf16) (a0 a1 : Vec Ideal S1x1x2048x512 .bf16) (p : Vec Ideal S1x1024x512 .bf16) : View.canon (catL d0 d1 a0 a1 p) = catG d0 d1 a0 a1 p := by
  funext y
  refine View.canon_apply_of_pieces _ _ ?_ y ?_
  · simp only [catL, List.forall_mem_cons]
    refine ⟨fun x => cat_4 d0 d1 a0 a1 p x _ ?_ ?_, fun x => cat_3 d0 d1 a0 a1 p x _ ?_ ?_, fun x => cat_2 d0 d1 a0 a1 p x _ ?_ ?_,
      fun x => cat_1 d0 d1 a0 a1 p x _ ?_ ?_, fun x => cat_0 d0 d1 a0 a1 p x _ ?_ ?_, fun q hq => absurd hq List.not_mem_nil⟩
    all_goals simp only [Rect.emb_apply]
    all_goals first
      | exact (Nat.zero_add _).trans (Nat.one_mul _)
      | exact Nat.add_left_cancel_iff.mpr (Nat.one_mul _)
  · obtain ⟨y0, y1, rfl⟩ : ∃ (y0 y1 : Fin 1024), y = ix2 y0 y1 := ⟨y 0, y 1, by funext a; fin_cases a <;> rfl⟩
    have key : ∀ (r : Rect S1024x1024) (x : r.shape.Idx), (∀ a, r.off a + r.stride a * (x a).val = (ix2 y0 y1 a).val) → ix2 y0 y1 ∈ r.set := by
      intro r x h
      rw [← Rect.map_emb_univ]
      exact Finset.mem_map.mpr ⟨x, Finset.mem_univ _, funext fun a => Fin.ext (h a)⟩
    obtain h | h | h | h | h : y1.val < 128 ∨ (128 ≤ y1.val ∧ y1.val < 256) ∨ (256 ≤ y1.val ∧ y1.val < 384) ∨ (384 ≤ y1.val ∧ y1.val < 512) ∨ 512 ≤ y1.val := by omega
    · exact ⟨_, (List.mem_cons_of_mem _ (List.mem_cons_of_mem _ (List.mem_cons_of_mem _ (List.mem_cons_of_mem _ List.mem_cons_self)))), key _ (ix2 y0 ⟨y1.val - 0, by omega⟩ : S1024x128.Idx) fun a => by
        fin_cases a; exact (Nat.zero_add _).trans (Nat.one_mul _); exact (show 0 + 1 * (y1.val - 0) = y1.val by omega)⟩
    · exact ⟨_, (List.mem_cons_of_mem _ (List.mem_cons_of_mem _ (List.mem_cons_of_mem _ List.mem_cons_self))), key _ (ix2 y0 ⟨y1.val - 128, by omega⟩ : S1024x128.Idx) fun a => by
        fin_cases a; exact (Nat.zero_add _).trans (Nat.one_mul _); exact (show 128 + 1 * (y1.val - 128) = y1.val by omega)⟩
    · exact ⟨_, (List.mem_cons_of_mem _ (List.mem_cons_of_mem _ List.mem_cons_self)), key _ (ix2 y0 ⟨y1.val - 256, by omega⟩ : S1024x128.Idx) fun a => by
        fin_cases a; exact (Nat.zero_add _).trans (Nat.one_mul _); exact (show 256 + 1 * (y1.val - 256) = y1.val by omega)⟩
    · exact ⟨_, (List.mem_cons_of_mem _ List.mem_cons_self), key _ (ix2 y0 ⟨y1.val - 384, by omega⟩ : S1024x128.Idx) fun a => by
        fin_cases a; exact (Nat.zero_add _).trans (Nat.one_mul _); exact (show 384 + 1 * (y1.val - 384) = y1.val by omega)⟩
    · exact ⟨_, List.mem_cons_self, key _ (ix2 y0 ⟨y1.val - 512, by omega⟩ : S1024x512.Idx) fun a => by
        fin_cases a; exact (Nat.zero_add _).trans (Nat.one_mul _); exact (show 512 + 1 * (y1.val - 512) = y1.val by omega)⟩

end Cert.MixOutIdeal.Value

end
-- ==== Proof.OutFin.lean ====
module

public import proofs.«01_k».proof.Proof.Gen.MixOutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

/-- One tile of the result: the tile of the input plus the root-mean-square-normalised product, by its gain. -/
def oG (x : Vec Ideal S1x1024x1024 .f32) (y : Vec Ideal S1024x1024 .f32) (g : Vec Ideal S1x1x1024 .f32) : S1x1024x1024.Idx → Elt Ideal .f32 :=
  fun j => x j + y (ix2 (j 1) (j 2)) * Ideal.rsqrt (Ideal.div (∑ l : Fin 1024, y (ix2 (j 1) l) * y (ix2 (j 1) l)) (Ideal.ofBits .f32 0x44800000#32) + Ideal.ofBits .f32 0x358637BD#32) * g (ix3 0 0 (j 2))

theorem oG_at (x : Vec Ideal S1x1024x1024 .f32) (y : Vec Ideal S1024x1024 .f32) (g : Vec Ideal S1x1x1024 .f32) (j : S1x1024x1024.Idx) (r : Fin 1024) (d : Fin 1024) (h0 : (j 1).val = r.val) (h1 : (j 2).val = d.val) :
    oG x y g j = x (ix3 0 r d) + y (ix2 r d) * Ideal.rsqrt (Ideal.div (∑ l : Fin 1024, y (ix2 r l) * y (ix2 r l)) (Ideal.ofBits .f32 0x44800000#32) + Ideal.ofBits .f32 0x358637BD#32) * g (ix3 0 0 d) := by
  obtain rfl : j = ix3 0 r d := funext fun a => by
    fin_cases a
    · exact Fin.ext (Nat.lt_one_iff.mp (j 0).isLt)
    · exact Fin.ext h0
    · exact Fin.ext h1
  rfl

theorem idx128 (x : S1x128x1024.Idx) : ∃ (x1 : Fin 128) (x2 : Fin 1024), x = ix3 0 x1 x2 :=
  ⟨x 1, x 2, funext fun a => by fin_cases a; exact Fin.ext (by have h := (x 0).isLt; exact Nat.lt_one_iff.mp h); rfl; rfl⟩

theorem oB_0 (x : Vec Ideal S1x1024x1024 .f32) (y : Vec Ideal S1024x1024 .f32) (g : Vec Ideal S1x1x1024 .f32) (z : S1x128x1024.Idx) (j : S1x1024x1024.Idx) (h0 : (j 1).val = 0 + (z 1).val) (h1 : (j 2).val = (z 2).val) :
    k0_pay8 g (View.ld y (Rect.unit (s := S1024x1024) ![0, 0] S128x1024.size inb_S1024x1024_S128x1024_0_0)) (View.ld x (Rect.unit (s := S1x1024x1024) ![0, 0, 0] S1x128x1024.size inb_S1x1024x1024_S1x128x1024_0_0_0)) z = oG x y g j := by
  obtain ⟨z1, z2, rfl⟩ := idx128 z
  replace h0 : (j 1).val = 0 + z1.val := h0
  rw [oG_at x y g j ⟨z1.val, by omega⟩ z2 (by rw [h0]; exact Nat.zero_add _) h1]
  pointwise [k0_pay7, k0_pay8]

theorem oB_1 (x : Vec Ideal S1x1024x1024 .f32) (y : Vec Ideal S1024x1024 .f32) (g : Vec Ideal S1x1x1024 .f32) (z : S1x128x1024.Idx) (j : S1x1024x1024.Idx) (h0 : (j 1).val = 128 + (z 1).val) (h1 : (j 2).val = (z 2).val) :
    k0_pay11 (k0_pay9 (View.ld x (Rect.unit (s := S1x1024x1024) ![0, 128, 0] S1x128x1024.size inb_S1x1024x1024_S1x128x1024_0_128_0))) (k0_pay10 g (View.ld y (Rect.unit (s := S1024x1024) ![128, 0] S128x1024.size inb_S1024x1024_S128x1024_128_0))) z = oG x y g j := by
  obtain ⟨z1, z2, rfl⟩ := idx128 z
  replace h0 : (j 1).val = 128 + z1.val := h0
  rw [oG_at x y g j ⟨128 + z1.val, by omega⟩ z2 h0 h1]
  pointwise [k0_pay10, k0_pay11, k0_pay7, k0_pay9]

theorem oB_2 (x : Vec Ideal S1x1024x1024 .f32) (y : Vec Ideal S1024x1024 .f32) (g : Vec Ideal S1x1x1024 .f32) (z : S1x128x1024.Idx) (j : S1x1024x1024.Idx) (h0 : (j 1).val = 256 + (z 1).val) (h1 : (j 2).val = (z 2).val) :
    k0_pay12 (k0_pay7 g) (View.ld y (Rect.unit (s := S1024x1024) ![256, 0] S128x1024.size inb_S1024x1024_S128x1024_256_0)) (View.ld x (Rect.unit (s := S1x1024x1024) ![0, 256, 0] S1x128x1024.size inb_S1x1024x1024_S1x128x1024_0_256_0)) z = oG x y g j := by
  obtain ⟨z1, z2, rfl⟩ := idx128 z
  replace h0 : (j 1).val = 256 + z1.val := h0
  rw [oG_at x y g j ⟨256 + z1.val, by omega⟩ z2 h0 h1]
  pointwise [k0_pay12, k0_pay7]

theorem oB_3 (x : Vec Ideal S1x1024x1024 .f32) (y : Vec Ideal S1024x1024 .f32) (g : Vec Ideal S1x1x1024 .f32) (z : S1x128x1024.Idx) (j : S1x1024x1024.Idx) (h0 : (j 1).val = 384 + (z 1).val) (h1 : (j 2).val = (z 2).val) :
    k0_pay15 (k0_pay7 g) (View.ld y (Rect.unit (s := S1024x1024) ![384, 0] S128x1024.size inb_S1024x1024_S128x1024_384_0)) (k0_pay13 (View.ld x (Rect.unit (s := S1x1024x1024) ![0, 384, 0] S1x128x1024.size inb_S1x1024x1024_S1x128x1024_0_384_0))) (k0_pay14 (View.ld y (Rect.unit (s := S1024x1024) ![384, 0] S128x1024.size inb_S1024x1024_S128x1024_384_0))) z = oG x y g j := by
  obtain ⟨z1, z2, rfl⟩ := idx128 z
  replace h0 : (j 1).val = 384 + z1.val := h0
  rw [oG_at x y g j ⟨384 + z1.val, by omega⟩ z2 h0 h1]
  pointwise [k0_pay13, k0_pay14, k0_pay15, k0_pay7]

theorem oB_4 (x : Vec Ideal S1x1024x1024 .f32) (y : Vec Ideal S1024x1024 .f32) (g : Vec Ideal S1x1x1024 .f32) (z : S1x128x1024.Idx) (j : S1x1024x1024.Idx) (h0 : (j 1).val = 512 + (z 1).val) (h1 : (j 2).val = (z 2).val) :
    k0_pay16 (k0_pay7 g) (View.ld y (Rect.unit (s := S1024x1024) ![512, 0] S128x1024.size inb_S1024x1024_S128x1024_512_0)) (View.ld x (Rect.unit (s := S1x1024x1024) ![0, 512, 0] S1x128x1024.size inb_S1x1024x1024_S1x128x1024_0_512_0)) z = oG x y g j := by
  obtain ⟨z1, z2, rfl⟩ := idx128 z
  replace h0 : (j 1).val = 512 + z1.val := h0
  rw [oG_at x y g j ⟨512 + z1.val, by omega⟩ z2 h0 h1]
  pointwise [k0_pay16, k0_pay7]

theorem oB_5 (x : Vec Ideal S1x1024x1024 .f32) (y : Vec Ideal S1024x1024 .f32) (g : Vec Ideal S1x1x1024 .f32) (z : S1x128x1024.Idx) (j : S1x1024x1024.Idx) (h0 : (j 1).val = 640 + (z 1).val) (h1 : (j 2).val = (z 2).val) :
    k0_pay19 (k0_pay7 g) (View.ld y (Rect.unit (s := S1024x1024) ![640, 0] S128x1024.size inb_S1024x1024_S128x1024_640_0)) (k0_pay17 (View.ld x (Rect.unit (s := S1x1024x1024) ![0, 640, 0] S1x128x1024.size inb_S1x1024x1024_S1x128x1024_0_640_0))) (k0_pay18 (View.ld y (Rect.unit (s := S1024x1024) ![640, 0] S128x1024.size inb_S1024x1024_S128x1024_640_0))) z = oG x y g j := by
  obtain ⟨z1, z2, rfl⟩ := idx128 z
  replace h0 : (j 1).val = 640 + z1.val := h0
  rw [oG_at x y g j ⟨640 + z1.val, by omega⟩ z2 h0 h1]
  pointwise [k0_pay17, k0_pay18, k0_pay19, k0_pay7]

theorem oB_6 (x : Vec Ideal S1x1024x1024 .f32) (y : Vec Ideal S1024x1024 .f32) (g : Vec Ideal S1x1x1024 .f32) (z : S1x128x1024.Idx) (j : S1x1024x1024.Idx) (h0 : (j 1).val = 768 + (z 1).val) (h1 : (j 2).val = (z 2).val) :
    k0_pay20 (k0_pay7 g) (View.ld y (Rect.unit (s := S1024x1024) ![768, 0] S128x1024.size inb_S1024x1024_S128x1024_768_0)) (View.ld x (Rect.unit (s := S1x1024x1024) ![0, 768, 0] S1x128x1024.size inb_S1x1024x1024_S1x128x1024_0_768_0)) z = oG x y g j := by
  obtain ⟨z1, z2, rfl⟩ := idx128 z
  replace h0 : (j 1).val = 768 + z1.val := h0
  rw [oG_at x y g j ⟨768 + z1.val, by omega⟩ z2 h0 h1]
  pointwise [k0_pay20, k0_pay7]

theorem oB_7 (x : Vec Ideal S1x1024x1024 .f32) (y : Vec Ideal S1024x1024 .f32) (g : Vec Ideal S1x1x1024 .f32) (z : S1x128x1024.Idx) (j : S1x1024x1024.Idx) (h0 : (j 1).val = 896 + (z 1).val) (h1 : (j 2).val = (z 2).val) :
    k0_pay23 (k0_pay7 g) (View.ld y (Rect.unit (s := S1024x1024) ![896, 0] S128x1024.size inb_S1024x1024_S128x1024_896_0)) (k0_pay21 (View.ld x (Rect.unit (s := S1x1024x1024) ![0, 896, 0] S1x128x1024.size inb_S1x1024x1024_S1x128x1024_0_896_0))) (k0_pay22 (View.ld y (Rect.unit (s := S1024x1024) ![896, 0] S128x1024.size inb_S1024x1024_S128x1024_896_0))) z = oG x y g j := by
  obtain ⟨z1, z2, rfl⟩ := idx128 z
  replace h0 : (j 1).val = 896 + z1.val := h0
  rw [oG_at x y g j ⟨896 + z1.val, by omega⟩ z2 h0 h1]
  pointwise [k0_pay21, k0_pay22, k0_pay23, k0_pay7]

/-- The eight stores of one tile of the result, the last first (case B). -/
abbrev oLB (x : Vec Ideal S1x1024x1024 .f32) (y : Vec Ideal S1024x1024 .f32) (g : Vec Ideal S1x1x1024 .f32) : List (View.Piece (Elt Ideal) S1x1024x1024 .f32) :=
  [⟨Rect.unit (s := S1x1024x1024) ![0, 896, 0] S1x128x1024.size inb_S1x1024x1024_S1x128x1024_0_896_0, k0_pay23 (k0_pay7 g) (View.ld y (Rect.unit (s := S1024x1024) ![896, 0] S128x1024.size inb_S1024x1024_S128x1024_896_0)) (k0_pay21 (View.ld x (Rect.unit (s := S1x1024x1024) ![0, 896, 0] S1x128x1024.size inb_S1x1024x1024_S1x128x1024_0_896_0))) (k0_pay22 (View.ld y (Rect.unit (s := S1024x1024) ![896, 0] S128x1024.size inb_S1024x1024_S128x1024_896_0)))⟩,
    ⟨Rect.unit (s := S1x1024x1024) ![0, 768, 0] S1x128x1024.size inb_S1x1024x1024_S1x128x1024_0_768_0, k0_pay20 (k0_pay7 g) (View.ld y (Rect.unit (s := S1024x1024) ![768, 0] S128x1024.size inb_S1024x1024_S128x1024_768_0)) (View.ld x (Rect.unit (s := S1x1024x1024) ![0, 768, 0] S1x128x1024.size inb_S1x1024x1024_S1x128x1024_0_768_0))⟩,
    ⟨Rect.unit (s := S1x1024x1024) ![0, 640, 0] S1x128x1024.size inb_S1x1024x1024_S1x128x1024_0_640_0, k0_pay19 (k0_pay7 g) (View.ld y (Rect.unit (s := S1024x1024) ![640, 0] S128x1024.size inb_S1024x1024_S128x1024_640_0)) (k0_pay17 (View.ld x (Rect.unit (s := S1x1024x1024) ![0, 640, 0] S1x128x1024.size inb_S1x1024x1024_S1x128x1024_0_640_0))) (k0_pay18 (View.ld y (Rect.unit (s := S1024x1024) ![640, 0] S128x1024.size inb_S1024x1024_S128x1024_640_0)))⟩,
    ⟨Rect.unit (s := S1x1024x1024) ![0, 512, 0] S1x128x1024.size inb_S1x1024x1024_S1x128x1024_0_512_0, k0_pay16 (k0_pay7 g) (View.ld y (Rect.unit (s := S1024x1024) ![512, 0] S128x1024.size inb_S1024x1024_S128x1024_512_0)) (View.ld x (Rect.unit (s := S1x1024x1024) ![0, 512, 0] S1x128x1024.size inb_S1x1024x1024_S1x128x1024_0_512_0))⟩,
    ⟨Rect.unit (s := S1x1024x1024) ![0, 384, 0] S1x128x1024.size inb_S1x1024x1024_S1x128x1024_0_384_0, k0_pay15 (k0_pay7 g) (View.ld y (Rect.unit (s := S1024x1024) ![384, 0] S128x1024.size inb_S1024x1024_S128x1024_384_0)) (k0_pay13 (View.ld x (Rect.unit (s := S1x1024x1024) ![0, 384, 0] S1x128x1024.size inb_S1x1024x1024_S1x128x1024_0_384_0))) (k0_pay14 (View.ld y (Rect.unit (s := S1024x1024) ![384, 0] S128x1024.size inb_S1024x1024_S128x1024_384_0)))⟩,
    ⟨Rect.unit (s := S1x1024x1024) ![0, 256, 0] S1x128x1024.size inb_S1x1024x1024_S1x128x1024_0_256_0, k0_pay12 (k0_pay7 g) (View.ld y (Rect.unit (s := S1024x1024) ![256, 0] S128x1024.size inb_S1024x1024_S128x1024_256_0)) (View.ld x (Rect.unit (s := S1x1024x1024) ![0, 256, 0] S1x128x1024.size inb_S1x1024x1024_S1x128x1024_0_256_0))⟩,
    ⟨Rect.unit (s := S1x1024x1024) ![0, 128, 0] S1x128x1024.size inb_S1x1024x1024_S1x128x1024_0_128_0, k0_pay11 (k0_pay9 (View.ld x (Rect.unit (s := S1x1024x1024) ![0, 128, 0] S1x128x1024.size inb_S1x1024x1024_S1x128x1024_0_128_0))) (k0_pay10 g (View.ld y (Rect.unit (s := S1024x1024) ![128, 0] S128x1024.size inb_S1024x1024_S128x1024_128_0)))⟩,
    ⟨Rect.unit (s := S1x1024x1024) ![0, 0, 0] S1x128x1024.size inb_S1x1024x1024_S1x128x1024_0_0_0, k0_pay8 g (View.ld y (Rect.unit (s := S1024x1024) ![0, 0] S128x1024.size inb_S1024x1024_S128x1024_0_0)) (View.ld x (Rect.unit (s := S1x1024x1024) ![0, 0, 0] S1x128x1024.size inb_S1x1024x1024_S1x128x1024_0_0_0))⟩]

theorem oLB_canon (x : Vec Ideal S1x1024x1024 .f32) (y : Vec Ideal S1024x1024 .f32) (g : Vec Ideal S1x1x1024 .f32) : View.canon (oLB x y g) = oG x y g := by
  funext j
  refine View.canon_apply_of_pieces _ _ ?_ j (View.cover_of_tiled_head _ _ _ (by rfl) j)
  simp only [oLB, List.forall_mem_cons]
  refine ⟨fun z => oB_7 x y g z _ ?_ ?_, fun z => oB_6 x y g z _ ?_ ?_, fun z => oB_5 x y g z _ ?_ ?_, fun z => oB_4 x y g z _ ?_ ?_, fun z => oB_3 x y g z _ ?_ ?_, fun z => oB_2 x y g z _ ?_ ?_, fun z => oB_1 x y g z _ ?_ ?_, fun z => oB_0 x y g z _ ?_ ?_, fun q hq => absurd hq List.not_mem_nil⟩
  all_goals simp only [Rect.emb_apply]
  all_goals first
    | exact (Nat.zero_add _).trans (Nat.one_mul _)
    | exact Nat.add_left_cancel_iff.mpr (Nat.one_mul _)

theorem oC_0 (x : Vec Ideal S1x1024x1024 .f32) (y : Vec Ideal S1024x1024 .f32) (g : Vec Ideal S1x1x1024 .f32) (z : S1x128x1024.Idx) (j : S1x1024x1024.Idx) (h0 : (j 1).val = 0 + (z 1).val) (h1 : (j 2).val = (z 2).val) :
    k0_pay48 g (View.ld y (Rect.unit (s := S1024x1024) ![0, 0] S128x1024.size inb_S1024x1024_S128x1024_0_0)) (View.ld x (Rect.unit (s := S1x1024x1024) ![0, 0, 0] S1x128x1024.size inb_S1x1024x1024_S1x128x1024_0_0_0)) z = oG x y g j := by
  obtain ⟨z1, z2, rfl⟩ := idx128 z
  replace h0 : (j 1).val = 0 + z1.val := h0
  rw [oG_at x y g j ⟨z1.val, by omega⟩ z2 (by rw [h0]; exact Nat.zero_add _) h1]
  pointwise [k0_pay47, k0_pay48]

theorem oC_1 (x : Vec Ideal S1x1024x1024 .f32) (y : Vec Ideal S1024x1024 .f32) (g : Vec Ideal S1x1x1024 .f32) (z : S1x128x1024.Idx) (j : S1x1024x1024.Idx) (h0 : (j 1).val = 128 + (z 1).val) (h1 : (j 2).val = (z 2).val) :
    k0_pay50 (k0_pay49 g (View.ld y (Rect.unit (s := S1024x1024) ![128, 0] S128x1024.size inb_S1024x1024_S128x1024_128_0)) (View.ld x (Rect.unit (s := S1x1024x1024) ![0, 128, 0] S1x128x1024.size inb_S1x1024x1024_S1x128x1024_0_128_0))) z = oG x y g j := by
  obtain ⟨z1, z2, rfl⟩ := idx128 z
  replace h0 : (j 1).val = 128 + z1.val := h0
  rw [oG_at x y g j ⟨128 + z1.val, by omega⟩ z2 h0 h1]
  pointwise [k0_pay47, k0_pay49, k0_pay50]

theorem oC_2 (x : Vec Ideal S1x1024x1024 .f32) (y : Vec Ideal S1024x1024 .f32) (g : Vec Ideal S1x1x1024 .f32) (z : S1x128x1024.Idx) (j : S1x1024x1024.Idx) (h0 : (j 1).val = 256 + (z 1).val) (h1 : (j 2).val = (z 2).val) :
    k0_pay51 (k0_pay47 g) (View.ld y (Rect.unit (s := S1024x1024) ![256, 0] S128x1024.size inb_S1024x1024_S128x1024_256_0)) (View.ld x (Rect.unit (s := S1x1024x1024) ![0, 256, 0] S1x128x1024.size inb_S1x1024x1024_S1x128x1024_0_256_0)) z = oG x y g j := by
  obtain ⟨z1, z2, rfl⟩ := idx128 z
  replace h0 : (j 1).val = 256 + z1.val := h0
  rw [oG_at x y g j ⟨256 + z1.val, by omega⟩ z2 h0 h1]
  pointwise [k0_pay47, k0_pay51]

theorem oC_3 (x : Vec Ideal S1x1024x1024 .f32) (y : Vec Ideal S1024x1024 .f32) (g : Vec Ideal S1x1x1024 .f32) (z : S1x128x1024.Idx) (j : S1x1024x1024.Idx) (h0 : (j 1).val = 384 + (z 1).val) (h1 : (j 2).val = (z 2).val) :
    k0_pay55 (k0_pay52 (View.ld x (Rect.unit (s := S1x1024x1024) ![0, 384, 0] S1x128x1024.size inb_S1x1024x1024_S1x128x1024_0_384_0))) (k0_pay53 (View.ld y (Rect.unit (s := S1024x1024) ![384, 0] S128x1024.size inb_S1024x1024_S128x1024_384_0))) (k0_pay54 (k0_pay47 g)) z = oG x y g j := by
  obtain ⟨z1, z2, rfl⟩ := idx128 z
  replace h0 : (j 1).val = 384 + z1.val := h0
  rw [oG_at x y g j ⟨384 + z1.val, by omega⟩ z2 h0 h1]
  pointwise [k0_pay47, k0_pay52, k0_pay53, k0_pay54, k0_pay55]

theorem oC_4 (x : Vec Ideal S1x1024x1024 .f32) (y : Vec Ideal S1024x1024 .f32) (g : Vec Ideal S1x1x1024 .f32) (z : S1x128x1024.Idx) (j : S1x1024x1024.Idx) (h0 : (j 1).val = 512 + (z 1).val) (h1 : (j 2).val = (z 2).val) :
    k0_pay56 (k0_pay47 g) (View.ld y (Rect.unit (s := S1024x1024) ![512, 0] S128x1024.size inb_S1024x1024_S128x1024_512_0)) (View.ld x (Rect.unit (s := S1x1024x1024) ![0, 512, 0] S1x128x1024.size inb_S1x1024x1024_S1x128x1024_0_512_0)) z = oG x y g j := by
  obtain ⟨z1, z2, rfl⟩ := idx128 z
  replace h0 : (j 1).val = 512 + z1.val := h0
  rw [oG_at x y g j ⟨512 + z1.val, by omega⟩ z2 h0 h1]
  pointwise [k0_pay47, k0_pay56]

theorem oC_5 (x : Vec Ideal S1x1024x1024 .f32) (y : Vec Ideal S1024x1024 .f32) (g : Vec Ideal S1x1x1024 .f32) (z : S1x128x1024.Idx) (j : S1x1024x1024.Idx) (h0 : (j 1).val = 640 + (z 1).val) (h1 : (j 2).val = (z 2).val) :
    k0_pay59 (k0_pay47 g) (View.ld y (Rect.unit (s := S1024x1024) ![640, 0] S128x1024.size inb_S1024x1024_S128x1024_640_0)) (k0_pay57 (View.ld x (Rect.unit (s := S1x1024x1024) ![0, 640, 0] S1x128x1024.size inb_S1x1024x1024_S1x128x1024_0_640_0))) (k0_pay58 (View.ld y (Rect.unit (s := S1024x1024) ![640, 0] S128x1024.size inb_S1024x1024_S128x1024_640_0))) z = oG x y g j := by
  obtain ⟨z1, z2, rfl⟩ := idx128 z
  replace h0 : (j 1).val = 640 + z1.val := h0
  rw [oG_at x y g j ⟨640 + z1.val, by omega⟩ z2 h0 h1]
  pointwise [k0_pay47, k0_pay57, k0_pay58, k0_pay59]

theorem oC_6 (x : Vec Ideal S1x1024x1024 .f32) (y : Vec Ideal S1024x1024 .f32) (g : Vec Ideal S1x1x1024 .f32) (z : S1x128x1024.Idx) (j : S1x1024x1024.Idx) (h0 : (j 1).val = 768 + (z 1).val) (h1 : (j 2).val = (z 2).val) :
    k0_pay60 (k0_pay47 g) (View.ld y (Rect.unit (s := S1024x1024) ![768, 0] S128x1024.size inb_S1024x1024_S128x1024_768_0)) (View.ld x (Rect.unit (s := S1x1024x1024) ![0, 768, 0] S1x128x1024.size inb_S1x1024x1024_S1x128x1024_0_768_0)) z = oG x y g j := by
  obtain ⟨z1, z2, rfl⟩ := idx128 z
  replace h0 : (j 1).val = 768 + z1.val := h0
  rw [oG_at x y g j ⟨768 + z1.val, by omega⟩ z2 h0 h1]
  pointwise [k0_pay47, k0_pay60]

theorem oC_7 (x : Vec Ideal S1x1024x1024 .f32) (y : Vec Ideal S1024x1024 .f32) (g : Vec Ideal S1x1x1024 .f32) (z : S1x128x1024.Idx) (j : S1x1024x1024.Idx) (h0 : (j 1).val = 896 + (z 1).val) (h1 : (j 2).val = (z 2).val) :
    k0_pay6 (k0_pay47 g) (View.ld y (Rect.unit (s := S1024x1024) ![896, 0] S128x1024.size inb_S1024x1024_S128x1024_896_0)) (k0_pay61 (View.ld x (Rect.unit (s := S1x1024x1024) ![0, 896, 0] S1x128x1024.size inb_S1x1024x1024_S1x128x1024_0_896_0))) (k0_pay62 (View.ld y (Rect.unit (s := S1024x1024) ![896, 0] S128x1024.size inb_S1024x1024_S128x1024_896_0))) z = oG x y g j := by
  obtain ⟨z1, z2, rfl⟩ := idx128 z
  replace h0 : (j 1).val = 896 + z1.val := h0
  rw [oG_at x y g j ⟨896 + z1.val, by omega⟩ z2 h0 h1]
  pointwise [k0_pay47, k0_pay6, k0_pay61, k0_pay62]

/-- The eight stores of one tile of the result, the last first (case C). -/
abbrev oLC (x : Vec Ideal S1x1024x1024 .f32) (y : Vec Ideal S1024x1024 .f32) (g : Vec Ideal S1x1x1024 .f32) : List (View.Piece (Elt Ideal) S1x1024x1024 .f32) :=
  [⟨Rect.unit (s := S1x1024x1024) ![0, 896, 0] S1x128x1024.size inb_S1x1024x1024_S1x128x1024_0_896_0, k0_pay6 (k0_pay47 g) (View.ld y (Rect.unit (s := S1024x1024) ![896, 0] S128x1024.size inb_S1024x1024_S128x1024_896_0)) (k0_pay61 (View.ld x (Rect.unit (s := S1x1024x1024) ![0, 896, 0] S1x128x1024.size inb_S1x1024x1024_S1x128x1024_0_896_0))) (k0_pay62 (View.ld y (Rect.unit (s := S1024x1024) ![896, 0] S128x1024.size inb_S1024x1024_S128x1024_896_0)))⟩,
    ⟨Rect.unit (s := S1x1024x1024) ![0, 768, 0] S1x128x1024.size inb_S1x1024x1024_S1x128x1024_0_768_0, k0_pay60 (k0_pay47 g) (View.ld y (Rect.unit (s := S1024x1024) ![768, 0] S128x1024.size inb_S1024x1024_S128x1024_768_0)) (View.ld x (Rect.unit (s := S1x1024x1024) ![0, 768, 0] S1x128x1024.size inb_S1x1024x1024_S1x128x1024_0_768_0))⟩,
    ⟨Rect.unit (s := S1x1024x1024) ![0, 640, 0] S1x128x1024.size inb_S1x1024x1024_S1x128x1024_0_640_0, k0_pay59 (k0_pay47 g) (View.ld y (Rect.unit (s := S1024x1024) ![640, 0] S128x1024.size inb_S1024x1024_S128x1024_640_0)) (k0_pay57 (View.ld x (Rect.unit (s := S1x1024x1024) ![0, 640, 0] S1x128x1024.size inb_S1x1024x1024_S1x128x1024_0_640_0))) (k0_pay58 (View.ld y (Rect.unit (s := S1024x1024) ![640, 0] S128x1024.size inb_S1024x1024_S128x1024_640_0)))⟩,
    ⟨Rect.unit (s := S1x1024x1024) ![0, 512, 0] S1x128x1024.size inb_S1x1024x1024_S1x128x1024_0_512_0, k0_pay56 (k0_pay47 g) (View.ld y (Rect.unit (s := S1024x1024) ![512, 0] S128x1024.size inb_S1024x1024_S128x1024_512_0)) (View.ld x (Rect.unit (s := S1x1024x1024) ![0, 512, 0] S1x128x1024.size inb_S1x1024x1024_S1x128x1024_0_512_0))⟩,
    ⟨Rect.unit (s := S1x1024x1024) ![0, 384, 0] S1x128x1024.size inb_S1x1024x1024_S1x128x1024_0_384_0, k0_pay55 (k0_pay52 (View.ld x (Rect.unit (s := S1x1024x1024) ![0, 384, 0] S1x128x1024.size inb_S1x1024x1024_S1x128x1024_0_384_0))) (k0_pay53 (View.ld y (Rect.unit (s := S1024x1024) ![384, 0] S128x1024.size inb_S1024x1024_S128x1024_384_0))) (k0_pay54 (k0_pay47 g))⟩,
    ⟨Rect.unit (s := S1x1024x1024) ![0, 256, 0] S1x128x1024.size inb_S1x1024x1024_S1x128x1024_0_256_0, k0_pay51 (k0_pay47 g) (View.ld y (Rect.unit (s := S1024x1024) ![256, 0] S128x1024.size inb_S1024x1024_S128x1024_256_0)) (View.ld x (Rect.unit (s := S1x1024x1024) ![0, 256, 0] S1x128x1024.size inb_S1x1024x1024_S1x128x1024_0_256_0))⟩,
    ⟨Rect.unit (s := S1x1024x1024) ![0, 128, 0] S1x128x1024.size inb_S1x1024x1024_S1x128x1024_0_128_0, k0_pay50 (k0_pay49 g (View.ld y (Rect.unit (s := S1024x1024) ![128, 0] S128x1024.size inb_S1024x1024_S128x1024_128_0)) (View.ld x (Rect.unit (s := S1x1024x1024) ![0, 128, 0] S1x128x1024.size inb_S1x1024x1024_S1x128x1024_0_128_0)))⟩,
    ⟨Rect.unit (s := S1x1024x1024) ![0, 0, 0] S1x128x1024.size inb_S1x1024x1024_S1x128x1024_0_0_0, k0_pay48 g (View.ld y (Rect.unit (s := S1024x1024) ![0, 0] S128x1024.size inb_S1024x1024_S128x1024_0_0)) (View.ld x (Rect.unit (s := S1x1024x1024) ![0, 0, 0] S1x128x1024.size inb_S1x1024x1024_S1x128x1024_0_0_0))⟩]

theorem oLC_canon (x : Vec Ideal S1x1024x1024 .f32) (y : Vec Ideal S1024x1024 .f32) (g : Vec Ideal S1x1x1024 .f32) : View.canon (oLC x y g) = oG x y g := by
  funext j
  refine View.canon_apply_of_pieces _ _ ?_ j (View.cover_of_tiled_head _ _ _ (by rfl) j)
  simp only [oLC, List.forall_mem_cons]
  refine ⟨fun z => oC_7 x y g z _ ?_ ?_, fun z => oC_6 x y g z _ ?_ ?_, fun z => oC_5 x y g z _ ?_ ?_, fun z => oC_4 x y g z _ ?_ ?_, fun z => oC_3 x y g z _ ?_ ?_, fun z => oC_2 x y g z _ ?_ ?_, fun z => oC_1 x y g z _ ?_ ?_, fun z => oC_0 x y g z _ ?_ ?_, fun q hq => absurd hq List.not_mem_nil⟩
  all_goals simp only [Rect.emb_apply]
  all_goals first
    | exact (Nat.zero_add _).trans (Nat.one_mul _)
    | exact Nat.add_left_cancel_iff.mpr (Nat.one_mul _)

end Cert.MixOutIdeal.Value

end
-- ==== Proof.OutPoint.lean ====
module

public import proofs.«01_k».proof.Proof.Gen.MixOutIdeal.Frame
public import Idealize.ShloMosaic.Lib.Pipeline.ValueKit
public import Idealize.ShloMosaic.Lib.Pointwise
public import Idealize.ShloMosaic.Lib.Pipeline.ReadBack
public import proofs.«01_k».proof.Proof.OutPure
public import proofs.«01_k».proof.Proof.OutFin

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

variable (m : (ℓ : Loc nD τ sig) → Buf (Elt Ideal) ℓ)

theorem idx : ∀ t : Fin cfg0.N, win0_0.index t = ![min t.val 31 / 2, 0, 0, 0] ∧ win0_1.index t = ![0, 0, 0]
    ∧ win0_2.index t = ![min t.val 31 / 2, min t.val 31 % 2, 0] ∧ win0_3.index t = ![(t.val - 1) / 2, (t.val - 1) % 2, 0]
    ∧ win0_4.index t = ![0, 0, 0] ∧ win0_5.index t = ![0, 0, 0] ∧ win0_6.index t = ![(t.val - 1) / 2, (t.val - 1) % 2, 0] :=
  (by decide +kernel : ∀ t : Fin grid0.N, _)

theorem flush_pos : ∀ t : Fin cfg0.N, (cfg0.win 6).flush t = true → 1 ≤ t.val :=
  (by decide +kernel : ∀ t : Fin grid0.N, _)

theorem covers : (cfg0.win 6).Covers := by decide +kernel

theorem off1 : ∀ t : Fin cfg0.N, k0_off1 (grid0.coords t) = ![0, 512 * (t.val % 2), 0] := (by decide +kernel : ∀ t : Fin grid0.N, _)

theorem off2 : ∀ t : Fin cfg0.N, k0_off2 (grid0.coords t) = ![1, 512 * (t.val % 2), 0] := (by decide +kernel : ∀ t : Fin grid0.N, _)

theorem wout_B (c : Dev nD) (t : Fin cfg0.N) (h0 : ¬t.val % 33 = 0) (h1 : t.val < 32) (h2 : ¬t.val % 33 = 32) :
    (outsAt0 m c t.val t.isLt).2.1 = (outsAt0 m c (t.val - 1) (Nat.lt_of_le_of_lt (Nat.sub_le _ _) t.isLt)).2.1 := by
  rw [outsAt0_B m c t h0 h1 h2]; rfl

theorem wout_A (c : Dev nD) (t : Fin cfg0.N) (h0 : t.val % 33 = 0) (h1 : t.val < 32) (h2 : ¬t.val % 33 = 32) :
    (outsAt0 m c t.val t.isLt).2.1 = k0_pay2 (iblk m c 4 t) := by
  rw [outsAt0_A m c t h0 h1 h2]; frame_out

/-- A store that writes back, over a rectangle, what was read there leaves the contents alone. -/
theorem canon_rewrite {S : Shape} {e : EltTy} {sg : RefSig} {κ : Kind} {sp : Space} (v : View sg κ sp S e) (G : S.Idx → Elt Ideal e) (L : List (View.Piece (Elt Ideal) S e)) (r : Rect S)
    (w : r.shape.Idx → Elt Ideal e) (hw : w = v.readCov L r.toLoadRect) (hL : View.canon L = G) :
    View.canon (⟨r, w⟩ :: L) = G := by
  subst hL; subst hw; funext y
  by_cases hy : y ∈ r.set
  · obtain ⟨x, rfl⟩ := r.exists_idx_of_mem hy
    rw [View.readCov_eq_canon']
    exact View.canon_cons_emb r _ L x
  · exact View.canon_cons_of_not_mem _ L hy

/-- A read of the whole buffer after stores is what they leave. -/
theorem readCov_whole {S : Shape} {e : EltTy} {sg : RefSig} {κ : Kind} {sp : Space} (v : View sg κ sp S e) (L : List (View.Piece (Elt Ideal) S e))
    {off : Fin S.rank → Nat} (h : off = fun _ => 0) (inb : ∀ a, off a + S.size a ≤ S.size a) :
    v.readCov L (Rect.unit off S.size inb).toLoadRect = View.canon L := by
  rw [View.readCov_eq_canon']; exact View.ld_unit_zero h inb (View.canon L)

theorem pay40_id (v : Vec Ideal S16x128 .bf16) : k0_pay40 v = v := by funext j; pointwise [k0_pay40]
theorem pay41_id (v : Vec Ideal S16x128 .bf16) : k0_pay41 v = v := by funext j; pointwise [k0_pay41]
theorem pay42_id (v : Vec Ideal S16x128 .bf16) : k0_pay42 v = v := by funext j; pointwise [k0_pay42]
theorem pay43_id (v : Vec Ideal S16x128 .bf16) : k0_pay43 v = v := by funext j; pointwise [k0_pay43]
theorem pay44_id (v : Vec Ideal S16x128 .bf16) : k0_pay44 v = v := by funext j; pointwise [k0_pay44]
theorem pay45_id (v : Vec Ideal S16x128 .bf16) : k0_pay45 v = v := by funext j; pointwise [k0_pay45]
theorem pay3_id (v : Vec Ideal S16x128 .bf16) : k0_pay3 v k0_pay46 = v := by funext j; pointwise [k0_pay3, k0_pay46]
theorem pay4_id (v : Vec Ideal S16x128 .bf16) : k0_pay4 v = v := by funext j; pointwise [k0_pay4]

/-- What case B leaves in the carried scratch: the product of one tile of the mixed sequence with the output weights. -/
theorem y_B (c : Dev nD) (t : Fin cfg0.N) (h0 : ¬t.val % 33 = 0) (h1 : t.val < 32) (h2 : ¬t.val % 33 = 32) :
    ∃ (d0 d1 : Vec Ideal S1x512x2048 .bf16) (a0 a1 : Vec Ideal S1x1x2048x512 .bf16),
      (outsAt0 m c t.val t.isLt).2.2 = k0_pay5 (catG d0 d1 a0 a1 (iblk m c 2 t)) (outsAt0 m c (t.val - 1) (Nat.lt_of_le_of_lt (Nat.sub_le _ _) t.isLt)).2.1
      ∧ (∀ (j : Fin 512) (n : Fin 2048), d0 (ix3 0 j n) = (iblk m c 1 t : Vec Ideal S2x1024x2048 .bf16) (ix3 0 ⟨512 * (t.val % 2) + j.val, by omega⟩ n))
      ∧ (∀ (j : Fin 512) (n : Fin 2048), d1 (ix3 0 j n) = (iblk m c 1 t : Vec Ideal S2x1024x2048 .bf16) (ix3 1 ⟨512 * (t.val % 2) + j.val, by omega⟩ n))
      ∧ (∀ (n : Fin 2048) (k : Fin 512), a0 (ix4 0 0 n k) = (iblk m c 0 t : Vec Ideal S1x2x2048x512 .bf16) (ix4 0 0 n k))
      ∧ (∀ (n : Fin 2048) (k : Fin 512), a1 (ix4 0 0 n k) = (iblk m c 0 t : Vec Ideal S1x2x2048x512 .bf16) (ix4 0 1 n k)) := by
  refine ⟨?d0, ?d1, ?a0, ?a1, ?e, ?s1, ?s2, ?s3, ?s4⟩
  case e =>
    rw [outsAt0_B m c t h0 h1 h2]; frame_out
    refine congrArg₂ k0_pay5 ?_ ?_
    · refine (readCov_whole _ _ ?_ _).trans ?_
      · funext a; fin_cases a <;> rfl
      refine canon_rewrite _ _ _ _ _ (pay4_id _) ?_
      refine canon_rewrite _ _ _ _ _ (pay3_id _) ?_
      refine canon_rewrite _ _ _ _ _ (pay45_id _) ?_
      refine canon_rewrite _ _ _ _ _ (pay44_id _) ?_
      refine canon_rewrite _ _ _ _ _ (pay43_id _) ?_
      refine canon_rewrite _ _ _ _ _ (pay42_id _) ?_
      refine canon_rewrite _ _ _ _ _ (pay41_id _) ?_
      refine canon_rewrite _ _ _ _ _ (pay40_id _) ?_
      exact catL_canon _ _ _ _ _
    · exact Memref.IsWhole.read_unread _ _
  case s1 =>
    intro j n; pointwise []
    refine congrArg (iblk m c 1 t) (funext fun a => Fin.ext ?_)
    fin_cases a
    · exact congrFun (off1 t) 0
    · exact congrArg (· + j.val) (congrFun (off1 t) 1)
    · exact (congrArg (· + n.val) (congrFun (off1 t) 2)).trans (Nat.zero_add _)
  case s2 =>
    intro j n; pointwise []
    refine congrArg (iblk m c 1 t) (funext fun a => Fin.ext ?_)
    fin_cases a
    · exact congrFun (off2 t) 0
    · exact congrArg (· + j.val) (congrFun (off2 t) 1)
    · exact (congrArg (· + n.val) (congrFun (off2 t) 2)).trans (Nat.zero_add _)
  case s3 => intro j n; pointwise []
  case s4 => intro j n; pointwise []

/-- What case A leaves in the carried scratch: the product of one tile of the mixed sequence with the output weights. -/
theorem y_A (c : Dev nD) (t : Fin cfg0.N) (h0 : t.val % 33 = 0) (h1 : t.val < 32) (h2 : ¬t.val % 33 = 32) :
    ∃ (d0 d1 : Vec Ideal S1x512x2048 .bf16) (a0 a1 : Vec Ideal S1x1x2048x512 .bf16),
      (outsAt0 m c t.val t.isLt).2.2 = k0_pay5 (catG d0 d1 a0 a1 (iblk m c 2 t)) (k0_pay2 (iblk m c 4 t))
      ∧ (∀ (j : Fin 512) (n : Fin 2048), d0 (ix3 0 j n) = (iblk m c 1 t : Vec Ideal S2x1024x2048 .bf16) (ix3 0 ⟨512 * (t.val % 2) + j.val, by omega⟩ n))
      ∧ (∀ (j : Fin 512) (n : Fin 2048), d1 (ix3 0 j n) = (iblk m c 1 t : Vec Ideal S2x1024x2048 .bf16) (ix3 1 ⟨512 * (t.val % 2) + j.val, by omega⟩ n))
      ∧ (∀ (n : Fin 2048) (k : Fin 512), a0 (ix4 0 0 n k) = (iblk m c 0 t : Vec Ideal S1x2x2048x512 .bf16) (ix4 0 0 n k))
      ∧ (∀ (n : Fin 2048) (k : Fin 512), a1 (ix4 0 0 n k) = (iblk m c 0 t : Vec Ideal S1x2x2048x512 .bf16) (ix4 0 1 n k)) := by
  refine ⟨?d0, ?d1, ?a0, ?a1, ?e, ?s1, ?s2, ?s3, ?s4⟩
  case e =>
    rw [outsAt0_A m c t h0 h1 h2]; frame_out
    refine congrArg₂ k0_pay5 ?_ ?_
    · refine (readCov_whole _ _ ?_ _).trans ?_
      · funext a; fin_cases a <;> rfl
      refine canon_rewrite _ _ _ _ _ (pay4_id _) ?_
      refine canon_rewrite _ _ _ _ _ (pay3_id _) ?_
      refine canon_rewrite _ _ _ _ _ (pay45_id _) ?_
      refine canon_rewrite _ _ _ _ _ (pay44_id _) ?_
      refine canon_rewrite _ _ _ _ _ (pay43_id _) ?_
      refine canon_rewrite _ _ _ _ _ (pay42_id _) ?_
      refine canon_rewrite _ _ _ _ _ (pay41_id _) ?_
      refine canon_rewrite _ _ _ _ _ (pay40_id _) ?_
      exact catL_canon _ _ _ _ _
    · rfl
  case s1 =>
    intro j n; pointwise []
    refine congrArg (iblk m c 1 t) (funext fun a => Fin.ext ?_)
    fin_cases a
    · exact congrFun (off1 t) 0
    · exact congrArg (· + j.val) (congrFun (off1 t) 1)
    · exact (congrArg (· + n.val) (congrFun (off1 t) 2)).trans (Nat.zero_add _)
  case s2 =>
    intro j n; pointwise []
    refine congrArg (iblk m c 1 t) (funext fun a => Fin.ext ?_)
    fin_cases a
    · exact congrFun (off2 t) 0
    · exact congrArg (· + j.val) (congrFun (off2 t) 1)
    · exact (congrArg (· + n.val) (congrFun (off2 t) 2)).trans (Nat.zero_add _)
  case s3 => intro j n; pointwise []
  case s4 => intro j n; pointwise []

/-- In cases B and C the result's tile is finished from the product carried from the point before. -/
theorem o_BC (c : Dev nD) (t : Fin cfg0.N) (ht : 1 ≤ t.val) :
    (outsAt0 m c t.val t.isLt).1 = oG (iblk m c 3 t) (outsAt0 m c (t.val - 1) (Nat.lt_of_le_of_lt (Nat.sub_le _ _) t.isLt)).2.2 (iblk m c 5 t) := by
  have hN : t.val < 33 := t.isLt
  by_cases h : t.val < 32
  · rw [outsAt0_B m c t (by omega) h (by omega)]; frame_out
    simp only [read_unread_whole]
    exact oLB_canon _ _ _
  · rw [outsAt0_C m c t (by omega) h (by omega)]; frame_out
    simp only [read_unread_whole]
    exact oLC_canon _ _ _

theorem wout_at (c : Dev nD) (t : ℕ) (ht : t < cfg0.N) (h : t < 32) :
    (outsAt0 m c t ht).2.1 = k0_pay2 (iblk m c 4 ⟨0, by decide⟩) := by
  induction t with
  | zero => exact wout_A m c ⟨0, ht⟩ (Nat.zero_mod _) (by show 0 < 32; omega) (by show ¬0 % 33 = 32; omega)
  | succ t ih =>
    rw [wout_B m c ⟨t + 1, ht⟩ (by show ¬(t + 1) % 33 = 0; omega) h (by show ¬(t + 1) % 33 = 32; omega)]
    exact ih (Nat.lt_of_succ_lt ht) (by omega)

end Cert.MixOutIdeal.Value

end
-- ==== Proof.OutRef.lean ====
module

public import proofs.«01_k».proof.Proof.Gen.RefOutIdeal.Run
public import Idealize.ShloMosaic.Lib.Pointwise

@[expose] public section

set_option maxRecDepth 16384

noncomputable section

open Idealize.ShloMosaic Idealize.ShloMosaic.TcCoe Idealize.SL.Sem

namespace Cert.RefOutIdeal.Value

open Cert.RefOutIdeal Cert.RefOutIdeal.Gen

/-- The reference's result, as its operations compose it, over its arguments. -/
def REF (A0 : FVec Ideal S16x2048x1024 .f32) (A1 : FVec Ideal S2x1024x2048 .bf16) (A2 : FVec Ideal S16x2x2048x512 .bf16)
    (A3 : FVec Ideal S16x2048x512 .bf16) (A4 : FVec Ideal S4x1024x1024 .f32) (A5 : FVec Ideal S4x1x1024 .f32) : FVec Ideal S16x2048x1024 .f32 :=
  addf A0 (mulf (mulf (Host.dotGeneral dot_S16x2048x1024_S1024x1024_S16x2048x1024_2_0_01_1_n_n none (concatenate S16x2048x1024 2 [⟨S16x2048x512, (shapeCast _ (transpose S16x1024x2x512 [1, 3, 0, 2] (Host.dotGeneral dot_S16x2x2048x512_S2x1024x2048_S2x16x512x1024_2_2_03_1_1_0 none (extf .f32 A2 bitsLt_bf16_f32) (extf .f32 A1 bitsLt_bf16_f32)) transposes_S2x16x512x1024_S16x1024x2x512_1_3_0_2) shapeCasts_S16x1024x2x512_S16x2048x512)⟩, ⟨S16x2048x512, (extf .f32 A3 bitsLt_bf16_f32)⟩] concatenates_S16x2048x512_S16x2048x512_S16x2048x1024_d2) (shapeCast _ (extractStridedSlice S1x1024x1024 ![0, 0, 0] A4 slices_S4x1024x1024_S1x1024x1024_0_0_0) shapeCasts_S1x1024x1024_S1024x1024)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (Host.dotGeneral dot_S16x2048x1024_S1024x1024_S16x2048x1024_2_0_01_1_n_n none (concatenate S16x2048x1024 2 [⟨S16x2048x512, (shapeCast _ (transpose S16x1024x2x512 [1, 3, 0, 2] (Host.dotGeneral dot_S16x2x2048x512_S2x1024x2048_S2x16x512x1024_2_2_03_1_1_0 none (extf .f32 A2 bitsLt_bf16_f32) (extf .f32 A1 bitsLt_bf16_f32)) transposes_S2x16x512x1024_S16x1024x2x512_1_3_0_2) shapeCasts_S16x1024x2x512_S16x2048x512)⟩, ⟨S16x2048x512, (extf .f32 A3 bitsLt_bf16_f32)⟩] concatenates_S16x2048x512_S16x2048x512_S16x2048x1024_d2) (shapeCast _ (extractStridedSlice S1x1024x1024 ![0, 0, 0] A4 slices_S4x1024x1024_S1x1024x1024_0_0_0) shapeCasts_S1x1024x1024_S1024x1024)) (Host.dotGeneral dot_S16x2048x1024_S1024x1024_S16x2048x1024_2_0_01_1_n_n none (concatenate S16x2048x1024 2 [⟨S16x2048x512, (shapeCast _ (transpose S16x1024x2x512 [1, 3, 0, 2] (Host.dotGeneral dot_S16x2x2048x512_S2x1024x2048_S2x16x512x1024_2_2_03_1_1_0 none (extf .f32 A2 bitsLt_bf16_f32) (extf .f32 A1 bitsLt_bf16_f32)) transposes_S2x16x512x1024_S16x1024x2x512_1_3_0_2) shapeCasts_S16x1024x2x512_S16x2048x512)⟩, ⟨S16x2048x512, (extf .f32 A3 bitsLt_bf16_f32)⟩] concatenates_S16x2048x512_S16x2048x512_S16x2048x1024_d2) (shapeCast _ (extractStridedSlice S1x1024x1024 ![0, 0, 0] A4 slices_S4x1024x1024_S1x1024x1024_0_0_0) shapeCasts_S1x1024x1024_S1024x1024))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1x1024 ![0, 0, 0] A5 slices_S4x1x1024_S1x1x1024_0_0_0) shapeCasts_S1x1x1024_S1024))))

/-- The product of the mixed sequence with the output weights, at one token and one feature: the Fourier half, then the pooled half. -/
def YR (A1 : FVec Ideal S2x1024x2048 .bf16) (A2 : FVec Ideal S16x2x2048x512 .bf16) (A3 : FVec Ideal S16x2048x512 .bf16) (A4 : FVec Ideal S4x1024x1024 .f32)
    (b : Fin 16) (s : Fin 2048) (d : Fin 1024) : EReal :=
  (∑ k : Fin 512, (∑ n : Fin 2048, A2 (ix4 b ⟨s.val % 2, by omega⟩ n k) * A1 (ix3 ⟨s.val % 2, by omega⟩ ⟨s.val / 2, by omega⟩ n)) * A4 (ix3 0 ⟨k.val, by omega⟩ d))
    + ∑ k : Fin 512, A3 (ix3 b s k) * A4 (ix3 0 ⟨512 + k.val, by omega⟩ d)

theorem REF_at (A0 : FVec Ideal S16x2048x1024 .f32) (A1 : FVec Ideal S2x1024x2048 .bf16) (A2 : FVec Ideal S16x2x2048x512 .bf16)
    (A3 : FVec Ideal S16x2048x512 .bf16) (A4 : FVec Ideal S4x1024x1024 .f32) (A5 : FVec Ideal S4x1x1024 .f32)
    (b : Fin 16) (s : Fin 2048) (d : Fin 1024) :
    REF A0 A1 A2 A3 A4 A5 (ix3 b s d) = A0 (ix3 b s d) + YR A1 A2 A3 A4 b s d
      * Ideal.rsqrt (Ideal.div (∑ l : Fin 1024, YR A1 A2 A3 A4 b s l * YR A1 A2 A3 A4 b s l) (Ideal.ofBits .f32 0x44800000#32) + Ideal.ofBits .f32 0x358637BD#32) * A5 (ix3 0 0 d) := by
  unfold YR
  pointwise [REF]

/-- The reference's run, its result named. -/
theorem run_REF (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold REF
  exact run m ρ

end Cert.RefOutIdeal.Value

end
-- ==== Proof.OutValue.lean ====
module

public import proofs.«01_k».proof.Proof.Gen.MixOutIdeal.Frame
public import Idealize.ShloMosaic.Lib.Pipeline.ValueKit
public import Idealize.ShloMosaic.Lib.Pointwise
public import proofs.«01_k».proof.Proof.OutPoint
public import proofs.«01_k».proof.Proof.OutRef

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

variable (m : (ℓ : Loc nD τ sig) → Buf (Elt Ideal) ℓ)

open Cert.RefOutIdeal.Value (REF REF_at YR)

/-- The product at an index of its tile: the Fourier half, then the pooled half. -/
theorem prod_at (d0 d1 : Vec Ideal S1x512x2048 .bf16) (a0 a1 : Vec Ideal S1x1x2048x512 .bf16) (p : Vec Ideal S1x1024x512 .bf16) (w : Vec Ideal S1x1024x1024 .f32)
    (r d : Fin 1024) :
    k0_pay5 (F := Ideal) (catG d0 d1 a0 a1 p) (k0_pay2 w) (ix2 r d)
      = (∑ k : Fin 512, yfS d0 d1 a0 a1 r k * w (ix3 0 ⟨k.val, by omega⟩ d)) + ∑ k : Fin 512, p (ix3 0 r k) * w (ix3 0 ⟨512 + k.val, by omega⟩ d) := by
  pointwise [k0_pay5, k0_pay2]
  refine (Fin.sum_univ_add (a := 512) (b := 512) fun k : Fin 1024 => catG d0 d1 a0 a1 p (ix2 r k) * w (ix3 0 k d)).trans ?_
  refine congrArg₂ (· + ·) (Finset.sum_congr rfl fun k _ => ?_) (Finset.sum_congr rfl fun k _ => ?_)
  · rw [catG_left d0 d1 a0 a1 p _ r k rfl rfl]; rfl
  · rw [catG_right d0 d1 a0 a1 p _ r k rfl rfl]; rfl

theorem wblk (c : Dev nD) (t : Fin cfg0.N) (k d : Fin 1024) : (iblk m c 4 t : Vec Ideal S1x1024x1024 .f32) (ix3 0 k d) = (m ((c : Thread nD τ).loc main_arg4)) (ix3 0 k d) := by
  blk_ext [iblk, V, idx t]

theorem pblk (c : Dev nD) (t : Fin cfg0.N) (h : t.val < 32) (r : Fin 1024) (k : Fin 512) :
    (iblk m c 2 t : Vec Ideal S1x1024x512 .bf16) (ix3 0 r k) = (m ((c : Thread nD τ).loc main_arg3)) (ix3 ⟨t.val / 2, by omega⟩ ⟨1024 * (t.val % 2) + r.val, by omega⟩ k) := by
  blk_ext [iblk, V, idx t]

theorem dblk (c : Dev nD) (t : Fin cfg0.N) (a : Fin 2) (j : Fin 1024) (n : Fin 2048) :
    (iblk m c 1 t : Vec Ideal S2x1024x2048 .bf16) (ix3 a j n) = (m ((c : Thread nD τ).loc main_arg1)) (ix3 a j n) := by
  blk_ext [iblk, V, idx t]

theorem ablk (c : Dev nD) (t : Fin cfg0.N) (h : t.val < 32) (a : Fin 2) (n : Fin 2048) (k : Fin 512) :
    (iblk m c 0 t : Vec Ideal S1x2x2048x512 .bf16) (ix4 0 a n k) = (m ((c : Thread nD τ).loc main_arg2)) (ix4 ⟨t.val / 2, by omega⟩ a n k) := by
  blk_ext [iblk, V, idx t]

/-- What the carried scratch holds after a point: the reference's product at that point's tokens. -/
theorem y_at (c : Dev nD) (t : Fin cfg0.N) (h : t.val < 32) (r d : Fin 1024) :
    ((outsAt0 m c t.val t.isLt).2.2 : Vec Ideal S1024x1024 .f32) (ix2 r d)
      = YR (m ((c : Thread nD τ).loc main_arg1)) (m ((c : Thread nD τ).loc main_arg2)) (m ((c : Thread nD τ).loc main_arg3)) (m ((c : Thread nD τ).loc main_arg4))
          ⟨t.val / 2, by omega⟩ ⟨1024 * (t.val % 2) + r.val, by omega⟩ d := by
  obtain ⟨d0, d1, a0, a1, e, s1, s2, s3, s4⟩ : ∃ (d0 d1 : Vec Ideal S1x512x2048 .bf16) (a0 a1 : Vec Ideal S1x1x2048x512 .bf16),
      (outsAt0 m c t.val t.isLt).2.2 = k0_pay5 (catG d0 d1 a0 a1 (iblk m c 2 t)) (k0_pay2 (iblk m c 4 ⟨0, by decide⟩))
      ∧ (∀ (j : Fin 512) (n : Fin 2048), d0 (ix3 0 j n) = (iblk m c 1 t : Vec Ideal S2x1024x2048 .bf16) (ix3 0 ⟨512 * (t.val % 2) + j.val, by omega⟩ n))
      ∧ (∀ (j : Fin 512) (n : Fin 2048), d1 (ix3 0 j n) = (iblk m c 1 t : Vec Ideal S2x1024x2048 .bf16) (ix3 1 ⟨512 * (t.val % 2) + j.val, by omega⟩ n))
      ∧ (∀ (n : Fin 2048) (k : Fin 512), a0 (ix4 0 0 n k) = (iblk m c 0 t : Vec Ideal S1x2x2048x512 .bf16) (ix4 0 0 n k))
      ∧ (∀ (n : Fin 2048) (k : Fin 512), a1 (ix4 0 0 n k) = (iblk m c 0 t : Vec Ideal S1x2x2048x512 .bf16) (ix4 0 1 n k)) := by
    by_cases h0 : t.val % 33 = 0
    · have ht : t = ⟨0, by decide⟩ := Fin.ext (by show t.val = 0; omega)
      have := y_A m c t h0 h (by omega)
      rwa [show iblk m c 4 t = iblk m c 4 ⟨0, by decide⟩ from by rw [ht]] at this
    · have := y_B m c t h0 h (by omega)
      rwa [wout_at m c (t.val - 1) (Nat.lt_of_le_of_lt (Nat.sub_le _ _) t.isLt) (by omega)] at this
  rw [e, prod_at, YR]
  refine congrArg₂ (· + ·) (Finset.sum_congr rfl fun k _ => congrArg₂ (· * ·) ?_ (wblk m c _ _ _)) (Finset.sum_congr rfl fun k _ => congrArg₂ (· * ·) (pblk m c t h r k) (wblk m c _ _ _))
  rw [yfS]
  split
  · rename_i hr
    refine Finset.sum_congr rfl fun n _ => ?_
    rw [s1, s3, dblk, ablk m c t h, mul_comm]
    refine congrArg₂ (· * ·) ?_ ?_ <;> blk_ext []
  · rename_i hr
    refine Finset.sum_congr rfl fun n _ => ?_
    rw [s2, s4, dblk, ablk m c t h, mul_comm]
    refine congrArg₂ (· * ·) ?_ ?_ <;> blk_ext []

theorem xblk (c : Dev nD) (t : Fin cfg0.N) (r d : Fin 1024) :
    (iblk m c 3 t : Vec Ideal S1x1024x1024 .f32) (ix3 0 r d) = (m ((c : Thread nD τ).loc main_arg0))
      (ix3 ⟨(t.val - 1) / 2, by have h : t.val < 33 := t.isLt; omega⟩ ⟨1024 * ((t.val - 1) % 2) + r.val, by omega⟩ d) := by
  blk_ext [iblk, V, idx t]

theorem gblk (c : Dev nD) (t : Fin cfg0.N) (d : Fin 1024) : (iblk m c 5 t : Vec Ideal S1x1x1024 .f32) (ix3 0 0 d) = (m ((c : Thread nD τ).loc main_arg5)) (ix3 0 0 d) := by
  blk_ext [iblk, V, idx t]

theorem idx1024 (x : S1x1024x1024.Idx) : ∃ (r d : Fin 1024), x = ix3 0 r d :=
  ⟨x 1, x 2, funext fun a => by fin_cases a; exact Fin.ext (by have h := (x 0).isLt; exact Nat.lt_one_iff.mp h); rfl; rfl⟩

/-- The kernel's result array, after its last grid point, is the reference's result. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ covers fun t hf y => ?_
  have ht : 1 ≤ t.val := flush_pos t hf
  have hN : t.val < 33 := t.isLt
  blk_simp
  rw [after0_6, o_BC m c t ht]
  obtain ⟨r, d, rfl⟩ := idx1024 y
  rw [show (win0_6.blk t).view.emb (ix3 0 r d : S1x1024x1024.Idx) = (ix3 ⟨(t.val - 1) / 2, by omega⟩ ⟨1024 * ((t.val - 1) % 2) + r.val, by omega⟩ d : S16x2048x1024.Idx) from by blk_ext [idx t]]
  rw [REF_at, oG_at _ _ _ _ r d rfl rfl]
  have hy := y_at m c ⟨t.val - 1, lt_trans (Nat.sub_lt ht Nat.one_pos) t.isLt⟩ (by show t.val - 1 < 32; omega) r
  refine congrArg₂ (· + ·) (xblk m c t r d) (congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (gblk m c t d))

end Cert.MixOutIdeal.Value

end
-- ==== Proof.FfnSlice.lean ====
module

public import Idealize.ShloMosaic.Lib.WritesUnit
public import Idealize.ShloMosaic.Lib.Tactic

@[expose] public section

noncomputable section

namespace Cert.FfnSlice

open Idealize.ShloMosaic Idealize.ShloMosaic.TcCoe

variable {F : FTy → Type} {sig : RefSig}

/-- Storing a point's slice of rows moves the loaded rows on by one slice. -/
theorem slice_step {d : Fin 2 → ℕ} {e : EltTy} {sp : Space} (v : View sig .tc sp (⟨2, d⟩ : Shape) e) (f : v.ty.Contents (Elt F)) {off size : Fin 2 → ℕ} (inb : ∀ a : Fin 2, off a + size a ≤ d a)
    (w : (Rect.unit (s := ⟨2, d⟩) off size inb).shape.Idx → Elt F e) (n W : ℕ) (d0 G : (⟨2, d⟩ : Shape).Idx → Elt F e) (hd : v.read (Elt F) f = d0)
    (hoff : off = ![W * n, 0]) (hW : size 0 = W) (hD : size 1 = d 1)
    (hG : ∀ (x : (Rect.unit (s := ⟨2, d⟩) off size inb).shape.Idx) (y : (⟨2, d⟩ : Shape).Idx), (y 0).val = W * n + (x 0).val → (y 1).val = (x 1).val → w x = G y)
    (h : ∀ y, (y 0).val < W * n → d0 y = G y) (y : (⟨2, d⟩ : Shape).Idx) (hy : (y 0).val < W * (n + 1)) :
    v.read (Elt F) (v.writes (Elt F) f [⟨Rect.unit (s := ⟨2, d⟩) off size inb, w⟩]) y = G y := by
  by_cases hn : (y 0).val < W * n
  · rw [View.read_writes_cons_rows_of_not_mem v f inb w [] y hoff hW (.inl hn), View.writes_nil, hd]
    exact h y hn
  · have hb : W * n ≤ (y 0).val ∧ (y 0).val < W * n + W := ⟨by omega, by rw [Nat.mul_succ] at hy; exact hy⟩
    rw [View.read_writes_cons_rows v f inb w [] y hoff hW hD, dif_pos hb]
    refine hG _ y ?_ ?_
    · rw [Rect.unitLocal_val]; exact (Nat.add_sub_cancel' hb.1).symm
    · rw [Rect.unitLocal_val]; exact (Nat.sub_zero _).symm

end Cert.FfnSlice

end
-- ==== Proof.FfnIdealPoints.lean ====
module

public import proofs.«01_k».proof.Proof.Gen.FfnIdeal.Frame
public import proofs.«01_k».proof.Proof.Gen.FfnIdeal.Skeleton
public import proofs.«01_k».proof.Proof.Gen.FfnIdeal.Points
public import proofs.«01_k».proof.Proof.Gen.FfnIdeal.Launch
public import Idealize.ShloMosaic.Lib.Pipeline.FrameBody
public import Idealize.ShloMosaic.Lib.Pipeline.ValueKit
public import Idealize.ShloMosaic.Lib.Pipeline.TableIdle
public import Idealize.ShloMosaic.Lib.Ring
public import Idealize.ShloMosaic.Lib.WritesUnit
public import Idealize.ShloMosaic.Lib.Tactic
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- The first points, which load the weights. -/
abbrev condL (i : grid0.Coords) : Prop := k0_cond1 i = 1#1
/-- The first tile's point. -/
abbrev condZ (i : grid0.Coords) : Prop := (Scalar.cmpi .ne (Scalar.extui (Scalar.cmpi .eq (Scalar.subi (BitVec.ofNat 32 (i 0).val) 4#32) 0#32)) 0#32) = 1#1
/-- The points with a tile of their own. -/
abbrev condT (i : grid0.Coords) : Prop := k0_cond3 i = 1#1
/-- The last point. -/
abbrev condE (i : grid0.Coords) : Prop := k0_cond4 i = 1#1

theorem hcondL : ∀ t : Fin cfg0.N, condL (grid0.coords t) ↔ t.val < 4 := (by decide +kernel : ∀ t : Fin grid0.N, _)
theorem hcondZ : ∀ t : Fin cfg0.N, condZ (grid0.coords t) ↔ t.val = 4 := (by decide +kernel : ∀ t : Fin grid0.N, _)
theorem hcondT : ∀ t : Fin cfg0.N, condT (grid0.coords t) ↔ 4 ≤ t.val ∧ t.val < 68 := (by decide +kernel : ∀ t : Fin grid0.N, _)
theorem hcondE : ∀ t : Fin cfg0.N, condE (grid0.coords t) ↔ t.val = 68 := (by decide +kernel : ∀ t : Fin grid0.N, _)

/-! The outputs are left alone at the loading points and written at every other. -/

theorem idleOut7 : ∀ t : Fin cfg0.N, cfg0.idle 7 (grid0.coords t) = decide (t.val < 4) := (by decide +kernel : ∀ t : Fin grid0.N, _)
theorem flushOut7 : ∀ t : Fin cfg0.N, t.val < 4 → (cfg0.win 7).flush t = false := (by decide +kernel : ∀ t : Fin grid0.N, _)
theorem idleOut8 : ∀ t : Fin cfg0.N, cfg0.idle 8 (grid0.coords t) = decide (t.val < 4) := (by decide +kernel : ∀ t : Fin grid0.N, _)
theorem flushOut8 : ∀ t : Fin cfg0.N, t.val < 4 → (cfg0.win 8).flush t = false := (by decide +kernel : ∀ t : Fin grid0.N, _)

theorem offGate : ∀ t : Fin cfg0.N, t.val < 4 → k0_off1 (grid0.coords t) = ![256 * t.val, 0] := (by decide +kernel : ∀ t : Fin grid0.N, _)
theorem offDown : ∀ t : Fin cfg0.N, t.val < 4 → k0_off2 (grid0.coords t) = ![704 * t.val, 0] := (by decide +kernel : ∀ t : Fin grid0.N, _)

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x2816 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2816 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x704x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .bf16 := win0_8.stage (cfg0.slots t 8)
abbrev hs8 (t : Fin cfg0.N) : (ms8 t).IsWhole := hstage0_8 ((cfg0.slots t 8).cast nbuf0_8)
abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2
abbrev sc3 : Memref sig .tc .vmem S512x2816 .bf16 := Memref.whole cc0_scratch3
abbrev sc4 : Memref sig .tc .vmem S512x1024 .f32 := Memref.whole cc0_scratch4

/-- A buffer owned whole, at contents. -/
abbrev own {s : Shape} {e : EltTy} (c : Dev nD) (a : Memref sig .tc .vmem s e) (x : Vec F s e) : sProp 𝕄 := owns (c : Thread nD τ) a fullShare x
/-- A buffer owned whole, with pieces written over contents. -/
abbrev wr {s : Shape} {e : EltTy} (c : Dev nD) (a : Memref sig .tc .vmem s e) (f : a.view.ty.Contents (Elt F)) (L : List (View.Piece (Elt F) s e)) : sProp 𝕄 := a.view.loc (c : Thread nD τ) ↦[a.view.set]{fullShare} a.view.writes (Elt F) f L

/-- What was owned at its contents is so again. -/
theorem own_back {s : Shape} {e : EltTy} {c : Dev nD} {a : Memref sig .tc .vmem s e} (h : a.IsWhole) (x : Vec F s e) :
    (a.view.loc (c : Thread nD τ) ↦[a.view.set]{fullShare} h.unread x : sProp 𝕄) ⊢ iprop(∃ f, ⌜a.view.read (Elt F) f = x⌝ ∗ a.view.loc (c : Thread nD τ) ↦[a.view.set]{fullShare} f) := by
  iintro H
  iexists _; isplitr; · ipureintro; exact h.read_unread _
  iexact H
/-- What was written over is owned at what it reads. -/
theorem own_read {s : Shape} {e : EltTy} {c : Dev nD} {a : Memref sig .tc .vmem s e} (f : a.view.ty.Contents (Elt F)) :
    (a.view.loc (c : Thread nD τ) ↦[a.view.set]{fullShare} f : sProp 𝕄) ⊢ own c a (a.view.read (Elt F) f) := by
  unfold own owns
  iintro H
  iexists _; isplitr; swap; · iexact H
  ipureintro; rfl

/-- What the launch hands over, with each scratch as a buffer owned at some contents. -/
theorem launchInv_eq (c : Dev nD) :
    (Pipeline.ΦA spec0 c : sProp 𝕄)
      = iprop(iprop((∃ d, own c sc0 d) ∗ (∃ d, own c sc1 d) ∗ (∃ d, own c sc2 d) ∗ (∃ d, own c sc3 d) ∗ (∃ d, own c sc4 d)) ∗ (∃ r, prngReg c r)) := by
  unfold Pipeline.ΦA; rw [scopedRest0_eq]; simp only [sc0, sc1, sc2, sc3, sc4, own, owns_whole]; try rfl

end Cert.FfnIdeal.Hand

end
-- ==== Proof.FfnIdealRun.lean ====
module

public import proofs.«01_k».proof.Proof.FfnIdealPoints

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .bf16) (harg1 : arg1.IsWhole)
  (arg2 : Memref sig .tc .vmem S512x1024 .f32) (harg2 : arg2.IsWhole)
  (arg3 : Memref sig .tc .vmem S1x256x2816 .f32) (harg3 : arg3.IsWhole)
  (arg4 : Memref sig .tc .vmem S1x256x2816 .f32) (harg4 : arg4.IsWhole)
  (arg5 : Memref sig .tc .vmem S1x704x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S512x1024 .f32) (harg8 : arg8.IsWhole)
  (arg9 : Memref sig .tc .vmem S512x1024 .bf16) (harg9 : arg9.IsWhole)
  (arg10 : Memref sig .tc .vmem S1024x2816 .bf16) (harg10 : arg10.IsWhole)
  (arg11 : Memref sig .tc .vmem S1024x2816 .bf16) (harg11 : arg11.IsWhole)
  (arg12 : Memref sig .tc .vmem S2816x1024 .bf16) (harg12 : arg12.IsWhole)
  (arg13 : Memref sig .tc .vmem S512x2816 .bf16) (harg13 : arg13.IsWhole)
  (arg14 : Memref sig .tc .vmem S512x1024 .f32) (harg14 : arg14.IsWhole)
  (x0 : Vec F S512x1024 .bf16) (x1 : Vec F S512x1024 .f32) (x2 : Vec F S1x256x2816 .f32) (x3 : Vec F S1x256x2816 .f32) (x4 : Vec F S1x704x1024 .f32) (x5 : Vec F S1x1x1024 .f32) (x6 : Vec F S1x1x1024 .f32)
  (w0 w1 : Vec F S1024x2816 .bf16) (w2 : Vec F S2816x1024 .bf16)

/-- The blocks of the inputs, staged. -/
def ins : sProp 𝕄 := iprop(own c arg1 x0 ∗ own c arg2 x1 ∗ own c arg3 x2 ∗ own c arg4 x3 ∗ own c arg5 x4 ∗ own c arg6 x5 ∗ own c arg7 x6)
/-- The three weight scratches. -/
def wts : sProp 𝕄 := iprop(own c arg10 w0 ∗ own c arg11 w1 ∗ own c arg12 w2)

set_option maxHeartbeats 4000000 in
/-- The body at a loading point: a slice of each weight scratch is stored over what it held. -/
def RunLoad (hc0 : condL i) (hc1 : ¬condZ i) (hc2 : ¬condT i) (hc3 : ¬condE i) :
    Σ' (L9 : List (View.Piece (Elt F) S1024x2816 .bf16)), Σ' (L10 : List (View.Piece (Elt F) S1024x2816 .bf16)), { L11 : List (View.Piece (Elt F) S2816x1024 .bf16) //
      ∀ (E : Set ℕ) (K : PUnit → sProp 𝕄),
        iprop(ins c arg1 arg2 arg3 arg4 arg5 arg6 arg7 x0 x1 x2 x3 x4 x5 x6 ∗ (∃ d, own c arg8 d) ∗ (∃ d, own c arg9 d) ∗ wts c arg10 arg11 arg12 w0 w1 w2 ∗ (∃ d, own c arg13 d) ∗ (∃ d, own c arg14 d)
            ∗ (iprop(ins c arg1 arg2 arg3 arg4 arg5 arg6 arg7 x0 x1 x2 x3 x4 x5 x6 ∗ (∃ d, own c arg8 d) ∗ (∃ d, own c arg9 d) ∗ (∃ f, ⌜arg10.view.read (Elt F) f = w0⌝ ∗ wr c arg10 f L9) ∗ (∃ f, ⌜arg11.view.read (Elt F) f = w1⌝ ∗ wr c arg11 f L10) ∗ (∃ f, ⌜arg12.view.read (Elt F) f = w2⌝ ∗ wr c arg12 f L11) ∗ (∃ d, own c arg13 d) ∗ (∃ d, own c arg14 d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨⟨%f9, %hf9, H9⟩, ⟨%f10, %hf10, H10⟩, ⟨%f11, %hf11, H11⟩⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11
    sl_exec (disch := first | sl_exact hc0 | sl_exact hc1 | sl_exact hc2 | sl_exact hc3)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _, _; isplitr; swap; · iexact H7
      ipureintro; rfl
    isplitl [H8]
    · iexists _, _; isplitr; swap; · iexact H8
      ipureintro; rfl
    isplitl [H9]
    · iexists _; isplitr; swap; · iexact H9
      ipureintro; exact harg10.read_unread _
    isplitl [H10]
    · iexists _; isplitr; swap; · iexact H10
      ipureintro; exact harg11.read_unread _
    isplitl [H11]
    · iexists _; isplitr; swap; · iexact H11
      ipureintro; exact harg12.read_unread _
    isplitl [H12]
    · iexists _, _; isplitr; swap; · iexact H12
      ipureintro; rfl
    · iexists _, _; isplitr; swap; · iexact H13
      ipureintro; rfl

set_option maxHeartbeats 4000000 in
/-- The body at the first tile. -/
def RunFirst (hc0 : ¬condL i) (hc1 : condZ i) (hc2 : condT i) (hc3 : ¬condE i) :
    Σ' (L7 : List (View.Piece (Elt F) S512x1024 .f32)), Σ' (L8 : List (View.Piece (Elt F) S512x1024 .bf16)), Σ' (L12 : List (View.Piece (Elt F) S512x2816 .bf16)), { L13 : List (View.Piece (Elt F) S512x1024 .f32) //
      ∀ (E : Set ℕ) (K : PUnit → sProp 𝕄),
        iprop(ins c arg1 arg2 arg3 arg4 arg5 arg6 arg7 x0 x1 x2 x3 x4 x5 x6 ∗ (∃ d, own c arg8 d) ∗ (∃ d, own c arg9 d) ∗ wts c arg10 arg11 arg12 w0 w1 w2 ∗ (∃ d, own c arg13 d) ∗ (∃ d, own c arg14 d)
            ∗ (iprop(ins c arg1 arg2 arg3 arg4 arg5 arg6 arg7 x0 x1 x2 x3 x4 x5 x6 ∗ (∃ f, wr c arg8 f L7) ∗ (∃ f, wr c arg9 f L8) ∗ wts c arg10 arg11 arg12 w0 w1 w2 ∗ (∃ f, wr c arg13 f L12) ∗ (∃ f, wr c arg14 f L13)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨⟨%f9, %hf9, H9⟩, ⟨%f10, %hf10, H10⟩, ⟨%f11, %hf11, H11⟩⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11
    sl_exec (disch := first | sl_exact hc0 | sl_exact hc1 | sl_exact hc2 | sl_exact hc3)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8]
    · iexists _; iexact H8
    isplitl [H9 H10 H11]
    · skip
      isplitl [H9]
      · iapply (own_back harg10 _); iexact H9
      isplitl [H10]
      · iapply (own_back harg11 _); iexact H10
      · iapply (own_back harg12 _); iexact H11
    isplitl [H12]
    · iexists _; iexact H12
    · iexists _; iexact H13

set_option maxHeartbeats 4000000 in
/-- The body at a later tile: the tile before is finished, this tile multiplied. -/
def RunTile (hc0 : ¬condL i) (hc1 : ¬condZ i) (hc2 : condT i) (hc3 : ¬condE i) (ys : Vec F S512x1024 .f32) :
    Σ' (L7 : List (View.Piece (Elt F) S512x1024 .f32)), Σ' (L8 : List (View.Piece (Elt F) S512x1024 .bf16)), Σ' (L12 : List (View.Piece (Elt F) S512x2816 .bf16)), { L13 : List (View.Piece (Elt F) S512x1024 .f32) //
      ∀ (E : Set ℕ) (K : PUnit → sProp 𝕄),
        iprop(ins c arg1 arg2 arg3 arg4 arg5 arg6 arg7 x0 x1 x2 x3 x4 x5 x6 ∗ (∃ d, own c arg8 d) ∗ (∃ d, own c arg9 d) ∗ wts c arg10 arg11 arg12 w0 w1 w2 ∗ (∃ d, own c arg13 d) ∗ own c arg14 ys
            ∗ (iprop(ins c arg1 arg2 arg3 arg4 arg5 arg6 arg7 x0 x1 x2 x3 x4 x5 x6 ∗ (∃ f, wr c arg8 f L7) ∗ (∃ f, wr c arg9 f L8) ∗ wts c arg10 arg11 arg12 w0 w1 w2 ∗ (∃ f, wr c arg13 f L12) ∗ (∃ f, ⌜arg14.view.read (Elt F) f = ys⌝ ∗ wr c arg14 f L13)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨⟨%f9, %hf9, H9⟩, ⟨%f10, %hf10, H10⟩, ⟨%f11, %hf11, H11⟩⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg14.eq_unread hf13
    sl_exec (disch := first | sl_exact hc0 | sl_exact hc1 | sl_exact hc2 | sl_exact hc3)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8]
    · iexists _; iexact H8
    isplitl [H9 H10 H11]
    · skip
      isplitl [H9]
      · iapply (own_back harg10 _); iexact H9
      isplitl [H10]
      · iapply (own_back harg11 _); iexact H10
      · iapply (own_back harg12 _); iexact H11
    isplitl [H12]
    · iexists _; iexact H12
    · iexists _; isplitr; swap; · iexact H13
      ipureintro; exact harg14.read_unread _

set_option maxHeartbeats 4000000 in
/-- The body at the last point: the last tile is finished. -/
def RunLast (hc0 : ¬condL i) (hc1 : ¬condZ i) (hc2 : ¬condT i) (hc3 : condE i) (ys : Vec F S512x1024 .f32) :
    Σ' (L7 : List (View.Piece (Elt F) S512x1024 .f32)), { L8 : List (View.Piece (Elt F) S512x1024 .bf16) //
      ∀ (E : Set ℕ) (K : PUnit → sProp 𝕄),
        iprop(ins c arg1 arg2 arg3 arg4 arg5 arg6 arg7 x0 x1 x2 x3 x4 x5 x6 ∗ (∃ d, own c arg8 d) ∗ (∃ d, own c arg9 d) ∗ wts c arg10 arg11 arg12 w0 w1 w2 ∗ (∃ d, own c arg13 d) ∗ own c arg14 ys
            ∗ (iprop(ins c arg1 arg2 arg3 arg4 arg5 arg6 arg7 x0 x1 x2 x3 x4 x5 x6 ∗ (∃ f, wr c arg8 f L7) ∗ (∃ f, wr c arg9 f L8) ∗ wts c arg10 arg11 arg12 w0 w1 w2 ∗ (∃ d, own c arg13 d) ∗ own c arg14 ys) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨⟨%f9, %hf9, H9⟩, ⟨%f10, %hf10, H10⟩, ⟨%f11, %hf11, H11⟩⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg14.eq_unread hf13
    sl_exec (disch := first | sl_exact hc0 | sl_exact hc1 | sl_exact hc2 | sl_exact hc3)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8]
    · iexists _; iexact H8
    isplitl [H9 H10 H11]
    · skip
      isplitl [H9]
      · iapply (own_back harg10 _); iexact H9
      isplitl [H10]
      · iapply (own_back harg11 _); iexact H10
      · iapply (own_back harg12 _); iexact H11
    isplitl [H12]
    · iexists _, _; isplitr; swap; · iexact H12
      ipureintro; rfl
    · iapply (own_back harg14 _); iexact H13

end Cert.FfnIdeal.Hand

end
-- ==== Proof.FfnIdealData.lean ====
module

public import proofs.«01_k».proof.Proof.FfnIdealRun

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the weight scratches hold once loaded -/

/-- The gate weights: row `r` was stored at point `r / 256`. -/
def gateW (c : Dev nD) : Vec F S1024x2816 .bf16 := fun y =>
  have h : (y 0).val < 1024 := (y 0).isLt
  k0_pay1 (iblk m c 2 ⟨(y 0).val / 256, lt_of_lt_of_eq (b := 69) (by omega) N_0.symm⟩) (ix2 ⟨(y 0).val % 256, Nat.mod_lt _ (by decide)⟩ (y 1))
/-- The up weights, likewise. -/
def upW (c : Dev nD) : Vec F S1024x2816 .bf16 := fun y =>
  have h : (y 0).val < 1024 := (y 0).isLt
  k0_pay2 (iblk m c 3 ⟨(y 0).val / 256, lt_of_lt_of_eq (b := 69) (by omega) N_0.symm⟩) (ix2 ⟨(y 0).val % 256, Nat.mod_lt _ (by decide)⟩ (y 1))
/-- The down weights: row `r` was stored at point `r / 704`. -/
def downW (c : Dev nD) : Vec F S2816x1024 .bf16 := fun y =>
  have h : (y 0).val < 2816 := (y 0).isLt
  k0_pay3 (iblk m c 4 ⟨(y 0).val / 704, lt_of_lt_of_eq (b := 69) (by omega) N_0.symm⟩) (ix2 ⟨(y 0).val % 704, Nat.mod_lt _ (by decide)⟩ (y 1))

/-- Before point `n` the weight scratches hold the rows the points before stored. -/
structure Loaded (c : Dev nD) (n : ℕ) (d0 : Vec F S1024x2816 .bf16) (d1 : Vec F S1024x2816 .bf16) (d2 : Vec F S2816x1024 .bf16) : Prop where
  gate : ∀ y, (y 0).val < 256 * min n 4 → d0 y = gateW m c y
  up : ∀ y, (y 0).val < 256 * min n 4 → d1 y = upW m c y
  down : ∀ y, (y 0).val < 704 * min n 4 → d2 y = downW m c y

theorem Loaded.all {c : Dev nD} {n : ℕ} {d0 d1 d2} (h : Loaded m c n d0 d1 d2) (hn : 4 ≤ n) : d0 = gateW m c ∧ d1 = upW m c ∧ d2 = downW m c := by
  have e : min n 4 = 4 := by omega
  refine ⟨funext fun y => h.gate y ?_, funext fun y => h.up y ?_, funext fun y => h.down y ?_⟩
  · rw [e]; exact (y 0).isLt
  · rw [e]; exact (y 0).isLt
  · rw [e]; exact (y 0).isLt

section

variable (c : Dev nD) (t : Fin cfg0.N)

/-- The blocks of the inputs at a point. -/
abbrev insAt : sProp 𝕄 := ins c (ms0 t) (ms1 t) (ms2 t) (ms3 t) (ms4 t) (ms5 t) (ms6 t) (iblk m c 0 t) (iblk m c 1 t) (iblk m c 2 t) (iblk m c 3 t) (iblk m c 4 t) (iblk m c 5 t) (iblk m c 6 t)

section
variable (ht : t.val < 4) (d0 d1 : Vec F S1024x2816 .bf16) (d2 : Vec F S2816x1024 .bf16)
/-- The run of the body at a point, load. -/
abbrev rLoad :=
  RunLoad (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) d0 d1 d2 ((hcondL t).mpr (by omega)) (fun h => absurd ((hcondZ t).mp h) (by omega)) (fun h => absurd ((hcondT t).mp h) (by omega)) (fun h => absurd ((hcondE t).mp h) (by omega))
end

section
variable (ht : t.val = 4)
/-- The run of the body at a point, first. -/
abbrev rFirst :=
  RunFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) ((hcondZ t).mpr (by omega)) ((hcondT t).mpr (by omega)) (fun h => absurd ((hcondE t).mp h) (by omega))
/-- What first leaves of the residual stream. -/
def xFirst : Vec F S512x1024 .f32 := View.canon (rFirst m c t ht).1
theorem cover_xFirst (y : S512x1024.Idx) : ∃ pc ∈ (rFirst m c t ht).1, y ∈ pc.1.set :=
  View.cover_of_tiledL (rFirst m c t ht).1 S128x1024.size (by sl_kernel_rfl) y
/-- What first leaves of the next norm. -/
def hFirst : Vec F S512x1024 .bf16 := View.canon (rFirst m c t ht).2.1
theorem cover_hFirst (y : S512x1024.Idx) : ∃ pc ∈ (rFirst m c t ht).2.1, y ∈ pc.1.set :=
  View.cover_of_tiledL (rFirst m c t ht).2.1 S128x1024.size (by sl_kernel_rfl) y
/-- What first leaves of the product. -/
def yFirst : Vec F S512x1024 .f32 := View.canon (rFirst m c t ht).2.2.2.1
theorem cover_yFirst (y : S512x1024.Idx) : ∃ pc ∈ (rFirst m c t ht).2.2.2.1, y ∈ pc.1.set :=
  View.cover_of_tiledL (rFirst m c t ht).2.2.2.1 S512x1024.size (by sl_kernel_rfl) y
end

section
variable (ht : 5 ≤ t.val ∧ t.val < 68) (ys : Vec F S512x1024 .f32)
/-- The run of the body at a point, tile. -/
abbrev rTile :=
  RunTile (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) (fun h => absurd ((hcondZ t).mp h) (by omega)) ((hcondT t).mpr (by omega)) (fun h => absurd ((hcondE t).mp h) (by omega)) ys
/-- What tile leaves of the residual stream. -/
def xTile : Vec F S512x1024 .f32 := View.canon (rTile m c t ht ys).1
theorem cover_xTile (y : S512x1024.Idx) : ∃ pc ∈ (rTile m c t ht ys).1, y ∈ pc.1.set :=
  View.cover_of_tiledL (rTile m c t ht ys).1 S128x1024.size (by sl_kernel_rfl) y
/-- What tile leaves of the next norm. -/
def hTile : Vec F S512x1024 .bf16 := View.canon (rTile m c t ht ys).2.1
theorem cover_hTile (y : S512x1024.Idx) : ∃ pc ∈ (rTile m c t ht ys).2.1, y ∈ pc.1.set :=
  View.cover_of_tiledL (rTile m c t ht ys).2.1 S128x1024.size (by sl_kernel_rfl) y
/-- What tile leaves of the product. -/
def yTile : Vec F S512x1024 .f32 := View.canon (rTile m c t ht ys).2.2.2.1
theorem cover_yTile (y : S512x1024.Idx) : ∃ pc ∈ (rTile m c t ht ys).2.2.2.1, y ∈ pc.1.set :=
  View.cover_of_tiledL (rTile m c t ht ys).2.2.2.1 S512x1024.size (by sl_kernel_rfl) y
end

section
variable (ht : t.val = 68) (ys : Vec F S512x1024 .f32)
/-- The run of the body at a point, last. -/
abbrev rLast :=
  RunLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) (fun h => absurd ((hcondZ t).mp h) (by omega)) (fun h => absurd ((hcondT t).mp h) (by omega)) ((hcondE t).mpr (by omega)) ys
/-- What last leaves of the residual stream. -/
def xLast : Vec F S512x1024 .f32 := View.canon (rLast m c t ht ys).1
theorem cover_xLast (y : S512x1024.Idx) : ∃ pc ∈ (rLast m c t ht ys).1, y ∈ pc.1.set :=
  View.cover_of_tiledL (rLast m c t ht ys).1 S128x1024.size (by sl_kernel_rfl) y
/-- What last leaves of the next norm. -/
def hLast : Vec F S512x1024 .bf16 := View.canon (rLast m c t ht ys).2.1
theorem cover_hLast (y : S512x1024.Idx) : ∃ pc ∈ (rLast m c t ht ys).2.1, y ∈ pc.1.set :=
  View.cover_of_tiledL (rLast m c t ht ys).2.1 S128x1024.size (by sl_kernel_rfl) y
end

end

/-- What the product scratch holds after point `n`. -/
def yAt (c : Dev nD) : ℕ → Vec F S512x1024 .f32
  | 0 => View.canon []
  | n + 1 =>
    if h4 : n + 1 = 4 then yFirst m c ⟨n + 1, lt_of_lt_of_eq (b := 69) (by omega) N_0.symm⟩ h4
    else if h5 : 5 ≤ n + 1 ∧ n + 1 < 68 then yTile m c ⟨n + 1, lt_of_lt_of_eq (b := 69) (by omega) N_0.symm⟩ h5 (yAt c n)
    else View.canon []

theorem yAt_first (c : Dev nD) (t : Fin cfg0.N) (ht : t.val = 4) : yAt m c t.val = yFirst m c t ht := by
  obtain ⟨n, hn⟩ := t
  obtain rfl : n = 4 := ht
  exact dif_pos rfl

/-- The product the point before left. -/
abbrev yBefore (c : Dev nD) (t : Fin cfg0.N) := yAt m c (t.val - 1)

theorem yAt_tile (c : Dev nD) (t : Fin cfg0.N) (ht : 5 ≤ t.val ∧ t.val < 68) : yAt m c t.val = yTile m c t ht (yBefore m c t) := by
  obtain ⟨n, hn⟩ := t
  cases n with
  | zero => exact absurd ht.1 (by show ¬ 5 ≤ 0; omega)
  | succ n => exact (dif_neg (by have := ht.1; simp only at this; omega)).trans (dif_pos ht)

/-- What the body leaves of the residual stream at a point. -/
def xOut (c : Dev nD) (t : Fin cfg0.N) : Vec F S512x1024 .f32 :=
  if h4 : t.val = 4 then xFirst m c t h4
  else if h5 : 5 ≤ t.val ∧ t.val < 68 then xTile m c t h5 (yBefore m c t)
  else if h7 : t.val = 68 then xLast m c t h7 (yBefore m c t)
  else View.canon []

theorem xOut_first (c : Dev nD) (t : Fin cfg0.N) (ht : t.val = 4) : xOut m c t = xFirst m c t ht := dif_pos ht
theorem xOut_tile (c : Dev nD) (t : Fin cfg0.N) (ht : 5 ≤ t.val ∧ t.val < 68) : xOut m c t = xTile m c t ht (yBefore m c t) :=
  (dif_neg (by omega)).trans (dif_pos ht)
theorem xOut_last (c : Dev nD) (t : Fin cfg0.N) (ht : t.val = 68) : xOut m c t = xLast m c t ht (yBefore m c t) :=
  (dif_neg (by omega)).trans ((dif_neg (by omega)).trans (dif_pos ht))

/-- What the body leaves of the next norm at a point. -/
def hOut (c : Dev nD) (t : Fin cfg0.N) : Vec F S512x1024 .bf16 :=
  if h4 : t.val = 4 then hFirst m c t h4
  else if h5 : 5 ≤ t.val ∧ t.val < 68 then hTile m c t h5 (yBefore m c t)
  else if h7 : t.val = 68 then hLast m c t h7 (yBefore m c t)
  else View.canon []

theorem hOut_first (c : Dev nD) (t : Fin cfg0.N) (ht : t.val = 4) : hOut m c t = hFirst m c t ht := dif_pos ht
theorem hOut_tile (c : Dev nD) (t : Fin cfg0.N) (ht : 5 ≤ t.val ∧ t.val < 68) : hOut m c t = hTile m c t ht (yBefore m c t) :=
  (dif_neg (by omega)).trans (dif_pos ht)
theorem hOut_last (c : Dev nD) (t : Fin cfg0.N) (ht : t.val = 68) : hOut m c t = hLast m c t ht (yBefore m c t) :=
  (dif_neg (by omega)).trans ((dif_neg (by omega)).trans (dif_pos ht))

/-- The invariant before point `n`: the weights loaded so far, the hidden scratch at anything, the product the point before left, the generator register at some state. -/
def Inv (c : Dev nD) (n : ℕ) : sProp 𝕄 :=
  iprop((∃ d0 d1 d2, ⌜Loaded m c n d0 d1 d2⌝ ∗ wts c sc0 sc1 sc2 d0 d1 d2)
    ∗ (∃ d, own c sc3 d) ∗ (∃ d, ⌜5 ≤ n → n ≤ 68 → d = yAt m c (n - 1)⌝ ∗ own c sc4 d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => xOut m c t
    | ⟨8, _⟩ => hOut m c t
  Φ t := Inv m c t.val
  q _ := fullShare
  owed _ := 0

variable (c : Dev nD) (t : Fin cfg0.N)

theorem A_eq (w : Fin cfg0.W) : (dats m 0 c).A w = V m c (Pipeline.arrRef spec0 w) := by dsimp only [dats]
theorem after_0 : (dats m 0 c).after 0 t = iblk m c 0 t := by dsimp only [dats]
theorem before_0 (d) : (dats m 0 c).before 0 t d = iblk m c 0 t := before0_0_of m (dats m 0 c) (A_eq m c 0) (after_0 m c) t d
theorem leaves_0 : (dats m 0 c).leavesExact 0 t = own c (ms0 t) (iblk m c 0 t) := by rw [← after_0]
theorem after_1 : (dats m 0 c).after 1 t = iblk m c 1 t := by dsimp only [dats]
theorem before_1 (d) : (dats m 0 c).before 1 t d = iblk m c 1 t := before0_1_of m (dats m 0 c) (A_eq m c 1) (after_1 m c) t d
theorem leaves_1 : (dats m 0 c).leavesExact 1 t = own c (ms1 t) (iblk m c 1 t) := by rw [← after_1]
theorem after_2 : (dats m 0 c).after 2 t = iblk m c 2 t := by dsimp only [dats]
theorem before_2 (d) : (dats m 0 c).before 2 t d = iblk m c 2 t := before0_2_of m (dats m 0 c) (A_eq m c 2) (after_2 m c) t d
theorem leaves_2 : (dats m 0 c).leavesExact 2 t = own c (ms2 t) (iblk m c 2 t) := by rw [← after_2]
theorem after_3 : (dats m 0 c).after 3 t = iblk m c 3 t := by dsimp only [dats]
theorem before_3 (d) : (dats m 0 c).before 3 t d = iblk m c 3 t := before0_3_of m (dats m 0 c) (A_eq m c 3) (after_3 m c) t d
theorem leaves_3 : (dats m 0 c).leavesExact 3 t = own c (ms3 t) (iblk m c 3 t) := by rw [← after_3]
theorem after_4 : (dats m 0 c).after 4 t = iblk m c 4 t := by dsimp only [dats]
theorem before_4 (d) : (dats m 0 c).before 4 t d = iblk m c 4 t := before0_4_of m (dats m 0 c) (A_eq m c 4) (after_4 m c) t d
theorem leaves_4 : (dats m 0 c).leavesExact 4 t = own c (ms4 t) (iblk m c 4 t) := by rw [← after_4]
theorem after_5 : (dats m 0 c).after 5 t = iblk m c 5 t := by dsimp only [dats]
theorem before_5 (d) : (dats m 0 c).before 5 t d = iblk m c 5 t := before0_5_of m (dats m 0 c) (A_eq m c 5) (after_5 m c) t d
theorem leaves_5 : (dats m 0 c).leavesExact 5 t = own c (ms5 t) (iblk m c 5 t) := by rw [← after_5]
theorem after_6 : (dats m 0 c).after 6 t = iblk m c 6 t := by dsimp only [dats]
theorem before_6 (d) : (dats m 0 c).before 6 t d = iblk m c 6 t := before0_6_of m (dats m 0 c) (A_eq m c 6) (after_6 m c) t d
theorem leaves_6 : (dats m 0 c).leavesExact 6 t = own c (ms6 t) (iblk m c 6 t) := by rw [← after_6]
theorem after_7 : (dats m 0 c).after 7 t = xOut m c t := by dsimp only [dats]
theorem leaves_7 (ht : 4 ≤ t.val) : (dats m 0 c).leavesExact 7 t = own c (ms7 t) (xOut m c t) := by
  unfold Dat.leavesExact; rw [idleOut7 t, decide_eq_false (by omega), after_7]
theorem leaves_7_idle (ht : t.val < 4) : (dats m 0 c).leavesExact 7 t = iprop(∃ d, own c (ms7 t) ((dats m 0 c).before 7 t d)) :=
  (dats m 0 c).leavesExact_idle 7 t ((idleOut7 t).trans (decide_eq_true ht)) (flushOut7 t ht)
theorem before_7_idle (ht : t.val < 4) (d) : (dats m 0 c).before 7 t d = d := by
  rw [(dats m 0 c).before_idle_run 7 ((cfg0.win 7).fetch_out rfl) d t.val t le_rfl
    (fun j _ hj => ⟨(idleOut7 j).trans (decide_eq_true (by omega)), flushOut7 j (by omega)⟩)]
  unfold Dat.before
  rw [if_neg (by rw [(cfg0.win 7).fetch_out rfl]; exact Bool.false_ne_true), if_pos (Nat.sub_self _)]
theorem after_8 : (dats m 0 c).after 8 t = hOut m c t := by dsimp only [dats]
theorem leaves_8 (ht : 4 ≤ t.val) : (dats m 0 c).leavesExact 8 t = own c (ms8 t) (hOut m c t) := by
  unfold Dat.leavesExact; rw [idleOut8 t, decide_eq_false (by omega), after_8]
theorem leaves_8_idle (ht : t.val < 4) : (dats m 0 c).leavesExact 8 t = iprop(∃ d, own c (ms8 t) ((dats m 0 c).before 8 t d)) :=
  (dats m 0 c).leavesExact_idle 8 t ((idleOut8 t).trans (decide_eq_true ht)) (flushOut8 t ht)
theorem before_8_idle (ht : t.val < 4) (d) : (dats m 0 c).before 8 t d = d := by
  rw [(dats m 0 c).before_idle_run 8 ((cfg0.win 8).fetch_out rfl) d t.val t le_rfl
    (fun j _ hj => ⟨(idleOut8 j).trans (decide_eq_true (by omega)), flushOut8 j (by omega)⟩)]
  unfold Dat.before
  rw [if_neg (by rw [(cfg0.win 8).fetch_out rfl]; exact Bool.false_ne_true), if_pos (Nat.sub_self _)]

end Cert.FfnIdeal.Hand

end
-- ==== Proof.FfnIdealFrame.lean ====
module

public import proofs.«01_k».proof.Proof.FfnIdealData
public import proofs.«01_k».proof.Proof.FfnSlice

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

open Cert.FfnSlice

variable (m : (ℓ : Loc nD τ sig) → Buf (Elt F) ℓ) (ρ : Dev nD → PrngReg)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it has to leave. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The inputs hold their blocks. -/
theorem split_pre (c : Dev nD) (t : Fin cfg0.N) : bodyPre m c t ⊢ iprop(Inv m c t.val ∗ (dats m 0 c).owesAt () t.castSucc ∗ insAt m c t
    ∗ (∃ d, own c (ms7 t) ((dats m 0 c).before 7 t d))
    ∗ (∃ d, own c (ms8 t) ((dats m 0 c).before 8 t d))) := by
  unfold bodyPre insAt ins
  simp only [before_0, before_1, before_2, before_3, before_4, before_5, before_6]
  rw [show (dats m 0 c).Φ t.castSucc = Inv m c t.val from rfl]
  iintro ⟨Hi, Ho, ⟨%e0, H0⟩, ⟨%e1, H1⟩, ⟨%e2, H2⟩, ⟨%e3, H3⟩, ⟨%e4, H4⟩, ⟨%e5, H5⟩, ⟨%e6, H6⟩, HX⟩
  iframe Hi Ho H0 H1 H2 H3 H4 H5 H6 HX

theorem join_post (c : Dev nD) (t : Fin cfg0.N) : iprop(Inv m c (t.val + 1) ∗ (dats m 0 c).owesAt () t.castSucc ∗ insAt m c t
    ∗ (dats m 0 c).leavesExact 7 t
    ∗ (dats m 0 c).leavesExact 8 t) ⊢ bodyPost m c t := by
  unfold bodyPost insAt ins
  rw [show (dats m 0 c).owesAt () t.succ = (dats m 0 c).owesAt () t.castSucc from rfl, show (dats m 0 c).Φ t.succ = Inv m c (t.val + 1) from rfl]
  rw [leaves_0 m c t, leaves_1 m c t, leaves_2 m c t, leaves_3 m c t, leaves_4 m c t, leaves_5 m c t, leaves_6 m c t]
  iintro ⟨Hi, Ho, ⟨H0, H1, H2, H3, H4, H5, H6⟩, HX⟩
  iframe Hi Ho H0 H1 H2 H3 H4 H5 H6 HX

theorem gate_step (c : Dev nD) (t : Fin cfg0.N) (ht : t.val < 4) (x : S256x2816.Idx) (y : S1024x2816.Idx) (h0 : (y 0).val = 256 * t.val + (x 0).val) (h1 : (y 1).val = (x 1).val) :
    k0_pay1 (iblk m c 2 t) x = gateW m c y := by
  have hx : (x 0).val < 256 := (x 0).isLt
  have key : ∀ (t' : Fin cfg0.N) (x' : S256x2816.Idx), t' = t → x' = x → k0_pay1 (iblk m c 2 t) x = k0_pay1 (iblk m c 2 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem up_step (c : Dev nD) (t : Fin cfg0.N) (ht : t.val < 4) (x : S256x2816.Idx) (y : S1024x2816.Idx) (h0 : (y 0).val = 256 * t.val + (x 0).val) (h1 : (y 1).val = (x 1).val) :
    k0_pay2 (iblk m c 3 t) x = upW m c y := by
  have hx : (x 0).val < 256 := (x 0).isLt
  have key : ∀ (t' : Fin cfg0.N) (x' : S256x2816.Idx), t' = t → x' = x → k0_pay2 (iblk m c 3 t) x = k0_pay2 (iblk m c 3 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem down_step (c : Dev nD) (t : Fin cfg0.N) (ht : t.val < 4) (x : S704x1024.Idx) (y : S2816x1024.Idx) (h0 : (y 0).val = 704 * t.val + (x 0).val) (h1 : (y 1).val = (x 1).val) :
    k0_pay3 (iblk m c 4 t) x = downW m c y := by
  have hx : (x 0).val < 704 := (x 0).isLt
  have key : ∀ (t' : Fin cfg0.N) (x' : S704x1024.Idx), t' = t → x' = x → k0_pay3 (iblk m c 4 t) x = k0_pay3 (iblk m c 4 t') x' := by
    rintro _ _ rfl rfl; rfl
  refine key _ _ (Fin.ext (by show (y 0).val / 704 = t.val; omega)) (funext fun a => ?_)
  fin_cases a
  · exact Fin.ext (by show (y 0).val % 704 = (x 0).val; omega)
  · exact Fin.ext h1

variable (d0 d1 : Vec F S1024x2816 .bf16) (d2 : Vec F S2816x1024 .bf16)

/-- A loading point's stores: the slice of each weight. -/
theorem pieces_gate (c : Dev nD) (t : Fin cfg0.N) (ht : t.val < 4) :
    (rLoad m c t ht d0 d1 d2).1 = [⟨Rect.unit (s := S1024x2816) (k0_off1 (grid0.coords t)) S256x2816.size (k0_off1_inb (grid0.coords t) ((hcondL t).mpr ht)), k0_pay1 (iblk m c 2 t)⟩] := by
  unfold rLoad; frame_out
theorem pieces_up (c : Dev nD) (t : Fin cfg0.N) (ht : t.val < 4) :
    (rLoad m c t ht d0 d1 d2).2.1 = [⟨Rect.unit (s := S1024x2816) (k0_off1 (grid0.coords t)) S256x2816.size (k0_off1_inb (grid0.coords t) ((hcondL t).mpr ht)), k0_pay2 (iblk m c 3 t)⟩] := by
  unfold rLoad; frame_out
theorem pieces_down (c : Dev nD) (t : Fin cfg0.N) (ht : t.val < 4) :
    (rLoad m c t ht d0 d1 d2).2.2.1 = [⟨Rect.unit (s := S2816x1024) (k0_off2 (grid0.coords t)) S704x1024.size (k0_off2_inb (grid0.coords t) ((hcondL t).mpr ht)), k0_pay3 (iblk m c 4 t)⟩] := by
  unfold rLoad; frame_out

theorem Loaded.step (c : Dev nD) (t : Fin cfg0.N) (ht : t.val < 4) (h : Loaded m c t.val d0 d1 d2)
    (f0 : (sc0.view).ty.Contents (Elt F)) (f1 : (sc1.view).ty.Contents (Elt F)) (f2 : (sc2.view).ty.Contents (Elt F))
    (h0 : sc0.view.read (Elt F) f0 = d0) (h1 : sc1.view.read (Elt F) f1 = d1) (h2 : sc2.view.read (Elt F) f2 = d2) :
    Loaded m c (t.val + 1) (sc0.view.read (Elt F) (sc0.view.writes (Elt F) f0 (rLoad m c t ht d0 d1 d2).1)) (sc1.view.read (Elt F) (sc1.view.writes (Elt F) f1 (rLoad m c t ht d0 d1 d2).2.1)) (sc2.view.read (Elt F) (sc2.view.writes (Elt F) f2 (rLoad m c t ht d0 d1 d2).2.2.1)) := by
  have e : min t.val 4 = t.val := by omega
  have e' : min (t.val + 1) 4 = t.val + 1 := by omega
  refine ⟨fun y hy => ?_, fun y hy => ?_, fun y hy => ?_⟩
  · rw [e'] at hy; rw [pieces_gate m d0 d1 d2 c t ht]
    exact slice_step (size := S256x2816.size) _ _ _ _ t.val 256 d0 (gateW m c) h0 (offGate t ht) rfl rfl (gate_step m c t ht) (by have := h.gate; rwa [e] at this) y hy
  · rw [e'] at hy; rw [pieces_up m d0 d1 d2 c t ht]
    exact slice_step (size := S256x2816.size) _ _ _ _ t.val 256 d1 (upW m c) h1 (offGate t ht) rfl rfl (up_step m c t ht) (by have := h.up; rwa [e] at this) y hy
  · rw [e'] at hy; rw [pieces_down m d0 d1 d2 c t ht]
    exact slice_step (size := S704x1024.size) _ _ _ _ t.val 704 d2 (downW m c) h2 (offDown t ht) rfl rfl (down_step m c t ht) (by have := h.down; rwa [e] at this) y hy

theorem Loaded.keep (c : Dev nD) (n : ℕ) (hn : 4 ≤ n) : Loaded m c n (gateW m c) (upW m c) (downW m c) := ⟨fun _ _ => rfl, fun _ _ => rfl, fun _ _ => rfl⟩

set_option maxHeartbeats 9600000 in
/-- The body at a loading point. -/
theorem body_load (c : Dev nD) (t : Fin cfg0.N) (ht : t.val < 4) :
    bodyPre m c t ⊢ wp frame (wpE (defs₀ (F := F)) Variants.none c none) Set.univ (bodyAt0 t) (fun _ => bodyPost m c t) := by
  refine (split_pre m c t).trans ?_
  unfold bodyAt0
  simp only [before_7_idle m c t ht, before_8_idle m c t ht]
  unfold Inv
  iintro ⟨⟨⟨%d0, %d1, %d2, %hl, HW⟩, ⟨%d3, HS3⟩, ⟨%dy, %hy, HS4⟩, Hg⟩, Ho, HI, ⟨%e7, H7⟩, ⟨%e8, H8⟩⟩
  iapply ((rLoad m c t ht d0 d1 d2).2.2.2 Set.univ _)
  isplitl [HI]; · iexact HI
  isplitl [H7]; · iexists _; iexact H7
  isplitl [H8]; · iexists _; iexact H8
  isplitl [HW]; · iexact HW
  isplitl [HS3]; · iexists _; iexact HS3
  isplitl [HS4]; · iexists _; iexact HS4
  iintro ⟨HI, H7, H8, ⟨%f0, %hf0, HS0⟩, ⟨%f1, %hf1, HS1⟩, ⟨%f2, %hf2, HS2⟩, HS3, ⟨%dy', HS4⟩⟩
  iapply (join_post m c t)
  isplitl [HS0 HS1 HS2 HS3 HS4 Hg]
  · unfold Inv
    isplitl [HS0 HS1 HS2]
    · iexists _, _, _
      isplitr
      · ipureintro; exact Loaded.step m d0 d1 d2 c t ht hl f0 f1 f2 hf0 hf1 hf2
      unfold wts
      isplitl [HS0]; · iapply (own_read _); iexact HS0
      isplitl [HS1]; · iapply (own_read _); iexact HS1
      iapply (own_read _); iexact HS2
    isplitl [HS3]; · iexact HS3
    isplitl [HS4]
    · iexists _; isplitr
      swap
      · iexact HS4
      ipureintro; intro h5 _; exact absurd h5 (by omega)
    iexact Hg
  isplitl [Ho]; · iexact Ho
  isplitl [HI]; · iexact HI
  isplitl [H7]
  · rw [leaves_7_idle m c t ht]; simp only [before_7_idle m c t ht]; iexact H7
  rw [leaves_8_idle m c t ht]; simp only [before_8_idle m c t ht]; iexact H8

set_option maxHeartbeats 9600000 in
/-- The body at the first tile's point. -/
theorem body_first (c : Dev nD) (t : Fin cfg0.N) (ht : t.val = 4) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, Hg⟩, Ho, HI, ⟨%e7, H7⟩, ⟨%e8, H8⟩⟩
  obtain ⟨rfl, rfl, rfl⟩ := hl.all m (by omega)
  iapply ((rFirst m c t ht).2.2.2.2 Set.univ _)
  isplitl [HI]; · iexact HI
  isplitl [H7]; · iexists _; iexact H7
  isplitl [H8]; · iexists _; iexact H8
  isplitl [HW]; · iexact HW
  isplitl [HS3]; · iexists _; iexact HS3
  isplitl [HS4]; · iexists _; iexact HS4
  iintro ⟨HI, ⟨%g7, H7⟩, ⟨%g8, H8⟩, HW, ⟨%g3, HS3⟩, ⟨%g4, HS4⟩⟩
  iapply (join_post m c t)
  isplitl [HW HS3 HS4 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yFirst m c t ht)).trans ?_
      rw [Nat.add_sub_cancel, yAt_first m c t ht]
      rfl
    iexact Hg
  isplitl [Ho]; · iexact Ho
  isplitl [HI]; · iexact HI
  isplitl [H7]
  · rw [leaves_7 m c t (by omega), xOut_first m c t ht]; unfold own owns; iexists _; isplitr
    swap; · iexact H7
    ipureintro; exact View.read_writes_eq_canon _ _ _ (cover_xFirst m c t ht)
  rw [leaves_8 m c t (by omega), hOut_first m c t ht]; unfold own owns; iexists _; isplitr
  swap; · iexact H8
  ipureintro; exact View.read_writes_eq_canon _ _ _ (cover_hFirst m c t ht)

set_option maxHeartbeats 9600000 in
/-- The body at a later tile. -/
theorem body_tile (c : Dev nD) (t : Fin cfg0.N) (ht : 5 ≤ t.val ∧ t.val < 68) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, Hg⟩, Ho, HI, ⟨%e7, H7⟩, ⟨%e8, H8⟩⟩
  obtain ⟨rfl, rfl, rfl⟩ := hl.all m (by omega)
  obtain rfl := hy (by omega) (by omega)
  iapply ((rTile m c t ht (yBefore m c t)).2.2.2.2 Set.univ _)
  isplitl [HI]; · iexact HI
  isplitl [H7]; · iexists _; iexact H7
  isplitl [H8]; · iexists _; iexact H8
  isplitl [HW]; · iexact HW
  isplitl [HS3]; · iexists _; iexact HS3
  isplitl [HS4]; · iexact HS4
  iintro ⟨HI, ⟨%g7, H7⟩, ⟨%g8, H8⟩, HW, ⟨%g3, HS3⟩, ⟨%g4, %hg4, HS4⟩⟩
  iapply (join_post m c t)
  isplitl [HW HS3 HS4 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yTile m c t ht (yBefore m c t))).trans ?_
      rw [Nat.add_sub_cancel, yAt_tile m c t ht]
      rfl
    iexact Hg
  isplitl [Ho]; · iexact Ho
  isplitl [HI]; · iexact HI
  isplitl [H7]
  · rw [leaves_7 m c t (by omega), xOut_tile m c t ht]; unfold own owns; iexists _; isplitr
    swap; · iexact H7
    ipureintro; exact View.read_writes_eq_canon _ _ _ (cover_xTile m c t ht (yBefore m c t))
  rw [leaves_8 m c t (by omega), hOut_tile m c t ht]; unfold own owns; iexists _; isplitr
  swap; · iexact H8
  ipureintro; exact View.read_writes_eq_canon _ _ _ (cover_hTile m c t ht (yBefore m c t))

set_option maxHeartbeats 9600000 in
/-- The body at the last point. -/
theorem body_last (c : Dev nD) (t : Fin cfg0.N) (ht : t.val = 68) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, Hg⟩, Ho, HI, ⟨%e7, H7⟩, ⟨%e8, H8⟩⟩
  obtain ⟨rfl, rfl, rfl⟩ := hl.all m (by omega)
  obtain rfl := hy (by omega) (by omega)
  iapply ((rLast m c t ht (yBefore m c t)).2.2 Set.univ _)
  isplitl [HI]; · iexact HI
  isplitl [H7]; · iexists _; iexact H7
  isplitl [H8]; · iexists _; iexact H8
  isplitl [HW]; · iexact HW
  isplitl [HS3]; · iexists _; iexact HS3
  isplitl [HS4]; · iexact HS4
  iintro ⟨HI, ⟨%g7, H7⟩, ⟨%g8, H8⟩, HW, HS3, HS4⟩
  iapply (join_post m c t)
  isplitl [HW HS3 HS4 Hg]
  · unfold Inv
    isplitl [HW]
    · iexists _, _, _
      isplitr
      · ipureintro; exact Loaded.keep m c (t.val + 1) (by omega)
      iexact HW
    isplitl [HS3]; · iexact HS3
    isplitl [HS4]
    · iexists _; isplitr
      swap
      · iexact HS4
      ipureintro; exact fun _ h => absurd h (by omega)
    iexact Hg
  isplitl [Ho]; · iexact Ho
  isplitl [HI]; · iexact HI
  isplitl [H7]
  · rw [leaves_7 m c t (by omega), xOut_last m c t ht]; unfold own owns; iexists _; isplitr
    swap; · iexact H7
    ipureintro; exact View.read_writes_eq_canon _ _ _ (cover_xLast m c t ht (yBefore m c t))
  rw [leaves_8 m c t (by omega), hOut_last m c t ht]; unfold own owns; iexists _; isplitr
  swap; · iexact H8
  ipureintro; exact View.read_writes_eq_canon _ _ _ (cover_hLast m c t ht (yBefore m c t))

theorem sound_body (c : Dev nD) (t : Fin cfg0.N) :
    bodyPre m c t ⊢ wp frame (wpE (defs₀ (F := F)) Variants.none c none) Set.univ (bodyAt0 t) (fun _ => bodyPost m c t) := by
  have hN : t.val < 69 := lt_of_lt_of_eq t.isLt N_0
  by_cases h4 : t.val < 4
  · exact body_load m c t h4
  by_cases h5 : t.val = 4
  · exact body_first m c t h5
  by_cases h6 : t.val < 68
  · exact body_tile m c t ⟨by omega, h6⟩
  · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, launchInv_eq]
  unfold Inv wts
  iintro ⟨⟨⟨%d0, HS0⟩, ⟨%d1, HS1⟩, ⟨%d2, HS2⟩, HS3, ⟨%d4, HS4⟩⟩, Hg⟩
  isplitl [HS0 HS1 HS2]
  · iexists _, _, _
    isplitr
    swap
    · iframe HS0 HS1 HS2
    ipureintro
    exact ⟨fun y h => absurd h (by simp), fun y h => absurd h (by simp), fun y h => absurd h (by simp)⟩
  isplitl [HS3]; · iexact HS3
  isplitl [HS4]
  · iexists _; isplitr
    swap; · iexact HS4
    ipureintro; exact fun h _ => absurd h (by omega)
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, launchInv_eq]
  unfold Inv wts
  iintro ⟨⟨%d0, %d1, %d2, %hl, HS0, HS1, HS2⟩, HS3, ⟨%dy, %hy, HS4⟩, Hg⟩
  isplitl [HS0 HS1 HS2 HS3 HS4]
  · skip
    isplitl [HS0]; · iexists _; iexact HS0
    isplitl [HS1]; · iexists _; iexact HS1
    isplitl [HS2]; · iexists _; iexact HS2
    isplitl [HS3]; · iexact HS3
    iexists _; iexact HS4
  iexact Hg

set_option backward.isDefEq.respectTransparency.types false in
/-- The launch: the arrays end as the library computes them from the data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnPure.lean ====
module

public import proofs.«01_k».proof.Proof.Gen.FfnIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- One entry of the hidden tile, from its gate and up projections. -/
def act (a b : EReal) : EReal := Ideal.div a (Ideal.ofBits .f32 0x3F800000#32 + Ideal.exp (Ideal.ofBits .f32 0x00000000#32 - a)) * b

/-- One tile of the hidden layer, of width `n`. -/
def hidG {n : ℕ} (h : Vec Ideal S512x1024 .bf16) (w0 w1 : (⟨2, ![1024, n]⟩ : Shape).Idx → EReal) : (⟨2, ![512, n]⟩ : Shape).Idx → EReal :=
  fun j => act (∑ k : Fin 1024, h (ix2 (j 0) k) * w0 (ix2 k (j 1))) (∑ k : Fin 1024, h (ix2 (j 0) k) * w1 (ix2 k (j 1)))

theorem idx256 (x : S512x256.Idx) : ∃ (x0 : Fin 512) (x1 : Fin 256), x = ix2 x0 x1 :=
  ⟨x 0, x 1, funext fun a => by fin_cases a <;> rfl⟩

theorem pay20_eq (h : Vec Ideal S512x1024 .bf16) (g u : Vec Ideal S1024x256 .bf16) : k0_pay20 h g h u = hidG h g u := by
  funext z
  obtain ⟨z0, z1, rfl⟩ := idx256 z
  show _ = act (∑ k : Fin 1024, h (ix2 z0 k) * g (ix2 k z1)) (∑ k : Fin 1024, h (ix2 z0 k) * u (ix2 k z1))
  unfold act
  pointwise [k0_pay20]

/-- A block of 256 columns, from column `o` on, at an index. -/
theorem ld_cols (o : ℕ) (v : Vec Ideal S1024x2816 .bf16) (inb : ∀ a, (![0, o] : Fin 2 → ℕ) a + S1024x256.size a ≤ S1024x2816.size a) (z0 : Fin 1024) (z1 : Fin 256) (c : Fin 2816) (h : c.val = o + z1.val) :
    View.ld v (Rect.unit (s := S1024x2816) ![0, o] S1024x256.size inb) (ix2 z0 z1) = v (ix2 z0 c) := by
  show v ((Rect.unit (s := S1024x2816) ![0, o] S1024x256.size inb).emb (ix2 z0 z1)) = _
  refine congrArg v (funext fun a => Fin.ext ?_)
  rw [Rect.emb_apply]
  fin_cases a
  · exact (Nat.zero_add _).trans (Nat.one_mul _)
  · exact (Nat.add_left_cancel_iff.mpr (Nat.one_mul _)).trans h.symm

/-- A chunk of 256 columns of the hidden tile. -/
theorem chunk_at (o : ℕ) (ho : o + 256 ≤ 2816) (h : Vec Ideal S512x1024 .bf16) (w0 w1 : Vec Ideal S1024x2816 .bf16)
    (inb' : ∀ a, (![0, o] : Fin 2 → ℕ) a + S1024x256.size a ≤ S1024x2816.size a) (inb : ∀ a, (![0, o] : Fin 2 → ℕ) a + S512x256.size a ≤ S512x2816.size a) (z : S512x256.Idx) :
    k0_pay20 h (View.ld w0 (Rect.unit (s := S1024x2816) ![0, o] S1024x256.size inb')) h (View.ld w1 (Rect.unit (s := S1024x2816) ![0, o] S1024x256.size inb')) z
      = hidG h w0 w1 ((Rect.unit (s := S512x2816) ![0, o] S512x256.size inb).emb z) := by
  rw [pay20_eq]
  obtain ⟨z0, z1, rfl⟩ := idx256 z
  have e : (Rect.unit (s := S512x2816) ![0, o] S512x256.size inb).emb (ix2 z0 z1) = ix2 z0 (⟨o + z1.val, by omega⟩ : Fin 2816) := funext fun a => Fin.ext (by
    rw [Rect.emb_apply]
    fin_cases a
    · exact (Nat.zero_add _).trans (Nat.one_mul _)
    · exact Nat.add_left_cancel_iff.mpr (Nat.one_mul _))
  rw [e]
  exact congrArg₂ act (Finset.sum_congr rfl fun k _ => congrArg (h (ix2 z0 k) * ·) (ld_cols o w0 inb' k z1 ⟨o + z1.val, by omega⟩ rfl)) (Finset.sum_congr rfl fun k _ => congrArg (h (ix2 z0 k) * ·) (ld_cols o w1 inb' k z1 ⟨o + z1.val, by omega⟩ rfl))

/-- Adding the number whose pattern is zero changes nothing. -/
theorem pay22_id (v : Vec Ideal S16x128 .bf16) : k0_pay22 v = v := by
  funext j
  pointwise [k0_pay22]

/-- The stores in `L` have filled the columns before `n` with those of `G`. -/
def Filled (G : S512x2816.Idx → Elt Ideal .bf16) (n : ℕ) (L : List (View.Piece (Elt Ideal) S512x2816 .bf16)) : Prop :=
  ∀ y, (y 1).val < n → View.canon L y = G y

theorem Filled.nil (G : S512x2816.Idx → Elt Ideal .bf16) : Filled G 0 [] := fun y h => absurd h (Nat.not_lt_zero _)

theorem canon_step {G : S512x2816.Idx → Elt Ideal .bf16} {L : List (View.Piece (Elt Ideal) S512x2816 .bf16)} (r : Rect S512x2816) (w : r.shape.Idx → Elt Ideal .bf16) (y : S512x2816.Idx)
    (hw : ∀ x, r.emb x = y → w x = G (r.emb x)) (hL : y ∉ r.set → View.canon L y = G y) : View.canon (⟨r, w⟩ :: L) y = G y := by
  by_cases hm : y ∈ r.set
  · obtain ⟨x, rfl⟩ := r.exists_idx_of_mem hm
    exact (View.canon_cons_emb r w L x).trans (hw x rfl)
  · exact (View.canon_cons_of_not_mem _ L hm).trans (hL hm)

theorem mem_cols (o : ℕ) (inb : ∀ a, (![0, o] : Fin 2 → ℕ) a + S512x256.size a ≤ S512x2816.size a) (y : S512x2816.Idx) (hlo : o ≤ (y 1).val) (hhi : (y 1).val < o + 256) :
    y ∈ (Rect.unit (s := S512x2816) ![0, o] S512x256.size inb).set := by
  rw [← Rect.map_emb_univ]
  have hz : (y 1).val - o < 256 := by omega
  refine Finset.mem_map.mpr ⟨(ix2 (⟨(y 0).val, (y 0).isLt⟩ : Fin 512) (⟨(y 1).val - o, hz⟩ : Fin 256) : S512x256.Idx), Finset.mem_univ _, funext fun a => Fin.ext ?_⟩
  refine (Rect.emb_apply _ _ a).trans ?_
  fin_cases a
  · exact (Nat.zero_add _).trans (Nat.one_mul _)
  · exact (show o + 1 * ((y 1).val - o) = (y 1).val by omega)

theorem Filled.chunk {G : S512x2816.Idx → Elt Ideal .bf16} (o : ℕ) {L : List (View.Piece (Elt Ideal) S512x2816 .bf16)} (hL : Filled G o L)
    (inb : ∀ a, (![0, o] : Fin 2 → ℕ) a + S512x256.size a ≤ S512x2816.size a) (w : (Rect.unit (s := S512x2816) ![0, o] S512x256.size inb).shape.Idx → Elt Ideal .bf16)
    (hw : ∀ x, w x = G ((Rect.unit (s := S512x2816) ![0, o] S512x256.size inb).emb x)) : Filled G (o + 256) (⟨Rect.unit (s := S512x2816) ![0, o] S512x256.size inb, w⟩ :: L) := fun y hy =>
  canon_step _ w y (fun x _ => hw x) fun hm => hL y (Nat.lt_of_not_le fun hle => hm (mem_cols o inb y hle hy))

theorem Filled.corner {G : S512x2816.Idx → Elt Ideal .bf16} {n : ℕ} {L : List (View.Piece (Elt Ideal) S512x2816 .bf16)} (hL : Filled G n L)
    {sg : RefSig} {κ : Kind} {sp : Space} (v : View sg κ sp S512x2816 .bf16) (r : Rect S512x2816) (w : r.shape.Idx → Elt Ideal .bf16) (hw : w = v.readCov L r.toLoadRect) : Filled G n (⟨r, w⟩ :: L) := fun y hy =>
  canon_step r w y (fun x hx => by
    subst hx
    rw [hw, View.readCov_eq_canon']
    exact hL _ hy) fun _ => hL y hy

/-- A store of 256 columns of the hidden tile after those before it. -/
theorem Filled.hid (o : ℕ) (ho : o + 256 ≤ 2816) {h : Vec Ideal S512x1024 .bf16} {w0 w1 : Vec Ideal S1024x2816 .bf16} {L : List (View.Piece (Elt Ideal) S512x2816 .bf16)} (hL : Filled (hidG h w0 w1) o L)
    (inb' : ∀ a, (![0, o] : Fin 2 → ℕ) a + S1024x256.size a ≤ S1024x2816.size a) (inb : ∀ a, (![0, o] : Fin 2 → ℕ) a + S512x256.size a ≤ S512x2816.size a) (w : (Rect.unit (s := S512x2816) ![0, o] S512x256.size inb).shape.Idx → Elt Ideal .bf16)
    (hw : w = k0_pay20 h (View.ld w0 (Rect.unit (s := S1024x2816) ![0, o] S1024x256.size inb')) h (View.ld w1 (Rect.unit (s := S1024x2816) ![0, o] S1024x256.size inb'))) :
    Filled (hidG h w0 w1) (o + 256) (⟨Rect.unit (s := S512x2816) ![0, o] S512x256.size inb, w⟩ :: L) :=
  hL.chunk o inb w fun x => (congrFun hw x).trans (chunk_at o ho h w0 w1 inb' inb x)

theorem Filled.canon {G : S512x2816.Idx → Elt Ideal .bf16} {n : ℕ} (hn : 2816 ≤ n) {L : List (View.Piece (Elt Ideal) S512x2816 .bf16)} (hL : Filled G n L) : View.canon L = G :=
  funext fun y => hL y (lt_of_lt_of_le (y 1).isLt hn)

/-- The product of a hidden tile with the down projection. -/
def outG (q : Vec Ideal S512x2816 .bf16) (w : Vec Ideal S2816x1024 .bf16) : S512x1024.Idx → Elt Ideal .f32 :=
  fun j => ∑ k : Fin 2816, q (ix2 (j 0) k) * w (ix2 k (j 1))

theorem pay6_eq (q : Vec Ideal S512x2816 .bf16) (w : Vec Ideal S2816x1024 .bf16) : k0_pay6 q w = outG q w := by
  funext z
  obtain ⟨z0, z1, rfl⟩ : ∃ (x0 : Fin 512) (x1 : Fin 1024), z = ix2 x0 x1 := ⟨z 0, z 1, funext fun a => by fin_cases a <;> rfl⟩
  show _ = ∑ k : Fin 2816, q (ix2 z0 k) * w (ix2 k z1)
  pointwise [k0_pay6]

end Cert.FfnIdeal.Value

end
-- ==== Proof.FfnFin.lean ====
module

public import proofs.«01_k».proof.Proof.Gen.FfnIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- The root-mean-square scale of row `r` of a block of rows of width 1024. -/
def rmsS {n : ℕ} (y : (⟨2, ![n, 1024]⟩ : Shape).Idx → EReal) (r : Fin n) : EReal :=
  Ideal.rsqrt (Ideal.div (∑ l : Fin 1024, y (ix2 r l) * y (ix2 r l)) (Ideal.ofBits .f32 0x44800000#32) + Ideal.ofBits .f32 0x358637BD#32)

/-- The residual step on a block of rows: the input plus the normalised rows by half the gain. -/
def xG {n : ℕ} (g : Vec Ideal S1x1x1024 .f32) (y x : (⟨2, ![n, 1024]⟩ : Shape).Idx → EReal) : (⟨2, ![n, 1024]⟩ : Shape).Idx → EReal :=
  fun j => x (ix2 (j 0) (j 1)) + y (ix2 (j 0) (j 1)) * rmsS y (j 0) * (Ideal.ofBits .f32 0x3F000000#32 * g (ix3 0 0 (j 1)))

/-- The rows normalised again, by the next gain. -/
def hG {n : ℕ} (g : Vec Ideal S1x1x1024 .f32) (y : (⟨2, ![n, 1024]⟩ : Shape).Idx → EReal) : (⟨2, ![n, 1024]⟩ : Shape).Idx → EReal :=
  fun j => y (ix2 (j 0) (j 1)) * rmsS y (j 0) * g (ix3 0 0 (j 1))

theorem idx128 (x : S128x1024.Idx) : ∃ (x0 : Fin 128) (x1 : Fin 1024), x = ix2 x0 x1 :=
  ⟨x 0, x 1, funext fun a => by fin_cases a <;> rfl⟩

/-- The first block's residual step at an index. -/
theorem pay10_eq (g : Vec Ideal S1x1x1024 .f32) (y x : Vec Ideal S128x1024 .f32) : k0_pay10 g y x = xG g y x := by
  funext z
  obtain ⟨z0, z1, rfl⟩ := idx128 z
  show _ = x (ix2 z0 z1) + y (ix2 z0 z1) * rmsS y z0 * (Ideal.ofBits .f32 0x3F000000#32 * g (ix3 0 0 z1))
  unfold rmsS
  pointwise [k0_pay8, k0_pay10]

/-- The first block's second normalisation at an index. -/
theorem pay11_eq (g g2 : Vec Ideal S1x1x1024 .f32) (y x : Vec Ideal S128x1024 .f32) : k0_pay11 g g2 y x = hG g2 (xG g y x) := by
  have h : k0_pay11 g g2 y x = k0_pay19 (k0_pay9 g2) (k0_pay10 g y x) (k0_pay18 (k0_pay8 g) y x) := rfl
  have h' : k0_pay18 (k0_pay8 g) y x = shapeCast S128x1 (multiReduction .add [1] S128 (mulf (k0_pay10 g y x) (k0_pay10 g y x)) 0x00000000#32 reduces_S128x1024_S128 (.inl rfl) rfl) shapeCasts_S128_S128x1 := rfl
  rw [h, h', pay10_eq]
  generalize xG g y x = w
  funext z
  obtain ⟨z0, z1, rfl⟩ := idx128 z
  show _ = w (ix2 z0 z1) * rmsS w z0 * g2 (ix3 0 0 z1)
  unfold rmsS
  pointwise [k0_pay9, k0_pay19]

/-- A block of 128 rows, from row `o` on, at an index. -/
theorem ld_rows {e : EltTy} (o : ℕ) (v : Vec Ideal S512x1024 e) (inb : ∀ a, (![o, 0] : Fin 2 → ℕ) a + S128x1024.size a ≤ S512x1024.size a) (z0 : Fin 128) (z1 : Fin 1024) (r : Fin 512) (h : r.val = o + z0.val) :
    View.ld v (Rect.unit (s := S512x1024) ![o, 0] S128x1024.size inb) (ix2 z0 z1) = v (ix2 r z1) := by
  show v ((Rect.unit (s := S512x1024) ![o, 0] S128x1024.size inb).emb (ix2 z0 z1)) = _
  refine congrArg v (funext fun a => Fin.ext ?_)
  rw [Rect.emb_apply]
  fin_cases a
  · exact (Nat.add_left_cancel_iff.mpr (Nat.one_mul _)).trans h.symm
  · exact (Nat.zero_add _).trans (Nat.one_mul _)

theorem xG_rows {n m : ℕ} (g : Vec Ideal S1x1x1024 .f32) (y x : (⟨2, ![n, 1024]⟩ : Shape).Idx → EReal) (Y X : (⟨2, ![m, 1024]⟩ : Shape).Idx → EReal) (z0 : Fin m) (z1 : Fin 1024) (r : Fin n)
    (hY : ∀ l : Fin 1024, Y (ix2 z0 l) = y (ix2 r l)) (hX : ∀ l : Fin 1024, X (ix2 z0 l) = x (ix2 r l)) : xG g Y X (ix2 z0 z1) = xG g y x (ix2 r z1) := by
  show X (ix2 z0 z1) + Y (ix2 z0 z1) * rmsS Y z0 * (Ideal.ofBits .f32 0x3F000000#32 * g (ix3 0 0 z1)) = x (ix2 r z1) + y (ix2 r z1) * rmsS y r * (Ideal.ofBits .f32 0x3F000000#32 * g (ix3 0 0 z1))
  unfold rmsS
  simp only [hY, hX]

theorem hG_rows {n m : ℕ} (g : Vec Ideal S1x1x1024 .f32) (y : (⟨2, ![n, 1024]⟩ : Shape).Idx → EReal) (Y : (⟨2, ![m, 1024]⟩ : Shape).Idx → EReal) (z0 : Fin m) (z1 : Fin 1024) (r : Fin n)
    (hY : ∀ l : Fin 1024, Y (ix2 z0 l) = y (ix2 r l)) : hG g Y (ix2 z0 z1) = hG g y (ix2 r z1) := by
  show Y (ix2 z0 z1) * rmsS Y z0 * g (ix3 0 0 z1) = y (ix2 r z1) * rmsS y r * g (ix3 0 0 z1)
  unfold rmsS
  simp only [hY]

/-- One of the four stores of a tile of the first result holds that result's rows. -/
theorem x_piece (o : ℕ) (ho : o + 128 ≤ 512) (g : Vec Ideal S1x1x1024 .f32) (y x : Vec Ideal S512x1024 .f32) (inb : ∀ a, (![o, 0] : Fin 2 → ℕ) a + S128x1024.size a ≤ S512x1024.size a)
    (w : Vec Ideal S128x1024 .f32) (hw : w = k0_pay10 g (View.ld y (Rect.unit (s := S512x1024) ![o, 0] S128x1024.size inb)) (View.ld x (Rect.unit (s := S512x1024) ![o, 0] S128x1024.size inb))) (z : S128x1024.Idx) :
    w z = xG g y x ((Rect.unit (s := S512x1024) ![o, 0] S128x1024.size inb).emb z) := by
  subst hw
  obtain ⟨z0, z1, rfl⟩ := idx128 z
  rw [pay10_eq]
  refine (xG_rows g y x _ _ z0 z1 ⟨o + z0.val, by omega⟩ (fun l => ld_rows o y inb z0 l _ rfl) (fun l => ld_rows o x inb z0 l _ rfl)).trans (congrArg (xG g y x) (funext fun a => Fin.ext ?_))
  rw [Rect.emb_apply]
  fin_cases a
  · exact (Nat.add_left_cancel_iff.mpr (Nat.one_mul _)).symm
  · exact ((Nat.zero_add _).trans (Nat.one_mul _)).symm

/-- One of the four stores of a tile of the second result holds that result's rows. -/
theorem h_piece (o : ℕ) (ho : o + 128 ≤ 512) (g g2 : Vec Ideal S1x1x1024 .f32) (y x : Vec Ideal S512x1024 .f32) (inb : ∀ a, (![o, 0] : Fin 2 → ℕ) a + S128x1024.size a ≤ S512x1024.size a)
    (w : Vec Ideal S128x1024 .bf16) (hw : w = k0_pay11 g g2 (View.ld y (Rect.unit (s := S512x1024) ![o, 0] S128x1024.size inb)) (View.ld x (Rect.unit (s := S512x1024) ![o, 0] S128x1024.size inb))) (z : S128x1024.Idx) :
    w z = hG g2 (xG g y x) ((Rect.unit (s := S512x1024) ![o, 0] S128x1024.size inb).emb z) := by
  subst hw
  obtain ⟨z0, z1, rfl⟩ := idx128 z
  rw [pay11_eq]
  refine (hG_rows g2 (xG g y x) _ z0 z1 ⟨o + z0.val, by omega⟩ (fun l => xG_rows g y x _ _ z0 l _ (fun l => ld_rows o y inb z0 l _ rfl) (fun l => ld_rows o x inb z0 l _ rfl))).trans (congrArg (hG g2 (xG g y x)) (funext fun a => Fin.ext ?_))
  rw [Rect.emb_apply]
  fin_cases a
  · exact (Nat.add_left_cancel_iff.mpr (Nat.one_mul _)).symm
  · exact ((Nat.zero_add _).trans (Nat.one_mul _)).symm

/-- The four stores of a tile, the last first. -/
abbrev rowsL {e : EltTy} (w3 w2 w1 w0 : Vec Ideal S128x1024 e) : List (View.Piece (Elt Ideal) S512x1024 e) :=
  [⟨Rect.unit (s := S512x1024) ![384, 0] S128x1024.size inb_S512x1024_S128x1024_384_0, w3⟩,
    ⟨Rect.unit (s := S512x1024) ![256, 0] S128x1024.size inb_S512x1024_S128x1024_256_0, w2⟩,
    ⟨Rect.unit (s := S512x1024) ![128, 0] S128x1024.size inb_S512x1024_S128x1024_128_0, w1⟩,
    ⟨Rect.unit (s := S512x1024) ![0, 0] S128x1024.size inb_S512x1024_S128x1024_0_0, w0⟩]

theorem rowsL_x (g : Vec Ideal S1x1x1024 .f32) (y x : Vec Ideal S512x1024 .f32) (w3 w2 w1 w0 : Vec Ideal S128x1024 .f32)
    (h3 : w3 = k0_pay10 g (View.ld y (Rect.unit (s := S512x1024) ![384, 0] S128x1024.size inb_S512x1024_S128x1024_384_0)) (View.ld x (Rect.unit (s := S512x1024) ![384, 0] S128x1024.size inb_S512x1024_S128x1024_384_0)))
    (h2 : w2 = k0_pay10 g (View.ld y (Rect.unit (s := S512x1024) ![256, 0] S128x1024.size inb_S512x1024_S128x1024_256_0)) (View.ld x (Rect.unit (s := S512x1024) ![256, 0] S128x1024.size inb_S512x1024_S128x1024_256_0)))
    (h1 : w1 = k0_pay10 g (View.ld y (Rect.unit (s := S512x1024) ![128, 0] S128x1024.size inb_S512x1024_S128x1024_128_0)) (View.ld x (Rect.unit (s := S512x1024) ![128, 0] S128x1024.size inb_S512x1024_S128x1024_128_0)))
    (h0 : w0 = k0_pay10 g (View.ld y (Rect.unit (s := S512x1024) ![0, 0] S128x1024.size inb_S512x1024_S128x1024_0_0)) (View.ld x (Rect.unit (s := S512x1024) ![0, 0] S128x1024.size inb_S512x1024_S128x1024_0_0))) :
    View.canon (rowsL (e := .f32) w3 w2 w1 w0) = xG g y x := by
  funext j
  refine View.canon_apply_of_pieces _ _ ?_ j (View.cover_of_tiled_head _ _ _ (by rfl) j)
  simp only [rowsL, List.forall_mem_cons]
  exact ⟨x_piece 384 (by omega) g y x _ _ h3, x_piece 256 (by omega) g y x _ _ h2, x_piece 128 (by omega) g y x _ _ h1, x_piece 0 (by omega) g y x _ _ h0, fun q hq => absurd hq List.not_mem_nil⟩

theorem rowsL_h (g g2 : Vec Ideal S1x1x1024 .f32) (y x : Vec Ideal S512x1024 .f32) (w3 w2 w1 w0 : Vec Ideal S128x1024 .bf16)
    (h3 : w3 = k0_pay11 g g2 (View.ld y (Rect.unit (s := S512x1024) ![384, 0] S128x1024.size inb_S512x1024_S128x1024_384_0)) (View.ld x (Rect.unit (s := S512x1024) ![384, 0] S128x1024.size inb_S512x1024_S128x1024_384_0)))
    (h2 : w2 = k0_pay11 g g2 (View.ld y (Rect.unit (s := S512x1024) ![256, 0] S128x1024.size inb_S512x1024_S128x1024_256_0)) (View.ld x (Rect.unit (s := S512x1024) ![256, 0] S128x1024.size inb_S512x1024_S128x1024_256_0)))
    (h1 : w1 = k0_pay11 g g2 (View.ld y (Rect.unit (s := S512x1024) ![128, 0] S128x1024.size inb_S512x1024_S128x1024_128_0)) (View.ld x (Rect.unit (s := S512x1024) ![128, 0] S128x1024.size inb_S512x1024_S128x1024_128_0)))
    (h0 : w0 = k0_pay11 g g2 (View.ld y (Rect.unit (s := S512x1024) ![0, 0] S128x1024.size inb_S512x1024_S128x1024_0_0)) (View.ld x (Rect.unit (s := S512x1024) ![0, 0] S128x1024.size inb_S512x1024_S128x1024_0_0))) :
    View.canon (rowsL (e := .bf16) w3 w2 w1 w0) = hG g2 (xG g y x) := by
  funext j
  refine View.canon_apply_of_pieces _ _ ?_ j (View.cover_of_tiled_head _ _ _ (by rfl) j)
  simp only [rowsL, List.forall_mem_cons]
  exact ⟨h_piece 384 (by omega) g g2 y x _ _ h3, h_piece 256 (by omega) g g2 y x _ _ h2, h_piece 128 (by omega) g g2 y x _ _ h1, h_piece 0 (by omega) g g2 y x _ _ h0, fun q hq => absurd hq List.not_mem_nil⟩

end Cert.FfnIdeal.Value

end
-- ==== Proof.FfnPoint.lean ====
module

public import proofs.«01_k».proof.Proof.FfnIdealData
public import proofs.«01_k».proof.Proof.FfnPure
public import proofs.«01_k».proof.Proof.FfnFin
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Hand

variable (m : (ℓ : Loc nD τ sig) → Buf (Elt Ideal) ℓ)

theorem idx : ∀ t : Fin cfg0.N, win0_0.index t = ![min (t.val - 4) 63, 0] ∧ win0_1.index t = ![min (t.val - 5) 63, 0]
    ∧ win0_2.index t = ![0, min t.val 3, 0] ∧ win0_3.index t = ![0, min t.val 3, 0] ∧ win0_4.index t = ![0, min t.val 3, 0]
    ∧ win0_5.index t = ![0, 0, 0] ∧ win0_6.index t = ![0, 0, 0] ∧ win0_7.index t = ![min (t.val - 5) 63, 0] ∧ win0_8.index t = ![min (t.val - 5) 63, 0] :=
  (by decide +kernel : ∀ t : Fin grid0.N, _)

theorem flush_x : ∀ t : Fin cfg0.N, (cfg0.win 7).flush t = true → 5 ≤ t.val :=
  (by decide +kernel : ∀ t : Fin grid0.N, _)

theorem flush_h : ∀ t : Fin cfg0.N, (cfg0.win 8).flush t = true → 5 ≤ t.val :=
  (by decide +kernel : ∀ t : Fin grid0.N, _)

theorem covers_x : (cfg0.win 7).Covers := by decide +kernel

theorem covers_h : (cfg0.win 8).Covers := by decide +kernel

theorem xTile_eq (c : Dev nD) (t : Fin cfg0.N) (ht : 5 ≤ t.val ∧ t.val < 68) (ys : Vec Ideal S512x1024 .f32) : xTile m c t ht ys = xG (iblk m c 5 t) ys (iblk m c 1 t) := by
  unfold xTile rTile
  frame_out
  simp only [read_unread_whole]
  exact rowsL_x _ _ _ _ _ _ _ rfl rfl rfl rfl

theorem hTile_eq (c : Dev nD) (t : Fin cfg0.N) (ht : 5 ≤ t.val ∧ t.val < 68) (ys : Vec Ideal S512x1024 .f32) : hTile m c t ht ys = hG (iblk m c 6 t) (xG (iblk m c 5 t) ys (iblk m c 1 t)) := by
  unfold hTile rTile
  frame_out
  simp only [read_unread_whole]
  exact rowsL_h _ _ _ _ _ _ _ _ rfl rfl rfl rfl

theorem xLast_eq (c : Dev nD) (t : Fin cfg0.N) (ht : t.val = 68) (ys : Vec Ideal S512x1024 .f32) : xLast m c t ht ys = xG (iblk m c 5 t) ys (iblk m c 1 t) := by
  unfold xLast rLast
  frame_out
  simp only [read_unread_whole]
  exact rowsL_x _ _ _ _ _ _ _ rfl rfl rfl rfl

theorem hLast_eq (c : Dev nD) (t : Fin cfg0.N) (ht : t.val = 68) (ys : Vec Ideal S512x1024 .f32) : hLast m c t ht ys = hG (iblk m c 6 t) (xG (iblk m c 5 t) ys (iblk m c 1 t)) := by
  unfold hLast rLast
  frame_out
  simp only [read_unread_whole]
  exact rowsL_h _ _ _ _ _ _ _ _ rfl rfl rfl rfl

/-- What a tile's matrix products leave of the hidden tile and its down projection. -/
abbrev prodG (c : Dev nD) (t : Fin cfg0.N) : S512x1024.Idx → Elt Ideal .f32 := outG (hidG (iblk m c 0 t) (gateW m c) (upW m c)) (downW m c)

theorem readCov_whole {S : Shape} {e : EltTy} {sg : RefSig} {κ : Kind} {sp : Space} (v : View sg κ sp S e) (L : List (View.Piece (Elt Ideal) S e)) {off : Fin S.rank → Nat} (h : off = fun _ => 0) (inb : ∀ a, off a + S.size a ≤ S.size a) :
    v.readCov L (Rect.unit off S.size inb).toLoadRect = View.canon L := by
  rw [View.readCov_eq_canon']; exact View.ld_unit_zero h inb (View.canon L)

theorem prod_of (c : Dev nD) (t : Fin cfg0.N) {L : List (View.Piece (Elt Ideal) S512x2816 .bf16)} (hL : Filled (hidG (iblk m c 0 t) (gateW m c) (upW m c)) 2816 L) :
    k0_pay6 ((View.whole cc0_scratch3).readCov L (Rect.unit (s := S512x2816) ![0, 0] ![512, 2816] inb_S512x2816_S512x2816_0_0).toLoadRect) (downW m c) = prodG m c t := by
  refine Eq.trans ?_ (pay6_eq _ _)
  refine congrArg (k0_pay6 · (downW m c)) ((readCov_whole _ _ ?_ _).trans (hL.canon (le_refl _)))
  funext a; fin_cases a <;> rfl

set_option maxHeartbeats 1000000 in
theorem yTile_eq (c : Dev nD) (t : Fin cfg0.N) (ht : 5 ≤ t.val ∧ t.val < 68) (ys : Vec Ideal S512x1024 .f32) : yTile m c t ht ys = prodG m c t := by
  unfold yTile rTile
  frame_out
  simp only [read_unread_whole]
  refine prod_of m c t ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.hid 0 (by omega) ?_ inb_S1024x2816_S1024x256_0_0 _ _ rfl
  exact Filled.nil _

set_option maxHeartbeats 1000000 in
theorem yFirst_eq (c : Dev nD) (t : Fin cfg0.N) (ht : t.val = 4) : yFirst m c t ht = prodG m c t := by
  unfold yFirst rFirst
  frame_out
  simp only [read_unread_whole]
  refine prod_of m c t ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.hid 0 (by omega) ?_ inb_S1024x2816_S1024x256_0_0 _ _ rfl
  exact Filled.nil _

/-- What the carried scratch holds after a point that multiplies. -/
theorem y_at (c : Dev nD) (t : Fin cfg0.N) (h4 : 4 ≤ t.val) (h68 : t.val < 68) : yAt m c t.val = prodG m c t := by
  by_cases h : t.val = 4
  · rw [yAt_first m c t h, yFirst_eq]
  · rw [yAt_tile m c t ⟨by omega, h68⟩, yTile_eq]

/-- The point before a point. -/
abbrev pred (t : Fin cfg0.N) : Fin cfg0.N := ⟨t.val - 1, Nat.lt_of_le_of_lt (Nat.sub_le _ _) t.isLt⟩

theorem x_out (c : Dev nD) (t : Fin cfg0.N) (h5 : 5 ≤ t.val) : xOut m c t = xG (iblk m c 5 t) (prodG m c (pred t)) (iblk m c 1 t) := by
  have hN : t.val < 69 := lt_of_lt_of_eq t.isLt N_0
  have hy : yBefore m c t = prodG m c (pred t) := y_at m c (pred t) (by show 4 ≤ t.val - 1; omega) (by show t.val - 1 < 68; omega)
  by_cases h : t.val = 68
  · rw [xOut_last m c t h, xLast_eq, hy]
  · rw [xOut_tile m c t ⟨h5, by omega⟩, xTile_eq, hy]

theorem h_out (c : Dev nD) (t : Fin cfg0.N) (h5 : 5 ≤ t.val) : hOut m c t = hG (iblk m c 6 t) (xG (iblk m c 5 t) (prodG m c (pred t)) (iblk m c 1 t)) := by
  have hN : t.val < 69 := lt_of_lt_of_eq t.isLt N_0
  have hy : yBefore m c t = prodG m c (pred t) := y_at m c (pred t) (by show 4 ≤ t.val - 1; omega) (by show t.val - 1 < 68; omega)
  by_cases h : t.val = 68
  · rw [hOut_last m c t h, hLast_eq, hy]
  · rw [hOut_tile m c t ⟨h5, by omega⟩, hTile_eq, hy]

end Cert.FfnIdeal.Value

end
-- ==== Proof.FfnRef.lean ====
module

public import proofs.«01_k».proof.Proof.Gen.RefFfnIdeal.Run
public import proofs.«01_k».proof.Proof.FfnPure
public import proofs.«01_k».proof.Proof.FfnFin
public import Idealize.ShloMosaic.Lib.Pointwise

@[expose] public section

set_option maxRecDepth 16384

noncomputable section

open Idealize.ShloMosaic Idealize.ShloMosaic.TcCoe Idealize.SL.Sem

namespace Cert.RefFfnIdeal.Value

open Cert.RefFfnIdeal Cert.RefFfnIdeal.Gen
open Cert.FfnIdeal.Value (act rmsS)

/-- A projection of the normalised rows, by one layer's weights. -/
def projR (A0 : FVec Ideal S32768x1024 .bf16) (A2 : FVec Ideal S4x1024x2816 .f32) : FVec Ideal S32768x2816 .f32 :=
  Host.dotGeneral dot_S32768x1024_S1024x2816_S32768x2816_1_0_0_1_n_n none (extf .f32 A0 bitsLt_bf16_f32) (shapeCast _ (extractStridedSlice S1x1024x2816 ![0, 0, 0] A2 slices_S4x1024x2816_S1x1024x2816_0_0_0) shapeCasts_S1x1024x2816_S1024x2816)

/-- The gate's activation times the up projection. -/
def hidR (a b : FVec Ideal S32768x2816 .f32) : FVec Ideal S32768x2816 .f32 :=
  mulf (mulf a (Host.divf (broadcastInDim S32768x2816 ![] bcast_S_S32768x2816 (constant S_ .f32 0x3F800000#32)) (addf (broadcastInDim S32768x2816 ![] bcast_S_S32768x2816 (constant S_ .f32 0x3F800000#32)) (Host.exp (Host.negf a))))) b

/-- The down projection. -/
def downR (q : FVec Ideal S32768x2816 .f32) (A4 : FVec Ideal S4x2816x1024 .f32) : FVec Ideal S32768x1024 .f32 :=
  Host.dotGeneral dot_S32768x2816_S2816x1024_S32768x1024_1_0_0_1_n_n none q (shapeCast _ (extractStridedSlice S1x2816x1024 ![0, 0, 0] A4 slices_S4x2816x1024_S1x2816x1024_0_0_0) shapeCasts_S1x2816x1024_S2816x1024)

/-- The root-mean-square normalisation of every row, by one layer's gain. -/
def normR (y : FVec Ideal S32768x1024 .f32) (A5 : FVec Ideal S4x1x1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1x1024 ![0, 0, 0] A5 slices_S4x1x1024_S1x1x1024_0_0_0) shapeCasts_S1x1x1024_S1024)))

/-- The first result: the input plus half the normalised product. -/
def XR (A0 : FVec Ideal S32768x1024 .bf16) (A1 : FVec Ideal S32768x1024 .f32) (A2 A3 : FVec Ideal S4x1024x2816 .f32) (A4 : FVec Ideal S4x2816x1024 .f32) (A5 : FVec Ideal S4x1x1024 .f32) : FVec Ideal S32768x1024 .f32 :=
  addf A1 (mulf (broadcastInDim S32768x1024 ![] bcast_S_S32768x1024 (constant S_ .f32 0x3F000000#32)) (normR (downR (hidR (projR A0 A2) (projR A0 A3)) A4) A5))

/-- The second result: the first, normalised again. -/
def HR (A0 : FVec Ideal S32768x1024 .bf16) (A1 : FVec Ideal S32768x1024 .f32) (A2 A3 : FVec Ideal S4x1024x2816 .f32) (A4 : FVec Ideal S4x2816x1024 .f32) (A5 A6 : FVec Ideal S4x1x1024 .f32) : FVec Ideal S32768x1024 .bf16 :=
  truncf .bf16 (normR (XR A0 A1 A2 A3 A4 A5) A6) bitsLt_bf16_f32

theorem res_x (m : (ℓ : Loc nD τ sig) → Buf (Elt Ideal) ℓ) (c : Dev nD) : res_main_v29 m c = XR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v29; rfl

theorem res_h (m : (ℓ : Loc nD τ sig) → Buf (Elt Ideal) ℓ) (c : Dev nD) : res_main_v45 m c = HR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v45; rfl

/-- The reference's run, its two results named. -/
theorem run_REF (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = XR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v45) = HR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (res_x m c), (h c).2.1.trans (res_h m c), (h c).2.2⟩) (run m ρ)

theorem exp_nonneg (x : EReal) : 0 ≤ Ideal.exp x := by
  induction x using EReal.rec with
  | bot => exact le_refl _
  | top => exact le_top
  | coe r => exact EReal.coe_nonneg.mpr (Real.exp_nonneg r)

/-- The activation, its denominator inverted first. -/
theorem act_eq (a b : EReal) : a * Ideal.div (Ideal.ofBits .f32 0x3F800000#32) (Ideal.ofBits .f32 0x3F800000#32 + Ideal.exp (-a)) * b = act a b := by
  unfold act
  rw [Ideal.ofBits_zero_f32, Ideal.ofBits_one_f32, zero_sub]
  have h : (1 : EReal) + Ideal.exp (-a) ≠ 0 := ne_of_gt (lt_of_lt_of_le zero_lt_one (le_add_of_nonneg_right (exp_nonneg _)))
  unfold Ideal.div
  rw [if_neg h, if_neg h, one_mul]

theorem projR_at (A0 : FVec Ideal S32768x1024 .bf16) (A2 : FVec Ideal S4x1024x2816 .f32) (r : Fin 32768) (d : Fin 2816) :
    projR A0 A2 (ix2 r d) = ∑ k : Fin 1024, A0 (ix2 r k) * A2 (ix3 0 k d) := by
  pointwise [projR]

theorem hidR_at (a b : FVec Ideal S32768x2816 .f32) (r : Fin 32768) (d : Fin 2816) : hidR a b (ix2 r d) = act (a (ix2 r d)) (b (ix2 r d)) := by
  rw [← act_eq]
  pointwise [hidR]

theorem downR_at (q : FVec Ideal S32768x2816 .f32) (A4 : FVec Ideal S4x2816x1024 .f32) (r : Fin 32768) (d : Fin 1024) :
    downR q A4 (ix2 r d) = ∑ k : Fin 2816, q (ix2 r k) * A4 (ix3 0 k d) := by
  pointwise [downR]

theorem normR_at (y : FVec Ideal S32768x1024 .f32) (A5 : FVec Ideal S4x1x1024 .f32) (r : Fin 32768) (d : Fin 1024) :
    normR y A5 (ix2 r d) = y (ix2 r d) * rmsS y r * A5 (ix3 0 0 d) := by
  unfold rmsS
  pointwise [normR]

/-- The product the reference's residual step adds, at one token and one feature. -/
def YR (A0 : FVec Ideal S32768x1024 .bf16) (A2 A3 : FVec Ideal S4x1024x2816 .f32) (A4 : FVec Ideal S4x2816x1024 .f32) : (⟨2, ![32768, 1024]⟩ : Shape).Idx → EReal :=
  fun j => ∑ k : Fin 2816, act (∑ l : Fin 1024, A0 (ix2 (j 0) l) * A2 (ix3 0 l k)) (∑ l : Fin 1024, A0 (ix2 (j 0) l) * A3 (ix3 0 l k)) * A4 (ix3 0 k (j 1))

theorem down_eq (A0 : FVec Ideal S32768x1024 .bf16) (A2 A3 : FVec Ideal S4x1024x2816 .f32) (A4 : FVec Ideal S4x2816x1024 .f32) :
    downR (hidR (projR A0 A2) (projR A0 A3)) A4 = YR A0 A2 A3 A4 := by
  funext j
  obtain ⟨r, d, rfl⟩ : ∃ (r : Fin 32768) (d : Fin 1024), j = ix2 r d := ⟨j 0, j 1, funext fun a => by fin_cases a <;> rfl⟩
  rw [downR_at]
  refine Finset.sum_congr rfl fun k _ => ?_
  rw [hidR_at, projR_at, projR_at]
  rfl

theorem XR_at (A0 : FVec Ideal S32768x1024 .bf16) (A1 : FVec Ideal S32768x1024 .f32) (A2 A3 : FVec Ideal S4x1024x2816 .f32) (A4 : FVec Ideal S4x2816x1024 .f32) (A5 : FVec Ideal S4x1x1024 .f32) (r : Fin 32768) (d : Fin 1024) :
    XR A0 A1 A2 A3 A4 A5 (ix2 r d) = A1 (ix2 r d) + YR A0 A2 A3 A4 (ix2 r d) * rmsS (YR A0 A2 A3 A4) r * (Ideal.ofBits .f32 0x3F000000#32 * A5 (ix3 0 0 d)) := by
  have h : XR A0 A1 A2 A3 A4 A5 (ix2 r d) = A1 (ix2 r d) + Ideal.ofBits .f32 0x3F000000#32 * normR (downR (hidR (projR A0 A2) (projR A0 A3)) A4) A5 (ix2 r d) := by
    unfold XR
    generalize normR (downR (hidR (projR A0 A2) (projR A0 A3)) A4) A5 = w
    pointwise []
  rw [h, normR_at, down_eq, mul_left_comm]

theorem HR_at (A0 : FVec Ideal S32768x1024 .bf16) (A1 : FVec Ideal S32768x1024 .f32) (A2 A3 : FVec Ideal S4x1024x2816 .f32) (A4 : FVec Ideal S4x2816x1024 .f32) (A5 A6 : FVec Ideal S4x1x1024 .f32) (r : Fin 32768) (d : Fin 1024) :
    HR A0 A1 A2 A3 A4 A5 A6 (ix2 r d) = XR A0 A1 A2 A3 A4 A5 (ix2 r d) * rmsS (XR A0 A1 A2 A3 A4 A5) r * A6 (ix3 0 0 d) :=
  normR_at (XR A0 A1 A2 A3 A4 A5) A6 r d

end Cert.RefFfnIdeal.Value

end
-- ==== Proof.FfnValue.lean ====
module

public import proofs.«01_k».proof.Proof.FfnIdealFrame
public import Idealize.ShloMosaic.Lib.Pipeline.ValueKit
public import Idealize.ShloMosaic.Lib.Pointwise
public import proofs.«01_k».proof.Proof.FfnPoint
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Hand
open Cert.RefFfnIdeal.Value (XR HR YR XR_at HR_at)

variable (m : (ℓ : Loc nD τ sig) → Buf (Elt Ideal) ℓ)

theorem pay1_at (v : Vec Ideal S1x256x2816 .f32) (r : Fin 256) (d : Fin 2816) : k0_pay1 (F := Ideal) v (ix2 r d) = v (ix3 0 r d) := by
  pointwise [k0_pay1]

theorem pay2_at (v : Vec Ideal S1x256x2816 .f32) (r : Fin 256) (d : Fin 2816) : k0_pay2 (F := Ideal) v (ix2 r d) = v (ix3 0 r d) := by
  pointwise [k0_pay2]

theorem pay3_at (v : Vec Ideal S1x704x1024 .f32) (r : Fin 704) (d : Fin 1024) : k0_pay3 (F := Ideal) v (ix2 r d) = v (ix3 0 r d) := by
  pointwise [k0_pay3]

theorem gblk (c : Dev nD) (t : Fin cfg0.N) (r : Fin 256) (d : Fin 2816) :
    (iblk m c 2 t : Vec Ideal S1x256x2816 .f32) (ix3 0 r d) = (m ((c : Thread nD τ).loc main_arg2)) (ix3 0 ⟨256 * min t.val 3 + r.val, by omega⟩ d) := by
  blk_ext [iblk, V, idx t]

theorem ublk (c : Dev nD) (t : Fin cfg0.N) (r : Fin 256) (d : Fin 2816) :
    (iblk m c 3 t : Vec Ideal S1x256x2816 .f32) (ix3 0 r d) = (m ((c : Thread nD τ).loc main_arg3)) (ix3 0 ⟨256 * min t.val 3 + r.val, by omega⟩ d) := by
  blk_ext [iblk, V, idx t]

theorem dblk (c : Dev nD) (t : Fin cfg0.N) (r : Fin 704) (d : Fin 1024) :
    (iblk m c 4 t : Vec Ideal S1x704x1024 .f32) (ix3 0 r d) = (m ((c : Thread nD τ).loc main_arg4)) (ix3 0 ⟨704 * min t.val 3 + r.val, by omega⟩ d) := by
  blk_ext [iblk, V, idx t]

theorem gate_at (c : Dev nD) (k : Fin 1024) (d : Fin 2816) : gateW m c (ix2 k d) = (m ((c : Thread nD τ).loc main_arg2)) (ix3 0 k d) := by
  refine (pay1_at _ _ _).trans ((gblk m c _ _ _).trans (congrArg (fun q => (m ((c : Thread nD τ).loc main_arg2)) (ix3 0 q d)) (Fin.ext ?_)))
  show 256 * min (k.val / 256) 3 + k.val % 256 = k.val
  omega

theorem up_at (c : Dev nD) (k : Fin 1024) (d : Fin 2816) : upW m c (ix2 k d) = (m ((c : Thread nD τ).loc main_arg3)) (ix3 0 k d) := by
  refine (pay2_at _ _ _).trans ((ublk m c _ _ _).trans (congrArg (fun q => (m ((c : Thread nD τ).loc main_arg3)) (ix3 0 q d)) (Fin.ext ?_)))
  show 256 * min (k.val / 256) 3 + k.val % 256 = k.val
  omega

theorem down_at (c : Dev nD) (k : Fin 2816) (d : Fin 1024) : downW m c (ix2 k d) = (m ((c : Thread nD τ).loc main_arg4)) (ix3 0 k d) := by
  refine (pay3_at _ _ _).trans ((dblk m c _ _ _).trans (congrArg (fun q => (m ((c : Thread nD τ).loc main_arg4)) (ix3 0 q d)) (Fin.ext ?_)))
  show 704 * min (k.val / 704) 3 + k.val % 704 = k.val
  omega

theorem hblk (c : Dev nD) (t : Fin cfg0.N) (r : Fin 512) (k : Fin 1024) :
    (iblk m c 0 t : Vec Ideal S512x1024 .bf16) (ix2 r k) = (m ((c : Thread nD τ).loc main_arg0)) (ix2 ⟨512 * min (t.val - 4) 63 + r.val, by omega⟩ k) := by
  blk_ext [iblk, V, idx t]

theorem xblk (c : Dev nD) (t : Fin cfg0.N) (r : Fin 512) (k : Fin 1024) :
    (iblk m c 1 t : Vec Ideal S512x1024 .f32) (ix2 r k) = (m ((c : Thread nD τ).loc main_arg1)) (ix2 ⟨512 * min (t.val - 5) 63 + r.val, by omega⟩ k) := by
  blk_ext [iblk, V, idx t]

theorem postblk (c : Dev nD) (t : Fin cfg0.N) (d : Fin 1024) : (iblk m c 5 t : Vec Ideal S1x1x1024 .f32) (ix3 0 0 d) = (m ((c : Thread nD τ).loc main_arg5)) (ix3 0 0 d) := by
  blk_ext [iblk, V, idx t]

theorem nextblk (c : Dev nD) (t : Fin cfg0.N) (d : Fin 1024) : (iblk m c 6 t : Vec Ideal S1x1x1024 .f32) (ix3 0 0 d) = (m ((c : Thread nD τ).loc main_arg6)) (ix3 0 0 d) := by
  blk_ext [iblk, V, idx t]

/-- The product of one tile of tokens is the reference's at those tokens. -/
theorem prod_at (c : Dev nD) (t : Fin cfg0.N) (h5 : 5 ≤ t.val) (r : Fin 512) (d : Fin 1024) :
    prodG m c (pred t) (ix2 r d) = YR (m ((c : Thread nD τ).loc main_arg0)) (m ((c : Thread nD τ).loc main_arg2)) (m ((c : Thread nD τ).loc main_arg3)) (m ((c : Thread nD τ).loc main_arg4))
      (ix2 ⟨512 * min (t.val - 5) 63 + r.val, by omega⟩ d) := by
  have hh : ∀ k : Fin 1024, (iblk m c 0 (pred t) : Vec Ideal S512x1024 .bf16) (ix2 r k) = (m ((c : Thread nD τ).loc main_arg0)) (ix2 ⟨512 * min (t.val - 5) 63 + r.val, by omega⟩ k) := fun k =>
    (hblk m c (pred t) r k).trans (congrArg (fun q => (m ((c : Thread nD τ).loc main_arg0)) (ix2 q k)) (Fin.ext (by
      show 512 * min (t.val - 1 - 4) 63 + r.val = 512 * min (t.val - 5) 63 + r.val
      omega)))
  exact Finset.sum_congr rfl fun k _ => congrArg₂ (· * ·) (congrArg₂ act
    (Finset.sum_congr rfl fun l _ => congrArg₂ (· * ·) (hh l) (gate_at m c l k)) (Finset.sum_congr rfl fun l _ => congrArg₂ (· * ·) (hh l) (up_at m c l k))) (down_at m c k d)

/-- The reference's first result, of this run's arguments. -/
abbrev XK (c : Dev nD) := XR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's second result, of this run's arguments. -/
abbrev HK (c : Dev nD) := HR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem x_at (c : Dev nD) (t : Fin cfg0.N) (h5 : 5 ≤ t.val) (r : Fin 512) (d : Fin 1024) :
    xG (iblk m c 5 t) (prodG m c (pred t)) (iblk m c 1 t) (ix2 r d) = XK m c (ix2 ⟨512 * min (t.val - 5) 63 + r.val, by omega⟩ d) := by
  have hy := prod_at m c t h5 r
  refine Eq.trans ?_ (XR_at _ _ _ _ _ _ _ d).symm
  exact congrArg₂ (· + ·) (xblk m c t r d) (congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (congrArg₂ (· * ·) rfl (postblk m c t d)))

theorem h_at (c : Dev nD) (t : Fin cfg0.N) (h5 : 5 ≤ t.val) (r : Fin 512) (d : Fin 1024) :
    hG (iblk m c 6 t) (xG (iblk m c 5 t) (prodG m c (pred t)) (iblk m c 1 t)) (ix2 r d) = HK m c (ix2 ⟨512 * min (t.val - 5) 63 + r.val, by omega⟩ d) := by
  have hy := x_at m c t h5 r
  refine Eq.trans ?_ (HR_at _ _ _ _ _ _ _ _ d).symm
  exact congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (nextblk m c t d)

theorem idx512 (x : S512x1024.Idx) : ∃ (r : Fin 512) (d : Fin 1024), x = ix2 r d := ⟨x 0, x 1, funext fun a => by fin_cases a <;> rfl⟩

/-- The kernel's first result array, after its last grid point, is the reference's. -/
theorem final_x (c : Dev nD) : (dats m 0 c).arrAt 7 (cfgs 0).N = XK m c := by
  refine (dats m 0 c).arrAt_eq_of_covers 7 _ covers_x fun t hf y => ?_
  have ht := flush_x t hf
  blk_simp
  rw [after_7, x_out m c t ht]
  obtain ⟨r, d, rfl⟩ := idx512 y
  rw [show (win0_7.blk t).view.emb (ix2 r d : S512x1024.Idx) = (ix2 ⟨512 * min (t.val - 5) 63 + r.val, by omega⟩ d : S32768x1024.Idx) from by blk_ext [idx t]]
  exact x_at m c t ht r d

/-- The kernel's second result array, after its last grid point, is the reference's. -/
theorem final_h (c : Dev nD) : (dats m 0 c).arrAt 8 (cfgs 0).N = HK m c := by
  refine (dats m 0 c).arrAt_eq_of_covers 8 _ covers_h fun t hf y => ?_
  have ht := flush_h t hf
  blk_simp
  rw [after_8, h_out m c t ht]
  obtain ⟨r, d, rfl⟩ := idx512 y
  rw [show (win0_8.blk t).view.emb (ix2 r d : S512x1024.Idx) = (ix2 ⟨512 * min (t.val - 5) 63 + r.val, by omega⟩ d : S32768x1024.Idx) from by blk_ext [idx t]]
  exact h_at m c t ht r d

end Cert.FfnIdeal.Value

end
-- ==== Proof.FfnPreIdealPoints.lean ====
module

public import proofs.«01_k».proof.Proof.Gen.FfnPreIdeal.Frame
public import proofs.«01_k».proof.Proof.Gen.FfnPreIdeal.Skeleton
public import proofs.«01_k».proof.Proof.Gen.FfnPreIdeal.Points
public import proofs.«01_k».proof.Proof.Gen.FfnPreIdeal.Launch
public import Idealize.ShloMosaic.Lib.Pipeline.FrameBody
public import Idealize.ShloMosaic.Lib.Pipeline.ValueKit
public import Idealize.ShloMosaic.Lib.Pipeline.TableIdle
public import Idealize.ShloMosaic.Lib.Ring
public import Idealize.ShloMosaic.Lib.WritesUnit
public import Idealize.ShloMosaic.Lib.Tactic
public import Idealize.ShloMosaic.Lib.WordCmp

@[expose] public section

set_option maxRecDepth 16384

noncomputable section

namespace Cert.FfnPreIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnPreIdeal Cert.FfnPreIdeal.Gen

variable {F : FTy → Type} [FloatOps F]

local notation "𝕄" => MT nD τ sig Unit (Elt F) ℕ (UR sig nD τ) ℕ

/-- The first points, which load the weights. -/
abbrev condL (i : grid0.Coords) : Prop := k0_cond1 i = 1#1
/-- The first tile's point. -/
abbrev condZ (i : grid0.Coords) : Prop := (Scalar.cmpi .ne (Scalar.extui (Scalar.cmpi .eq (Scalar.subi (BitVec.ofNat 32 (i 0).val) 4#32) 0#32)) 0#32) = 1#1
/-- The points of the even tiles. -/
abbrev condP0 (i : grid0.Coords) : Prop := k0_cond3 i = 1#1
/-- The points of the odd tiles. -/
abbrev condP1 (i : grid0.Coords) : Prop := k0_cond4 i = 1#1
/-- The last point. -/
abbrev condE (i : grid0.Coords) : Prop := k0_cond5 i = 1#1

theorem hcondL : ∀ t : Fin cfg0.N, condL (grid0.coords t) ↔ t.val < 4 := (by decide +kernel : ∀ t : Fin grid0.N, _)
theorem hcondZ : ∀ t : Fin cfg0.N, condZ (grid0.coords t) ↔ t.val = 4 := (by decide +kernel : ∀ t : Fin grid0.N, _)
theorem hcondP0 : ∀ t : Fin cfg0.N, condP0 (grid0.coords t) ↔ 4 ≤ t.val ∧ t.val < 68 ∧ t.val % 2 = 0 := (by decide +kernel : ∀ t : Fin grid0.N, _)
theorem hcondP1 : ∀ t : Fin cfg0.N, condP1 (grid0.coords t) ↔ 4 ≤ t.val ∧ t.val < 68 ∧ t.val % 2 = 1 := (by decide +kernel : ∀ t : Fin grid0.N, _)
theorem hcondE : ∀ t : Fin cfg0.N, condE (grid0.coords t) ↔ t.val = 68 := (by decide +kernel : ∀ t : Fin grid0.N, _)

/-! The outputs are left alone at the loading points and written at every other. -/

theorem idleOut8 : ∀ t : Fin cfg0.N, cfg0.idle 8 (grid0.coords t) = decide (t.val < 4) := (by decide +kernel : ∀ t : Fin grid0.N, _)
theorem flushOut8 : ∀ t : Fin cfg0.N, t.val < 4 → (cfg0.win 8).flush t = false := (by decide +kernel : ∀ t : Fin grid0.N, _)
theorem idleOut9 : ∀ t : Fin cfg0.N, cfg0.idle 9 (grid0.coords t) = decide (t.val < 4) := (by decide +kernel : ∀ t : Fin grid0.N, _)
theorem flushOut9 : ∀ t : Fin cfg0.N, t.val < 4 → (cfg0.win 9).flush t = false := (by decide +kernel : ∀ t : Fin grid0.N, _)

theorem offGate : ∀ t : Fin cfg0.N, t.val < 4 → k0_off1 (grid0.coords t) = ![256 * t.val, 0] := (by decide +kernel : ∀ t : Fin grid0.N, _)
theorem offDown : ∀ t : Fin cfg0.N, t.val < 4 → k0_off2 (grid0.coords t) = ![704 * t.val, 0] := (by decide +kernel : ∀ t : Fin grid0.N, _)

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2816 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x704x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .bf16 := win0_9.stage (cfg0.slots t 9)
abbrev hs9 (t : Fin cfg0.N) : (ms9 t).IsWhole := hstage0_9 ((cfg0.slots t 9).cast nbuf0_9)
abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2
abbrev sc3 : Memref sig .tc .vmem S512x2816 .bf16 := Memref.whole cc0_scratch3
abbrev sc4 : Memref sig .tc .vmem S512x1024 .f32 := Memref.whole cc0_scratch4
abbrev sc5 : Memref sig .tc .vmem S512x1024 .bf16 := Memref.whole cc0_scratch5
abbrev sc6 : Memref sig .tc .vmem S512x1024 .bf16 := Memref.whole cc0_scratch6

/-- A buffer owned whole, at contents. -/
abbrev own {s : Shape} {e : EltTy} (c : Dev nD) (a : Memref sig .tc .vmem s e) (x : Vec F s e) : sProp 𝕄 := owns (c : Thread nD τ) a fullShare x
/-- A buffer owned whole, with pieces written over contents. -/
abbrev wr {s : Shape} {e : EltTy} (c : Dev nD) (a : Memref sig .tc .vmem s e) (f : a.view.ty.Contents (Elt F)) (L : List (View.Piece (Elt F) s e)) : sProp 𝕄 := a.view.loc (c : Thread nD τ) ↦[a.view.set]{fullShare} a.view.writes (Elt F) f L

/-- What was owned at its contents is so again. -/
theorem own_back {s : Shape} {e : EltTy} {c : Dev nD} {a : Memref sig .tc .vmem s e} (h : a.IsWhole) (x : Vec F s e) :
    (a.view.loc (c : Thread nD τ) ↦[a.view.set]{fullShare} h.unread x : sProp 𝕄) ⊢ iprop(∃ f, ⌜a.view.read (Elt F) f = x⌝ ∗ a.view.loc (c : Thread nD τ) ↦[a.view.set]{fullShare} f) := by
  iintro H
  iexists _; isplitr; · ipureintro; exact h.read_unread _
  iexact H
/-- What was written over is owned at what it reads. -/
theorem own_read {s : Shape} {e : EltTy} {c : Dev nD} {a : Memref sig .tc .vmem s e} (f : a.view.ty.Contents (Elt F)) :
    (a.view.loc (c : Thread nD τ) ↦[a.view.set]{fullShare} f : sProp 𝕄) ⊢ own c a (a.view.read (Elt F) f) := by
  unfold own owns
  iintro H
  iexists _; isplitr; swap; · iexact H
  ipureintro; rfl

/-- What the launch hands over, with each scratch as a buffer owned at some contents. -/
theorem launchInv_eq (c : Dev nD) :
    (Pipeline.ΦA spec0 c : sProp 𝕄)
      = iprop(iprop((∃ d, own c sc0 d) ∗ (∃ d, own c sc1 d) ∗ (∃ d, own c sc2 d) ∗ (∃ d, own c sc3 d) ∗ (∃ d, own c sc4 d) ∗ (∃ d, own c sc5 d) ∗ (∃ d, own c sc6 d)) ∗ (∃ r, prngReg c r)) := by
  unfold Pipeline.ΦA; rw [scopedRest0_eq]; simp only [sc0, sc1, sc2, sc3, sc4, sc5, sc6, own, owns_whole]; try rfl

end Cert.FfnPreIdeal.Hand

end
-- ==== Proof.FfnPreIdealRun.lean ====
module

public import proofs.«01_k».proof.Proof.FfnPreIdealPoints

@[expose] public section

set_option maxRecDepth 16384

noncomputable section

namespace Cert.FfnPreIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnPreIdeal Cert.FfnPreIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1x1024 .f32) (harg3 : arg3.IsWhole)
  (arg4 : Memref sig .tc .vmem S1x256x2816 .f32) (harg4 : arg4.IsWhole)
  (arg5 : Memref sig .tc .vmem S1x256x2816 .f32) (harg5 : arg5.IsWhole)
  (arg6 : Memref sig .tc .vmem S1x704x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S512x1024 .f32) (harg9 : arg9.IsWhole)
  (arg10 : Memref sig .tc .vmem S512x1024 .bf16) (harg10 : arg10.IsWhole)
  (arg11 : Memref sig .tc .vmem S1024x2816 .bf16) (harg11 : arg11.IsWhole)
  (arg12 : Memref sig .tc .vmem S1024x2816 .bf16) (harg12 : arg12.IsWhole)
  (arg13 : Memref sig .tc .vmem S2816x1024 .bf16) (harg13 : arg13.IsWhole)
  (arg14 : Memref sig .tc .vmem S512x2816 .bf16) (harg14 : arg14.IsWhole)
  (arg15 : Memref sig .tc .vmem S512x1024 .f32) (harg15 : arg15.IsWhole)
  (arg16 : Memref sig .tc .vmem S512x1024 .bf16) (harg16 : arg16.IsWhole)
  (arg17 : Memref sig .tc .vmem S512x1024 .bf16) (harg17 : arg17.IsWhole)
  (x0 : Vec F S512x1024 .f32) (x1 : Vec F S512x1024 .f32) (x2 : Vec F S1x1x1024 .f32) (x3 : Vec F S1x256x2816 .f32) (x4 : Vec F S1x256x2816 .f32) (x5 : Vec F S1x704x1024 .f32) (x6 : Vec F S1x1x1024 .f32) (x7 : Vec F S1x1x1024 .f32)
  (w0 w1 : Vec F S1024x2816 .bf16) (w2 : Vec F S2816x1024 .bf16)

/-- The blocks of the inputs, staged. -/
def ins : sProp 𝕄 := iprop(own c arg1 x0 ∗ own c arg2 x1 ∗ own c arg3 x2 ∗ own c arg4 x3 ∗ own c arg5 x4 ∗ own c arg6 x5 ∗ own c arg7 x6 ∗ own c arg8 x7)
/-- The three weight scratches. -/
def wts : sProp 𝕄 := iprop(own c arg11 w0 ∗ own c arg12 w1 ∗ own c arg13 w2)

set_option maxHeartbeats 4000000 in
/-- The body at a loading point: a slice of each weight scratch is stored over what it held. -/
def RunLoad (hc0 : condL i) (hc1 : ¬condZ i) (hc2 : ¬condP0 i) (hc3 : ¬condP1 i) (hc4 : ¬condE i) :
    Σ' (L10 : List (View.Piece (Elt F) S1024x2816 .bf16)), Σ' (L11 : List (View.Piece (Elt F) S1024x2816 .bf16)), { L12 : List (View.Piece (Elt F) S2816x1024 .bf16) //
      ∀ (E : Set ℕ) (K : PUnit → sProp 𝕄),
        iprop(ins c arg1 arg2 arg3 arg4 arg5 arg6 arg7 arg8 x0 x1 x2 x3 x4 x5 x6 x7 ∗ (∃ d, own c arg9 d) ∗ (∃ d, own c arg10 d) ∗ wts c arg11 arg12 arg13 w0 w1 w2 ∗ (∃ d, own c arg14 d) ∗ (∃ d, own c arg15 d) ∗ (∃ d, own c arg16 d) ∗ (∃ d, own c arg17 d)
            ∗ (iprop(ins c arg1 arg2 arg3 arg4 arg5 arg6 arg7 arg8 x0 x1 x2 x3 x4 x5 x6 x7 ∗ (∃ d, own c arg9 d) ∗ (∃ d, own c arg10 d) ∗ (∃ f, ⌜arg11.view.read (Elt F) f = w0⌝ ∗ wr c arg11 f L10) ∗ (∃ f, ⌜arg12.view.read (Elt F) f = w1⌝ ∗ wr c arg12 f L11) ∗ (∃ f, ⌜arg13.view.read (Elt F) f = w2⌝ ∗ wr c arg13 f L12) ∗ (∃ d, own c arg14 d) ∗ (∃ d, own c arg15 d) ∗ (∃ d, own c arg16 d) ∗ (∃ d, own c arg17 d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12
    sl_exec (disch := first | sl_exact hc0 | sl_exact hc1 | sl_exact hc2 | sl_exact hc3 | sl_exact hc4)
    sl_step
    iapply Hk
    isplitl [H0 H1 H2 H3 H4 H5 H6 H7]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      isplitl [H6]
      · iapply (own_back harg7 _); iexact H6
      · iapply (own_back harg8 _); iexact H7
    isplitl [H8]
    · iexists _, _; isplitr; swap; · iexact H8
      ipureintro; rfl
    isplitl [H9]
    · iexists _, _; isplitr; swap; · iexact H9
      ipureintro; rfl
    isplitl [H10]
    · iexists _; isplitr; swap; · iexact H10
      ipureintro; exact harg11.read_unread _
    isplitl [H11]
    · iexists _; isplitr; swap; · iexact H11
      ipureintro; exact harg12.read_unread _
    isplitl [H12]
    · iexists _; isplitr; swap; · iexact H12
      ipureintro; exact harg13.read_unread _
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    · iexists _, _; isplitr; swap; · iexact H16
      ipureintro; rfl

set_option maxHeartbeats 4000000 in
/-- The body at the first tile: its norm is taken here, and the next tile's. -/
def RunFirst (hc0 : ¬condL i) (hc1 : condZ i) (hc2 : condP0 i) (hc3 : ¬condP1 i) (hc4 : ¬condE i) :
    Σ' (L8 : List (View.Piece (Elt F) S512x1024 .f32)), Σ' (L9 : List (View.Piece (Elt F) S512x1024 .bf16)), Σ' (L13 : List (View.Piece (Elt F) S512x2816 .bf16)), Σ' (L14 : List (View.Piece (Elt F) S512x1024 .f32)), Σ' (L15 : List (View.Piece (Elt F) S512x1024 .bf16)), { L16 : List (View.Piece (Elt F) S512x1024 .bf16) //
      ∀ (E : Set ℕ) (K : PUnit → sProp 𝕄),
        iprop(ins c arg1 arg2 arg3 arg4 arg5 arg6 arg7 arg8 x0 x1 x2 x3 x4 x5 x6 x7 ∗ (∃ d, own c arg9 d) ∗ (∃ d, own c arg10 d) ∗ wts c arg11 arg12 arg13 w0 w1 w2 ∗ (∃ d, own c arg14 d) ∗ (∃ d, own c arg15 d) ∗ (∃ d, own c arg16 d) ∗ (∃ d, own c arg17 d)
            ∗ (iprop(ins c arg1 arg2 arg3 arg4 arg5 arg6 arg7 arg8 x0 x1 x2 x3 x4 x5 x6 x7 ∗ (∃ f, wr c arg9 f L8) ∗ (∃ f, wr c arg10 f L9) ∗ wts c arg11 arg12 arg13 w0 w1 w2 ∗ (∃ f, wr c arg14 f L13) ∗ (∃ f, wr c arg15 f L14) ∗ (∃ f, wr c arg16 f L15) ∗ (∃ f, wr c arg17 f L16)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12
    sl_exec (disch := first | sl_exact hc0 | sl_exact hc1 | sl_exact hc2 | sl_exact hc3 | sl_exact hc4)
    sl_step
    iapply Hk
    isplitl [H0 H1 H2 H3 H4 H5 H6 H7]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      isplitl [H6]
      · iapply (own_back harg7 _); iexact H6
      · iapply (own_back harg8 _); iexact H7
    isplitl [H8]
    · iexists _; iexact H8
    isplitl [H9]
    · iexists _; iexact H9
    isplitl [H10 H11 H12]
    · skip
      isplitl [H10]
      · iapply (own_back harg11 _); iexact H10
      isplitl [H11]
      · iapply (own_back harg12 _); iexact H11
      · iapply (own_back harg13 _); iexact H12
    isplitl [H13]
    · iexists _; iexact H13
    isplitl [H14]
    · iexists _; iexact H14
    isplitl [H15]
    · iexists _; iexact H15
    · iexists _; iexact H16

set_option maxHeartbeats 4000000 in
/-- The body at a later even tile: the tile before is finished, the next norm taken, this tile multiplied. -/
def RunEven (hc0 : ¬condL i) (hc1 : ¬condZ i) (hc2 : condP0 i) (hc3 : ¬condP1 i) (hc4 : ¬condE i) (ys : Vec F S512x1024 .f32) (hp : Vec F S512x1024 .bf16) :
    Σ' (L8 : List (View.Piece (Elt F) S512x1024 .f32)), Σ' (L9 : List (View.Piece (Elt F) S512x1024 .bf16)), Σ' (L13 : List (View.Piece (Elt F) S512x2816 .bf16)), Σ' (L14 : List (View.Piece (Elt F) S512x1024 .f32)), { L16 : List (View.Piece (Elt F) S512x1024 .bf16) //
      ∀ (E : Set ℕ) (K : PUnit → sProp 𝕄),
        iprop(ins c arg1 arg2 arg3 arg4 arg5 arg6 arg7 arg8 x0 x1 x2 x3 x4 x5 x6 x7 ∗ (∃ d, own c arg9 d) ∗ (∃ d, own c arg10 d) ∗ wts c arg11 arg12 arg13 w0 w1 w2 ∗ (∃ d, own c arg14 d) ∗ own c arg15 ys ∗ own c arg16 hp ∗ (∃ d, own c arg17 d)
            ∗ (iprop(ins c arg1 arg2 arg3 arg4 arg5 arg6 arg7 arg8 x0 x1 x2 x3 x4 x5 x6 x7 ∗ (∃ f, wr c arg9 f L8) ∗ (∃ f, wr c arg10 f L9) ∗ wts c arg11 arg12 arg13 w0 w1 w2 ∗ (∃ f, wr c arg14 f L13) ∗ (∃ f, ⌜arg15.view.read (Elt F) f = ys⌝ ∗ wr c arg15 f L14) ∗ own c arg16 hp ∗ (∃ f, wr c arg17 f L16)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩⟩, ⟨%d13, %f13, -, H13⟩, ⟨%f14, %hf14, H14⟩, ⟨%f15, %hf15, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12; obtain rfl := harg15.eq_unread hf14; obtain rfl := harg16.eq_unread hf15
    sl_exec (disch := first | sl_exact hc0 | sl_exact hc1 | sl_exact hc2 | sl_exact hc3 | sl_exact hc4)
    sl_step
    iapply Hk
    isplitl [H0 H1 H2 H3 H4 H5 H6 H7]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      isplitl [H6]
      · iapply (own_back harg7 _); iexact H6
      · iapply (own_back harg8 _); iexact H7
    isplitl [H8]
    · iexists _; iexact H8
    isplitl [H9]
    · iexists _; iexact H9
    isplitl [H10 H11 H12]
    · skip
      isplitl [H10]
      · iapply (own_back harg11 _); iexact H10
      isplitl [H11]
      · iapply (own_back harg12 _); iexact H11
      · iapply (own_back harg13 _); iexact H12
    isplitl [H13]
    · iexists _; iexact H13
    isplitl [H14]
    · iexists _; isplitr; swap; · iexact H14
      ipureintro; exact harg15.read_unread _
    isplitl [H15]
    · iapply (own_back harg16 _); iexact H15
    · iexists _; iexact H16

set_option maxHeartbeats 4000000 in
/-- The body at an odd tile: the same with the two norm buffers exchanged. -/
def RunOdd (hc0 : ¬condL i) (hc1 : ¬condZ i) (hc2 : ¬condP0 i) (hc3 : condP1 i) (hc4 : ¬condE i) (ys : Vec F S512x1024 .f32) (hp : Vec F S512x1024 .bf16) :
    Σ' (L8 : List (View.Piece (Elt F) S512x1024 .f32)), Σ' (L9 : List (View.Piece (Elt F) S512x1024 .bf16)), Σ' (L13 : List (View.Piece (Elt F) S512x2816 .bf16)), Σ' (L14 : List (View.Piece (Elt F) S512x1024 .f32)), { L15 : List (View.Piece (Elt F) S512x1024 .bf16) //
      ∀ (E : Set ℕ) (K : PUnit → sProp 𝕄),
        iprop(ins c arg1 arg2 arg3 arg4 arg5 arg6 arg7 arg8 x0 x1 x2 x3 x4 x5 x6 x7 ∗ (∃ d, own c arg9 d) ∗ (∃ d, own c arg10 d) ∗ wts c arg11 arg12 arg13 w0 w1 w2 ∗ (∃ d, own c arg14 d) ∗ own c arg15 ys ∗ (∃ d, own c arg16 d) ∗ own c arg17 hp
            ∗ (iprop(ins c arg1 arg2 arg3 arg4 arg5 arg6 arg7 arg8 x0 x1 x2 x3 x4 x5 x6 x7 ∗ (∃ f, wr c arg9 f L8) ∗ (∃ f, wr c arg10 f L9) ∗ wts c arg11 arg12 arg13 w0 w1 w2 ∗ (∃ f, wr c arg14 f L13) ∗ (∃ f, ⌜arg15.view.read (Elt F) f = ys⌝ ∗ wr c arg15 f L14) ∗ (∃ f, wr c arg16 f L15) ∗ own c arg17 hp) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩⟩, ⟨%d13, %f13, -, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12; obtain rfl := harg15.eq_unread hf14; obtain rfl := harg17.eq_unread hf16
    sl_exec (disch := first | sl_exact hc0 | sl_exact hc1 | sl_exact hc2 | sl_exact hc3 | sl_exact hc4)
    sl_step
    iapply Hk
    isplitl [H0 H1 H2 H3 H4 H5 H6 H7]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      isplitl [H6]
      · iapply (own_back harg7 _); iexact H6
      · iapply (own_back harg8 _); iexact H7
    isplitl [H8]
    · iexists _; iexact H8
    isplitl [H9]
    · iexists _; iexact H9
    isplitl [H10 H11 H12]
    · skip
      isplitl [H10]
      · iapply (own_back harg11 _); iexact H10
      isplitl [H11]
      · iapply (own_back harg12 _); iexact H11
      · iapply (own_back harg13 _); iexact H12
    isplitl [H13]
    · iexists _; iexact H13
    isplitl [H14]
    · iexists _; isplitr; swap; · iexact H14
      ipureintro; exact harg15.read_unread _
    isplitl [H15]
    · iexists _; iexact H15
    · iapply (own_back harg17 _); iexact H16

set_option maxHeartbeats 4000000 in
/-- The body at the last point: the last tile is finished. -/
def RunLast (hc0 : ¬condL i) (hc1 : ¬condZ i) (hc2 : ¬condP0 i) (hc3 : ¬condP1 i) (hc4 : condE i) (ys : Vec F S512x1024 .f32) :
    Σ' (L8 : List (View.Piece (Elt F) S512x1024 .f32)), { L9 : List (View.Piece (Elt F) S512x1024 .bf16) //
      ∀ (E : Set ℕ) (K : PUnit → sProp 𝕄),
        iprop(ins c arg1 arg2 arg3 arg4 arg5 arg6 arg7 arg8 x0 x1 x2 x3 x4 x5 x6 x7 ∗ (∃ d, own c arg9 d) ∗ (∃ d, own c arg10 d) ∗ wts c arg11 arg12 arg13 w0 w1 w2 ∗ (∃ d, own c arg14 d) ∗ own c arg15 ys ∗ (∃ d, own c arg16 d) ∗ (∃ d, own c arg17 d)
            ∗ (iprop(ins c arg1 arg2 arg3 arg4 arg5 arg6 arg7 arg8 x0 x1 x2 x3 x4 x5 x6 x7 ∗ (∃ f, wr c arg9 f L8) ∗ (∃ f, wr c arg10 f L9) ∗ wts c arg11 arg12 arg13 w0 w1 w2 ∗ (∃ d, own c arg14 d) ∗ own c arg15 ys ∗ (∃ d, own c arg16 d) ∗ (∃ d, own c arg17 d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩⟩, ⟨%d13, %f13, -, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12; obtain rfl := harg15.eq_unread hf14
    sl_exec (disch := first | sl_exact hc0 | sl_exact hc1 | sl_exact hc2 | sl_exact hc3 | sl_exact hc4)
    sl_step
    iapply Hk
    isplitl [H0 H1 H2 H3 H4 H5 H6 H7]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      isplitl [H6]
      · iapply (own_back harg7 _); iexact H6
      · iapply (own_back harg8 _); iexact H7
    isplitl [H8]
    · iexists _; iexact H8
    isplitl [H9]
    · iexists _; iexact H9
    isplitl [H10 H11 H12]
    · skip
      isplitl [H10]
      · iapply (own_back harg11 _); iexact H10
      isplitl [H11]
      · iapply (own_back harg12 _); iexact H11
      · iapply (own_back harg13 _); iexact H12
    isplitl [H13]
    · iexists _, _; isplitr; swap; · iexact H13
      ipureintro; rfl
    isplitl [H14]
    · iapply (own_back harg15 _); iexact H14
    isplitl [H15]
    · iexists _, _; isplitr; swap; · iexact H15
      ipureintro; rfl
    · iexists _, _; isplitr; swap; · iexact H16
      ipureintro; rfl

end Cert.FfnPreIdeal.Hand

end
-- ==== Proof.FfnPreIdealData.lean ====
module

public import proofs.«01_k».proof.Proof.FfnPreIdealRun

@[expose] public section

set_option maxRecDepth 16384

noncomputable section

namespace Cert.FfnPreIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnPreIdeal Cert.FfnPreIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the weight scratches hold once loaded -/

/-- The gate weights: row `r` was stored at point `r / 256`. -/
def gateW (c : Dev nD) : Vec F S1024x2816 .bf16 := fun y =>
  have h : (y 0).val < 1024 := (y 0).isLt
  k0_pay112 (iblk m c 3 ⟨(y 0).val / 256, lt_of_lt_of_eq (b := 69) (by omega) N_0.symm⟩) (ix2 ⟨(y 0).val % 256, Nat.mod_lt _ (by decide)⟩ (y 1))
/-- The up weights, likewise. -/
def upW (c : Dev nD) : Vec F S1024x2816 .bf16 := fun y =>
  have h : (y 0).val < 1024 := (y 0).isLt
  k0_pay113 (iblk m c 4 ⟨(y 0).val / 256, lt_of_lt_of_eq (b := 69) (by omega) N_0.symm⟩) (ix2 ⟨(y 0).val % 256, Nat.mod_lt _ (by decide)⟩ (y 1))
/-- The down weights: row `r` was stored at point `r / 704`. -/
def downW (c : Dev nD) : Vec F S2816x1024 .bf16 := fun y =>
  have h : (y 0).val < 2816 := (y 0).isLt
  k0_pay114 (iblk m c 5 ⟨(y 0).val / 704, lt_of_lt_of_eq (b := 69) (by omega) N_0.symm⟩) (ix2 ⟨(y 0).val % 704, Nat.mod_lt _ (by decide)⟩ (y 1))

/-- Before point `n` the weight scratches hold the rows the points before stored. -/
structure Loaded (c : Dev nD) (n : ℕ) (d0 : Vec F S1024x2816 .bf16) (d1 : Vec F S1024x2816 .bf16) (d2 : Vec F S2816x1024 .bf16) : Prop where
  gate : ∀ y, (y 0).val < 256 * min n 4 → d0 y = gateW m c y
  up : ∀ y, (y 0).val < 256 * min n 4 → d1 y = upW m c y
  down : ∀ y, (y 0).val < 704 * min n 4 → d2 y = downW m c y

theorem Loaded.all {c : Dev nD} {n : ℕ} {d0 d1 d2} (h : Loaded m c n d0 d1 d2) (hn : 4 ≤ n) : d0 = gateW m c ∧ d1 = upW m c ∧ d2 = downW m c := by
  have e : min n 4 = 4 := by omega
  refine ⟨funext fun y => h.gate y ?_, funext fun y => h.up y ?_, funext fun y => h.down y ?_⟩
  · rw [e]; exact (y 0).isLt
  · rw [e]; exact (y 0).isLt
  · rw [e]; exact (y 0).isLt

section

variable (c : Dev nD) (t : Fin cfg0.N)

/-- The blocks of the inputs at a point. -/
abbrev insAt : sProp 𝕄 := ins c (ms0 t) (ms1 t) (ms2 t) (ms3 t) (ms4 t) (ms5 t) (ms6 t) (ms7 t) (iblk m c 0 t) (iblk m c 1 t) (iblk m c 2 t) (iblk m c 3 t) (iblk m c 4 t) (iblk m c 5 t) (iblk m c 6 t) (iblk m c 7 t)

section
variable (ht : t.val < 4) (d0 d1 : Vec F S1024x2816 .bf16) (d2 : Vec F S2816x1024 .bf16)
/-- The run of the body at a point, load. -/
abbrev rLoad :=
  RunLoad (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (iblk m c 7 t) d0 d1 d2 ((hcondL t).mpr (by omega)) (fun h => absurd ((hcondZ t).mp h) (by omega)) (fun h => absurd ((hcondP0 t).mp h) (by omega)) (fun h => absurd ((hcondP1 t).mp h) (by omega)) (fun h => absurd ((hcondE t).mp h) (by omega))
end

section
variable (ht : t.val = 4)
/-- The run of the body at a point, first. -/
abbrev rFirst :=
  RunFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (iblk m c 7 t) (gateW m c) (upW m c) (downW m c) (fun h => absurd ((hcondL t).mp h) (by omega)) ((hcondZ t).mpr (by omega)) ((hcondP0 t).mpr (by omega)) (fun h => absurd ((hcondP1 t).mp h) (by omega)) (fun h => absurd ((hcondE t).mp h) (by omega))
/-- What first leaves of the residual stream. -/
def xFirst : Vec F S512x1024 .f32 := View.canon (rFirst m c t ht).1
theorem cover_xFirst (y : S512x1024.Idx) : ∃ pc ∈ (rFirst m c t ht).1, y ∈ pc.1.set :=
  View.cover_of_tiledL (rFirst m c t ht).1 S128x1024.size (by sl_kernel_rfl) y
/-- What first leaves of the next norm. -/
def hFirst : Vec F S512x1024 .bf16 := View.canon (rFirst m c t ht).2.1
theorem cover_hFirst (y : S512x1024.Idx) : ∃ pc ∈ (rFirst m c t ht).2.1, y ∈ pc.1.set :=
  View.cover_of_tiledL (rFirst m c t ht).2.1 S128x1024.size (by sl_kernel_rfl) y
/-- What first leaves of the product. -/
def yFirst : Vec F S512x1024 .f32 := View.canon (rFirst m c t ht).2.2.2.1
theorem cover_yFirst (y : S512x1024.Idx) : ∃ pc ∈ (rFirst m c t ht).2.2.2.1, y ∈ pc.1.set :=
  View.cover_of_tiledL (rFirst m c t ht).2.2.2.1 S512x1024.size (by sl_kernel_rfl) y
/-- What first leaves of the next tile's leading norm. -/
def nFirst : Vec F S512x1024 .bf16 := View.canon (rFirst m c t ht).2.2.2.2.2.1
theorem cover_nFirst (y : S512x1024.Idx) : ∃ pc ∈ (rFirst m c t ht).2.2.2.2.2.1, y ∈ pc.1.set :=
  View.cover_of_tiledL (rFirst m c t ht).2.2.2.2.2.1 S128x1024.size (by sl_kernel_rfl) y
end

section
variable (ht : 5 ≤ t.val ∧ t.val < 68 ∧ t.val % 2 = 0) (ys : Vec F S512x1024 .f32) (hp : Vec F S512x1024 .bf16)
/-- The run of the body at a point, even. -/
abbrev rEven :=
  RunEven (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (iblk m c 7 t) (gateW m c) (upW m c) (downW m c) (fun h => absurd ((hcondL t).mp h) (by omega)) (fun h => absurd ((hcondZ t).mp h) (by omega)) ((hcondP0 t).mpr (by omega)) (fun h => absurd ((hcondP1 t).mp h) (by omega)) (fun h => absurd ((hcondE t).mp h) (by omega)) ys hp
/-- What even leaves of the residual stream. -/
def xEven : Vec F S512x1024 .f32 := View.canon (rEven m c t ht ys hp).1
theorem cover_xEven (y : S512x1024.Idx) : ∃ pc ∈ (rEven m c t ht ys hp).1, y ∈ pc.1.set :=
  View.cover_of_tiledL (rEven m c t ht ys hp).1 S128x1024.size (by sl_kernel_rfl) y
/-- What even leaves of the next norm. -/
def hEven : Vec F S512x1024 .bf16 := View.canon (rEven m c t ht ys hp).2.1
theorem cover_hEven (y : S512x1024.Idx) : ∃ pc ∈ (rEven m c t ht ys hp).2.1, y ∈ pc.1.set :=
  View.cover_of_tiledL (rEven m c t ht ys hp).2.1 S128x1024.size (by sl_kernel_rfl) y
/-- What even leaves of the product. -/
def yEven : Vec F S512x1024 .f32 := View.canon (rEven m c t ht ys hp).2.2.2.1
theorem cover_yEven (y : S512x1024.Idx) : ∃ pc ∈ (rEven m c t ht ys hp).2.2.2.1, y ∈ pc.1.set :=
  View.cover_of_tiledL (rEven m c t ht ys hp).2.2.2.1 S512x1024.size (by sl_kernel_rfl) y
/-- What even leaves of the next tile's leading norm. -/
def nEven : Vec F S512x1024 .bf16 := View.canon (rEven m c t ht ys hp).2.2.2.2.1
theorem cover_nEven (y : S512x1024.Idx) : ∃ pc ∈ (rEven m c t ht ys hp).2.2.2.2.1, y ∈ pc.1.set :=
  View.cover_of_tiledL (rEven m c t ht ys hp).2.2.2.2.1 S128x1024.size (by sl_kernel_rfl) y
end

section
variable (ht : 5 ≤ t.val ∧ t.val < 68 ∧ t.val % 2 = 1) (ys : Vec F S512x1024 .f32) (hp : Vec F S512x1024 .bf16)
/-- The run of the body at a point, odd. -/
abbrev rOdd :=
  RunOdd (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (iblk m c 7 t) (gateW m c) (upW m c) (downW m c) (fun h => absurd ((hcondL t).mp h) (by omega)) (fun h => absurd ((hcondZ t).mp h) (by omega)) (fun h => absurd ((hcondP0 t).mp h) (by omega)) ((hcondP1 t).mpr (by omega)) (fun h => absurd ((hcondE t).mp h) (by omega)) ys hp
/-- What odd leaves of the residual stream. -/
def xOdd : Vec F S512x1024 .f32 := View.canon (rOdd m c t ht ys hp).1
theorem cover_xOdd (y : S512x1024.Idx) : ∃ pc ∈ (rOdd m c t ht ys hp).1, y ∈ pc.1.set :=
  View.cover_of_tiledL (rOdd m c t ht ys hp).1 S128x1024.size (by sl_kernel_rfl) y
/-- What odd leaves of the next norm. -/
def hOdd : Vec F S512x1024 .bf16 := View.canon (rOdd m c t ht ys hp).2.1
theorem cover_hOdd (y : S512x1024.Idx) : ∃ pc ∈ (rOdd m c t ht ys hp).2.1, y ∈ pc.1.set :=
  View.cover_of_tiledL (rOdd m c t ht ys hp).2.1 S128x1024.size (by sl_kernel_rfl) y
/-- What odd leaves of the product. -/
def yOdd : Vec F S512x1024 .f32 := View.canon (rOdd m c t ht ys hp).2.2.2.1
theorem cover_yOdd (y : S512x1024.Idx) : ∃ pc ∈ (rOdd m c t ht ys hp).2.2.2.1, y ∈ pc.1.set :=
  View.cover_of_tiledL (rOdd m c t ht ys hp).2.2.2.1 S512x1024.size (by sl_kernel_rfl) y
/-- What odd leaves of the next tile's leading norm. -/
def nOdd : Vec F S512x1024 .bf16 := View.canon (rOdd m c t ht ys hp).2.2.2.2.1
theorem cover_nOdd (y : S512x1024.Idx) : ∃ pc ∈ (rOdd m c t ht ys hp).2.2.2.2.1, y ∈ pc.1.set :=
  View.cover_of_tiledL (rOdd m c t ht ys hp).2.2.2.2.1 S128x1024.size (by sl_kernel_rfl) y
end

section
variable (ht : t.val = 68) (ys : Vec F S512x1024 .f32)
/-- The run of the body at a point, last. -/
abbrev rLast :=
  RunLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (iblk m c 7 t) (gateW m c) (upW m c) (downW m c) (fun h => absurd ((hcondL t).mp h) (by omega)) (fun h => absurd ((hcondZ t).mp h) (by omega)) (fun h => absurd ((hcondP0 t).mp h) (by omega)) (fun h => absurd ((hcondP1 t).mp h) (by omega)) ((hcondE t).mpr (by omega)) ys
/-- What last leaves of the residual stream. -/
def xLast : Vec F S512x1024 .f32 := View.canon (rLast m c t ht ys).1
theorem cover_xLast (y : S512x1024.Idx) : ∃ pc ∈ (rLast m c t ht ys).1, y ∈ pc.1.set :=
  View.cover_of_tiledL (rLast m c t ht ys).1 S128x1024.size (by sl_kernel_rfl) y
/-- What last leaves of the next norm. -/
def hLast : Vec F S512x1024 .bf16 := View.canon (rLast m c t ht ys).2.1
theorem cover_hLast (y : S512x1024.Idx) : ∃ pc ∈ (rLast m c t ht ys).2.1, y ∈ pc.1.set :=
  View.cover_of_tiledL (rLast m c t ht ys).2.1 S128x1024.size (by sl_kernel_rfl) y
end

end

/-- What the product scratch and the buffer of the next tile's norm hold after point `n`. -/
def stAt (c : Dev nD) : ℕ → Vec F S512x1024 .f32 × Vec F S512x1024 .bf16
  | 0 => (View.canon [], View.canon [])
  | n + 1 =>
    if h4 : n + 1 = 4 then (yFirst m c ⟨n + 1, lt_of_lt_of_eq (b := 69) (by omega) N_0.symm⟩ h4, nFirst m c ⟨n + 1, lt_of_lt_of_eq (b := 69) (by omega) N_0.symm⟩ h4)
    else if h5 : 5 ≤ n + 1 ∧ n + 1 < 68 ∧ (n + 1) % 2 = 0 then (yEven m c ⟨n + 1, lt_of_lt_of_eq (b := 69) (by omega) N_0.symm⟩ h5 (stAt c n).1 (stAt c n).2, nEven m c ⟨n + 1, lt_of_lt_of_eq (b := 69) (by omega) N_0.symm⟩ h5 (stAt c n).1 (stAt c n).2)
    else if h6 : 5 ≤ n + 1 ∧ n + 1 < 68 ∧ (n + 1) % 2 = 1 then (yOdd m c ⟨n + 1, lt_of_lt_of_eq (b := 69) (by omega) N_0.symm⟩ h6 (stAt c n).1 (stAt c n).2, nOdd m c ⟨n + 1, lt_of_lt_of_eq (b := 69) (by omega) N_0.symm⟩ h6 (stAt c n).1 (stAt c n).2)
    else (View.canon [], View.canon [])

theorem stAt_first (c : Dev nD) (t : Fin cfg0.N) (ht : t.val = 4) : stAt m c t.val = (yFirst m c t ht, nFirst m c t ht) := by
  obtain ⟨n, hn⟩ := t
  obtain rfl : n = 4 := ht
  exact dif_pos rfl

/-- The product and the norm the point before left. -/
abbrev yBefore (c : Dev nD) (t : Fin cfg0.N) := (stAt m c (t.val - 1)).1
abbrev nBefore (c : Dev nD) (t : Fin cfg0.N) := (stAt m c (t.val - 1)).2

theorem stAt_even (c : Dev nD) (t : Fin cfg0.N) (ht : 5 ≤ t.val ∧ t.val < 68 ∧ t.val % 2 = 0) : stAt m c t.val = (yEven m c t ht (yBefore m c t) (nBefore m c t), nEven m c t ht (yBefore m c t) (nBefore m c t)) := by
  obtain ⟨n, hn⟩ := t
  cases n with
  | zero => exact absurd ht.1 (by show ¬ 5 ≤ 0; omega)
  | succ n => exact (dif_neg (by have := ht.1; simp only at this; omega)).trans (dif_pos ht)

theorem stAt_odd (c : Dev nD) (t : Fin cfg0.N) (ht : 5 ≤ t.val ∧ t.val < 68 ∧ t.val % 2 = 1) : stAt m c t.val = (yOdd m c t ht (yBefore m c t) (nBefore m c t), nOdd m c t ht (yBefore m c t) (nBefore m c t)) := by
  obtain ⟨n, hn⟩ := t
  cases n with
  | zero => exact absurd ht.1 (by show ¬ 5 ≤ 0; omega)
  | succ n => exact (dif_neg (by have := ht.1; simp only at this; omega)).trans ((dif_neg (by have := ht.2.2; simp only at this; omega)).trans (dif_pos ht))

/-- What the body leaves of the residual stream at a point. -/
def xOut (c : Dev nD) (t : Fin cfg0.N) : Vec F S512x1024 .f32 :=
  if h4 : t.val = 4 then xFirst m c t h4
  else if h5 : 5 ≤ t.val ∧ t.val < 68 ∧ t.val % 2 = 0 then xEven m c t h5 (yBefore m c t) (nBefore m c t)
  else if h6 : 5 ≤ t.val ∧ t.val < 68 ∧ t.val % 2 = 1 then xOdd m c t h6 (yBefore m c t) (nBefore m c t)
  else if h7 : t.val = 68 then xLast m c t h7 (yBefore m c t)
  else View.canon []

theorem xOut_first (c : Dev nD) (t : Fin cfg0.N) (ht : t.val = 4) : xOut m c t = xFirst m c t ht := dif_pos ht
theorem xOut_even (c : Dev nD) (t : Fin cfg0.N) (ht : 5 ≤ t.val ∧ t.val < 68 ∧ t.val % 2 = 0) : xOut m c t = xEven m c t ht (yBefore m c t) (nBefore m c t) :=
  (dif_neg (by omega)).trans (dif_pos ht)
theorem xOut_odd (c : Dev nD) (t : Fin cfg0.N) (ht : 5 ≤ t.val ∧ t.val < 68 ∧ t.val % 2 = 1) : xOut m c t = xOdd m c t ht (yBefore m c t) (nBefore m c t) :=
  (dif_neg (by omega)).trans ((dif_neg (by omega)).trans (dif_pos ht))
theorem xOut_last (c : Dev nD) (t : Fin cfg0.N) (ht : t.val = 68) : xOut m c t = xLast m c t ht (yBefore m c t) :=
  (dif_neg (by omega)).trans ((dif_neg (by omega)).trans ((dif_neg (by omega)).trans (dif_pos ht)))

/-- What the body leaves of the next norm at a point. -/
def hOut (c : Dev nD) (t : Fin cfg0.N) : Vec F S512x1024 .bf16 :=
  if h4 : t.val = 4 then hFirst m c t h4
  else if h5 : 5 ≤ t.val ∧ t.val < 68 ∧ t.val % 2 = 0 then hEven m c t h5 (yBefore m c t) (nBefore m c t)
  else if h6 : 5 ≤ t.val ∧ t.val < 68 ∧ t.val % 2 = 1 then hOdd m c t h6 (yBefore m c t) (nBefore m c t)
  else if h7 : t.val = 68 then hLast m c t h7 (yBefore m c t)
  else View.canon []

theorem hOut_first (c : Dev nD) (t : Fin cfg0.N) (ht : t.val = 4) : hOut m c t = hFirst m c t ht := dif_pos ht
theorem hOut_even (c : Dev nD) (t : Fin cfg0.N) (ht : 5 ≤ t.val ∧ t.val < 68 ∧ t.val % 2 = 0) : hOut m c t = hEven m c t ht (yBefore m c t) (nBefore m c t) :=
  (dif_neg (by omega)).trans (dif_pos ht)
theorem hOut_odd (c : Dev nD) (t : Fin cfg0.N) (ht : 5 ≤ t.val ∧ t.val < 68 ∧ t.val % 2 = 1) : hOut m c t = hOdd m c t ht (yBefore m c t) (nBefore m c t) :=
  (dif_neg (by omega)).trans ((dif_neg (by omega)).trans (dif_pos ht))
theorem hOut_last (c : Dev nD) (t : Fin cfg0.N) (ht : t.val = 68) : hOut m c t = hLast m c t ht (yBefore m c t) :=
  (dif_neg (by omega)).trans ((dif_neg (by omega)).trans ((dif_neg (by omega)).trans (dif_pos ht)))

/-- The invariant before point `n`: the weights loaded so far, the hidden scratch at anything, the product the point before left, the norm it left in the buffer this point reads, the generator register at some state. -/
def Inv (c : Dev nD) (n : ℕ) : sProp 𝕄 :=
  iprop((∃ d0 d1 d2, ⌜Loaded m c n d0 d1 d2⌝ ∗ wts c sc0 sc1 sc2 d0 d1 d2)
    ∗ (∃ d, own c sc3 d) ∗ (∃ d, ⌜5 ≤ n → n ≤ 68 → d = (stAt m c (n - 1)).1⌝ ∗ own c sc4 d)
    ∗ (∃ d, ⌜5 ≤ n → n < 68 → n % 2 = 0 → d = (stAt m c (n - 1)).2⌝ ∗ own c sc5 d)
    ∗ (∃ d, ⌜5 ≤ n → n < 68 → n % 2 = 1 → d = (stAt m c (n - 1)).2⌝ ∗ own c sc6 d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => xOut m c t
    | ⟨9, _⟩ => hOut m c t
  Φ t := Inv m c t.val
  q w := Pipeline.shareOf spec0 w
  owed _ := 0

variable (c : Dev nD) (t : Fin cfg0.N)

theorem A_eq (w : Fin cfg0.W) : (dats m 0 c).A w = V m c (Pipeline.arrRef spec0 w) := by dsimp only [dats]
theorem after_0 : (dats m 0 c).after 0 t = iblk m c 0 t := by dsimp only [dats]
theorem before_0 (d) : (dats m 0 c).before 0 t d = iblk m c 0 t := before0_0_of m (dats m 0 c) (A_eq m c 0) (after_0 m c) t d
theorem leaves_0 : (dats m 0 c).leavesExact 0 t = own c (ms0 t) (iblk m c 0 t) := by rw [← after_0]
theorem after_1 : (dats m 0 c).after 1 t = iblk m c 1 t := by dsimp only [dats]
theorem before_1 (d) : (dats m 0 c).before 1 t d = iblk m c 1 t := before0_1_of m (dats m 0 c) (A_eq m c 1) (after_1 m c) t d
theorem leaves_1 : (dats m 0 c).leavesExact 1 t = own c (ms1 t) (iblk m c 1 t) := by rw [← after_1]
theorem after_2 : (dats m 0 c).after 2 t = iblk m c 2 t := by dsimp only [dats]
theorem before_2 (d) : (dats m 0 c).before 2 t d = iblk m c 2 t := before0_2_of m (dats m 0 c) (A_eq m c 2) (after_2 m c) t d
theorem leaves_2 : (dats m 0 c).leavesExact 2 t = own c (ms2 t) (iblk m c 2 t) := by rw [← after_2]
theorem after_3 : (dats m 0 c).after 3 t = iblk m c 3 t := by dsimp only [dats]
theorem before_3 (d) : (dats m 0 c).before 3 t d = iblk m c 3 t := before0_3_of m (dats m 0 c) (A_eq m c 3) (after_3 m c) t d
theorem leaves_3 : (dats m 0 c).leavesExact 3 t = own c (ms3 t) (iblk m c 3 t) := by rw [← after_3]
theorem after_4 : (dats m 0 c).after 4 t = iblk m c 4 t := by dsimp only [dats]
theorem before_4 (d) : (dats m 0 c).before 4 t d = iblk m c 4 t := before0_4_of m (dats m 0 c) (A_eq m c 4) (after_4 m c) t d
theorem leaves_4 : (dats m 0 c).leavesExact 4 t = own c (ms4 t) (iblk m c 4 t) := by rw [← after_4]
theorem after_5 : (dats m 0 c).after 5 t = iblk m c 5 t := by dsimp only [dats]
theorem before_5 (d) : (dats m 0 c).before 5 t d = iblk m c 5 t := before0_5_of m (dats m 0 c) (A_eq m c 5) (after_5 m c) t d
theorem leaves_5 : (dats m 0 c).leavesExact 5 t = own c (ms5 t) (iblk m c 5 t) := by rw [← after_5]
theorem after_6 : (dats m 0 c).after 6 t = iblk m c 6 t := by dsimp only [dats]
theorem before_6 (d) : (dats m 0 c).before 6 t d = iblk m c 6 t := before0_6_of m (dats m 0 c) (A_eq m c 6) (after_6 m c) t d
theorem leaves_6 : (dats m 0 c).leavesExact 6 t = own c (ms6 t) (iblk m c 6 t) := by rw [← after_6]
theorem after_7 : (dats m 0 c).after 7 t = iblk m c 7 t := by dsimp only [dats]
theorem before_7 (d) : (dats m 0 c).before 7 t d = iblk m c 7 t := before0_7_of m (dats m 0 c) (A_eq m c 7) (after_7 m c) t d
theorem leaves_7 : (dats m 0 c).leavesExact 7 t = own c (ms7 t) (iblk m c 7 t) := by rw [← after_7]
theorem after_8 : (dats m 0 c).after 8 t = xOut m c t := by dsimp only [dats]
theorem leaves_8 (ht : 4 ≤ t.val) : (dats m 0 c).leavesExact 8 t = own c (ms8 t) (xOut m c t) := by
  unfold Dat.leavesExact; rw [idleOut8 t, decide_eq_false (by omega), after_8]
theorem leaves_8_idle (ht : t.val < 4) : (dats m 0 c).leavesExact 8 t = iprop(∃ d, own c (ms8 t) ((dats m 0 c).before 8 t d)) :=
  (dats m 0 c).leavesExact_idle 8 t ((idleOut8 t).trans (decide_eq_true ht)) (flushOut8 t ht)
theorem before_8_idle (ht : t.val < 4) (d) : (dats m 0 c).before 8 t d = d := by
  rw [(dats m 0 c).before_idle_run 8 ((cfg0.win 8).fetch_out rfl) d t.val t le_rfl
    (fun j _ hj => ⟨(idleOut8 j).trans (decide_eq_true (by omega)), flushOut8 j (by omega)⟩)]
  unfold Dat.before
  rw [if_neg (by rw [(cfg0.win 8).fetch_out rfl]; exact Bool.false_ne_true), if_pos (Nat.sub_self _)]
theorem after_9 : (dats m 0 c).after 9 t = hOut m c t := by dsimp only [dats]
theorem leaves_9 (ht : 4 ≤ t.val) : (dats m 0 c).leavesExact 9 t = own c (ms9 t) (hOut m c t) := by
  unfold Dat.leavesExact; rw [idleOut9 t, decide_eq_false (by omega), after_9]
theorem leaves_9_idle (ht : t.val < 4) : (dats m 0 c).leavesExact 9 t = iprop(∃ d, own c (ms9 t) ((dats m 0 c).before 9 t d)) :=
  (dats m 0 c).leavesExact_idle 9 t ((idleOut9 t).trans (decide_eq_true ht)) (flushOut9 t ht)
theorem before_9_idle (ht : t.val < 4) (d) : (dats m 0 c).before 9 t d = d := by
  rw [(dats m 0 c).before_idle_run 9 ((cfg0.win 9).fetch_out rfl) d t.val t le_rfl
    (fun j _ hj => ⟨(idleOut9 j).trans (decide_eq_true (by omega)), flushOut9 j (by omega)⟩)]
  unfold Dat.before
  rw [if_neg (by rw [(cfg0.win 9).fetch_out rfl]; exact Bool.false_ne_true), if_pos (Nat.sub_self _)]

end Cert.FfnPreIdeal.Hand

end
-- ==== Proof.FfnPreIdealFrame.lean ====
module

public import proofs.«01_k».proof.Proof.FfnPreIdealData
public import proofs.«01_k».proof.Proof.FfnSlice

@[expose] public section

set_option maxRecDepth 16384

noncomputable section

namespace Cert.FfnPreIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnPreIdeal Cert.FfnPreIdeal.Gen

variable {F : FTy → Type} [FloatOps F]

local notation "𝕄" => MT nD τ sig Unit (Elt F) ℕ (UR sig nD τ) ℕ

open Cert.FfnSlice

variable (m : (ℓ : Loc nD τ sig) → Buf (Elt F) ℓ) (ρ : Dev nD → PrngReg)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it has to leave. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The inputs hold their blocks. -/
theorem split_pre (c : Dev nD) (t : Fin cfg0.N) : bodyPre m c t ⊢ iprop(Inv m c t.val ∗ (dats m 0 c).owesAt () t.castSucc ∗ insAt m c t
    ∗ (∃ d, own c (ms8 t) ((dats m 0 c).before 8 t d))
    ∗ (∃ d, own c (ms9 t) ((dats m 0 c).before 9 t d))) := by
  unfold bodyPre insAt ins
  simp only [before_0, before_1, before_2, before_3, before_4, before_5, before_6, before_7]
  rw [show (dats m 0 c).Φ t.castSucc = Inv m c t.val from rfl]
  iintro ⟨Hi, Ho, ⟨%e0, H0⟩, ⟨%e1, H1⟩, ⟨%e2, H2⟩, ⟨%e3, H3⟩, ⟨%e4, H4⟩, ⟨%e5, H5⟩, ⟨%e6, H6⟩, ⟨%e7, H7⟩, HX⟩
  iframe Hi Ho H0 H1 H2 H3 H4 H5 H6 H7 HX

theorem join_post (c : Dev nD) (t : Fin cfg0.N) : iprop(Inv m c (t.val + 1) ∗ (dats m 0 c).owesAt () t.castSucc ∗ insAt m c t
    ∗ (dats m 0 c).leavesExact 8 t
    ∗ (dats m 0 c).leavesExact 9 t) ⊢ bodyPost m c t := by
  unfold bodyPost insAt ins
  rw [show (dats m 0 c).owesAt () t.succ = (dats m 0 c).owesAt () t.castSucc from rfl, show (dats m 0 c).Φ t.succ = Inv m c (t.val + 1) from rfl]
  rw [leaves_0 m c t, leaves_1 m c t, leaves_2 m c t, leaves_3 m c t, leaves_4 m c t, leaves_5 m c t, leaves_6 m c t, leaves_7 m c t]
  iintro ⟨Hi, Ho, ⟨H0, H1, H2, H3, H4, H5, H6, H7⟩, HX⟩
  iframe Hi Ho H0 H1 H2 H3 H4 H5 H6 H7 HX

theorem gate_step (c : Dev nD) (t : Fin cfg0.N) (ht : t.val < 4) (x : S256x2816.Idx) (y : S1024x2816.Idx) (h0 : (y 0).val = 256 * t.val + (x 0).val) (h1 : (y 1).val = (x 1).val) :
    k0_pay112 (iblk m c 3 t) x = gateW m c y := by
  have hx : (x 0).val < 256 := (x 0).isLt
  have key : ∀ (t' : Fin cfg0.N) (x' : S256x2816.Idx), t' = t → x' = x → k0_pay112 (iblk m c 3 t) x = k0_pay112 (iblk m c 3 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem up_step (c : Dev nD) (t : Fin cfg0.N) (ht : t.val < 4) (x : S256x2816.Idx) (y : S1024x2816.Idx) (h0 : (y 0).val = 256 * t.val + (x 0).val) (h1 : (y 1).val = (x 1).val) :
    k0_pay113 (iblk m c 4 t) x = upW m c y := by
  have hx : (x 0).val < 256 := (x 0).isLt
  have key : ∀ (t' : Fin cfg0.N) (x' : S256x2816.Idx), t' = t → x' = x → k0_pay113 (iblk m c 4 t) x = k0_pay113 (iblk m c 4 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem down_step (c : Dev nD) (t : Fin cfg0.N) (ht : t.val < 4) (x : S704x1024.Idx) (y : S2816x1024.Idx) (h0 : (y 0).val = 704 * t.val + (x 0).val) (h1 : (y 1).val = (x 1).val) :
    k0_pay114 (iblk m c 5 t) x = downW m c y := by
  have hx : (x 0).val < 704 := (x 0).isLt
  have key : ∀ (t' : Fin cfg0.N) (x' : S704x1024.Idx), t' = t → x' = x → k0_pay114 (iblk m c 5 t) x = k0_pay114 (iblk m c 5 t') x' := by
    rintro _ _ rfl rfl; rfl
  refine key _ _ (Fin.ext (by show (y 0).val / 704 = t.val; omega)) (funext fun a => ?_)
  fin_cases a
  · exact Fin.ext (by show (y 0).val % 704 = (x 0).val; omega)
  · exact Fin.ext h1

variable (d0 d1 : Vec F S1024x2816 .bf16) (d2 : Vec F S2816x1024 .bf16)

/-- A loading point's stores: the slice of each weight. -/
theorem pieces_gate (c : Dev nD) (t : Fin cfg0.N) (ht : t.val < 4) :
    (rLoad m c t ht d0 d1 d2).1 = [⟨Rect.unit (s := S1024x2816) (k0_off1 (grid0.coords t)) S256x2816.size (k0_off1_inb (grid0.coords t) ((hcondL t).mpr ht)), k0_pay112 (iblk m c 3 t)⟩] := by
  unfold rLoad; frame_out
theorem pieces_up (c : Dev nD) (t : Fin cfg0.N) (ht : t.val < 4) :
    (rLoad m c t ht d0 d1 d2).2.1 = [⟨Rect.unit (s := S1024x2816) (k0_off1 (grid0.coords t)) S256x2816.size (k0_off1_inb (grid0.coords t) ((hcondL t).mpr ht)), k0_pay113 (iblk m c 4 t)⟩] := by
  unfold rLoad; frame_out
theorem pieces_down (c : Dev nD) (t : Fin cfg0.N) (ht : t.val < 4) :
    (rLoad m c t ht d0 d1 d2).2.2.1 = [⟨Rect.unit (s := S2816x1024) (k0_off2 (grid0.coords t)) S704x1024.size (k0_off2_inb (grid0.coords t) ((hcondL t).mpr ht)), k0_pay114 (iblk m c 5 t)⟩] := by
  unfold rLoad; frame_out

theorem Loaded.step (c : Dev nD) (t : Fin cfg0.N) (ht : t.val < 4) (h : Loaded m c t.val d0 d1 d2)
    (f0 : (sc0.view).ty.Contents (Elt F)) (f1 : (sc1.view).ty.Contents (Elt F)) (f2 : (sc2.view).ty.Contents (Elt F))
    (h0 : sc0.view.read (Elt F) f0 = d0) (h1 : sc1.view.read (Elt F) f1 = d1) (h2 : sc2.view.read (Elt F) f2 = d2) :
    Loaded m c (t.val + 1) (sc0.view.read (Elt F) (sc0.view.writes (Elt F) f0 (rLoad m c t ht d0 d1 d2).1)) (sc1.view.read (Elt F) (sc1.view.writes (Elt F) f1 (rLoad m c t ht d0 d1 d2).2.1)) (sc2.view.read (Elt F) (sc2.view.writes (Elt F) f2 (rLoad m c t ht d0 d1 d2).2.2.1)) := by
  have e : min t.val 4 = t.val := by omega
  have e' : min (t.val + 1) 4 = t.val + 1 := by omega
  refine ⟨fun y hy => ?_, fun y hy => ?_, fun y hy => ?_⟩
  · rw [e'] at hy; rw [pieces_gate m d0 d1 d2 c t ht]
    exact slice_step (size := S256x2816.size) _ _ _ _ t.val 256 d0 (gateW m c) h0 (offGate t ht) rfl rfl (gate_step m c t ht) (by have := h.gate; rwa [e] at this) y hy
  · rw [e'] at hy; rw [pieces_up m d0 d1 d2 c t ht]
    exact slice_step (size := S256x2816.size) _ _ _ _ t.val 256 d1 (upW m c) h1 (offGate t ht) rfl rfl (up_step m c t ht) (by have := h.up; rwa [e] at this) y hy
  · rw [e'] at hy; rw [pieces_down m d0 d1 d2 c t ht]
    exact slice_step (size := S704x1024.size) _ _ _ _ t.val 704 d2 (downW m c) h2 (offDown t ht) rfl rfl (down_step m c t ht) (by have := h.down; rwa [e] at this) y hy

theorem Loaded.keep (c : Dev nD) (n : ℕ) (hn : 4 ≤ n) : Loaded m c n (gateW m c) (upW m c) (downW m c) := ⟨fun _ _ => rfl, fun _ _ => rfl, fun _ _ => rfl⟩

set_option maxHeartbeats 9600000 in
/-- The body at a loading point. -/
theorem body_load (c : Dev nD) (t : Fin cfg0.N) (ht : t.val < 4) :
    bodyPre m c t ⊢ wp frame (wpE (defs₀ (F := F)) Variants.none c none) Set.univ (bodyAt0 t) (fun _ => bodyPost m c t) := by
  refine (split_pre m c t).trans ?_
  unfold bodyAt0
  simp only [before_8_idle m c t ht, before_9_idle m c t ht]
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e8, H8⟩, ⟨%e9, H9⟩⟩
  iapply ((rLoad m c t ht d0 d1 d2).2.2.2 Set.univ _)
  isplitl [HI]; · iexact HI
  isplitl [H8]; · iexists _; iexact H8
  isplitl [H9]; · iexists _; iexact H9
  isplitl [HW]; · iexact HW
  isplitl [HS3]; · iexists _; iexact HS3
  isplitl [HS4]; · iexists _; iexact HS4
  isplitl [HS5]; · iexists _; iexact HS5
  isplitl [HS6]; · iexists _; iexact HS6
  iintro ⟨HI, H8, H9, ⟨%f0, %hf0, HS0⟩, ⟨%f1, %hf1, HS1⟩, ⟨%f2, %hf2, HS2⟩, HS3, ⟨%dy', HS4⟩, ⟨%dp', HS5⟩, ⟨%dq', HS6⟩⟩
  iapply (join_post m c t)
  isplitl [HS0 HS1 HS2 HS3 HS4 HS5 HS6 Hg]
  · unfold Inv
    isplitl [HS0 HS1 HS2]
    · iexists _, _, _
      isplitr
      · ipureintro; exact Loaded.step m d0 d1 d2 c t ht hl f0 f1 f2 hf0 hf1 hf2
      unfold wts
      isplitl [HS0]; · iapply (own_read _); iexact HS0
      isplitl [HS1]; · iapply (own_read _); iexact HS1
      iapply (own_read _); iexact HS2
    isplitl [HS3]; · iexact HS3
    isplitl [HS4]
    · iexists _; isplitr
      swap
      · iexact HS4
      ipureintro; intro h5 _; exact absurd h5 (by omega)
    isplitl [HS5]
    · iexists _; isplitr
      swap
      · iexact HS5
      ipureintro; intro h5 _ _; exact absurd h5 (by omega)
    isplitl [HS6]
    · iexists _; isplitr
      swap
      · iexact HS6
      ipureintro; intro h5 _ _; exact absurd h5 (by omega)
    iexact Hg
  isplitl [Ho]; · iexact Ho
  isplitl [HI]; · iexact HI
  isplitl [H8]
  · rw [leaves_8_idle m c t ht]; simp only [before_8_idle m c t ht]; iexact H8
  rw [leaves_9_idle m c t ht]; simp only [before_9_idle m c t ht]; iexact H9

set_option maxHeartbeats 9600000 in
/-- The body at the first tile's point. -/
theorem body_first (c : Dev nD) (t : Fin cfg0.N) (ht : t.val = 4) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e8, H8⟩, ⟨%e9, H9⟩⟩
  obtain ⟨rfl, rfl, rfl⟩ := hl.all m (by omega)
  iapply ((rFirst m c t ht).2.2.2.2.2.2 Set.univ _)
  isplitl [HI]; · iexact HI
  isplitl [H8]; · iexists _; iexact H8
  isplitl [H9]; · iexists _; iexact H9
  isplitl [HW]; · iexact HW
  isplitl [HS3]; · iexists _; iexact HS3
  isplitl [HS4]; · iexists _; iexact HS4
  isplitl [HS5]; · iexists _; iexact HS5
  isplitl [HS6]; · iexists _; iexact HS6
  iintro ⟨HI, ⟨%g8, H8⟩, ⟨%g9, H9⟩, HW, ⟨%g3, HS3⟩, ⟨%g4, HS4⟩, ⟨%g5, HS5⟩, ⟨%g6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yFirst m c t ht)).trans ?_
      rw [Nat.add_sub_cancel, stAt_first m c t ht]
      rfl
    isplitl [HS5]
    · iexists _; isplitr
      swap
      · iapply (own_read _); iexact HS5
      ipureintro; exact fun _ _ h => absurd h (by omega)
    isplitl [HS6]
    · iexists _; isplitr
      swap
      · iapply (own_read _); iexact HS6
      ipureintro; intro _ _ _
      refine (View.read_writes_eq_canon _ _ _ (cover_nFirst m c t ht)).trans ?_
      rw [Nat.add_sub_cancel, stAt_first m c t ht]
      rfl
    iexact Hg
  isplitl [Ho]; · iexact Ho
  isplitl [HI]; · iexact HI
  isplitl [H8]
  · rw [leaves_8 m c t (by omega), xOut_first m c t ht]; unfold own owns; iexists _; isplitr
    swap; · iexact H8
    ipureintro; exact View.read_writes_eq_canon _ _ _ (cover_xFirst m c t ht)
  rw [leaves_9 m c t (by omega), hOut_first m c t ht]; unfold own owns; iexists _; isplitr
  swap; · iexact H9
  ipureintro; exact View.read_writes_eq_canon _ _ _ (cover_hFirst m c t ht)

set_option maxHeartbeats 9600000 in
/-- The body at a later even tile. -/
theorem body_even (c : Dev nD) (t : Fin cfg0.N) (ht : 5 ≤ t.val ∧ t.val < 68 ∧ t.val % 2 = 0) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e8, H8⟩, ⟨%e9, H9⟩⟩
  obtain ⟨rfl, rfl, rfl⟩ := hl.all m (by omega)
  obtain rfl := hy (by omega) (by omega)
  obtain rfl := hp (by omega) (by omega) (by omega)
  iapply ((rEven m c t ht (yBefore m c t) (nBefore m c t)).2.2.2.2.2 Set.univ _)
  isplitl [HI]; · iexact HI
  isplitl [H8]; · iexists _; iexact H8
  isplitl [H9]; · iexists _; iexact H9
  isplitl [HW]; · iexact HW
  isplitl [HS3]; · iexists _; iexact HS3
  isplitl [HS4]; · iexact HS4
  isplitl [HS5]; · iexact HS5
  isplitl [HS6]; · iexists _; iexact HS6
  iintro ⟨HI, ⟨%g8, H8⟩, ⟨%g9, H9⟩, HW, ⟨%g3, HS3⟩, ⟨%g4, %hg4, HS4⟩, HS5, ⟨%g6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yEven m c t ht (yBefore m c t) (nBefore m c t))).trans ?_
      rw [Nat.add_sub_cancel, stAt_even m c t ht]
      rfl
    isplitl [HS5]
    · iexists _; isplitr
      swap
      · iexact HS5
      ipureintro; exact fun _ _ h => absurd h (by omega)
    isplitl [HS6]
    · iexists _; isplitr
      swap
      · iapply (own_read _); iexact HS6
      ipureintro; intro _ _ _
      refine (View.read_writes_eq_canon _ _ _ (cover_nEven m c t ht (yBefore m c t) (nBefore m c t))).trans ?_
      rw [Nat.add_sub_cancel, stAt_even m c t ht]
      rfl
    iexact Hg
  isplitl [Ho]; · iexact Ho
  isplitl [HI]; · iexact HI
  isplitl [H8]
  · rw [leaves_8 m c t (by omega), xOut_even m c t ht]; unfold own owns; iexists _; isplitr
    swap; · iexact H8
    ipureintro; exact View.read_writes_eq_canon _ _ _ (cover_xEven m c t ht (yBefore m c t) (nBefore m c t))
  rw [leaves_9 m c t (by omega), hOut_even m c t ht]; unfold own owns; iexists _; isplitr
  swap; · iexact H9
  ipureintro; exact View.read_writes_eq_canon _ _ _ (cover_hEven m c t ht (yBefore m c t) (nBefore m c t))

set_option maxHeartbeats 9600000 in
/-- The body at an odd tile. -/
theorem body_odd (c : Dev nD) (t : Fin cfg0.N) (ht : 5 ≤ t.val ∧ t.val < 68 ∧ t.val % 2 = 1) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e8, H8⟩, ⟨%e9, H9⟩⟩
  obtain ⟨rfl, rfl, rfl⟩ := hl.all m (by omega)
  obtain rfl := hy (by omega) (by omega)
  obtain rfl := hq (by omega) (by omega) (by omega)
  iapply ((rOdd m c t ht (yBefore m c t) (nBefore m c t)).2.2.2.2.2 Set.univ _)
  isplitl [HI]; · iexact HI
  isplitl [H8]; · iexists _; iexact H8
  isplitl [H9]; · iexists _; iexact H9
  isplitl [HW]; · iexact HW
  isplitl [HS3]; · iexists _; iexact HS3
  isplitl [HS4]; · iexact HS4
  isplitl [HS5]; · iexists _; iexact HS5
  isplitl [HS6]; · iexact HS6
  iintro ⟨HI, ⟨%g8, H8⟩, ⟨%g9, H9⟩, HW, ⟨%g3, HS3⟩, ⟨%g4, %hg4, HS4⟩, ⟨%g5, HS5⟩, HS6⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yOdd m c t ht (yBefore m c t) (nBefore m c t))).trans ?_
      rw [Nat.add_sub_cancel, stAt_odd m c t ht]
      rfl
    isplitl [HS5]
    · iexists _; isplitr
      swap
      · iapply (own_read _); iexact HS5
      ipureintro; intro _ _ _
      refine (View.read_writes_eq_canon _ _ _ (cover_nOdd m c t ht (yBefore m c t) (nBefore m c t))).trans ?_
      rw [Nat.add_sub_cancel, stAt_odd m c t ht]
      rfl
    isplitl [HS6]
    · iexists _; isplitr
      swap
      · iexact HS6
      ipureintro; exact fun _ _ h => absurd h (by omega)
    iexact Hg
  isplitl [Ho]; · iexact Ho
  isplitl [HI]; · iexact HI
  isplitl [H8]
  · rw [leaves_8 m c t (by omega), xOut_odd m c t ht]; unfold own owns; iexists _; isplitr
    swap; · iexact H8
    ipureintro; exact View.read_writes_eq_canon _ _ _ (cover_xOdd m c t ht (yBefore m c t) (nBefore m c t))
  rw [leaves_9 m c t (by omega), hOut_odd m c t ht]; unfold own owns; iexists _; isplitr
  swap; · iexact H9
  ipureintro; exact View.read_writes_eq_canon _ _ _ (cover_hOdd m c t ht (yBefore m c t) (nBefore m c t))

set_option maxHeartbeats 9600000 in
/-- The body at the last point. -/
theorem body_last (c : Dev nD) (t : Fin cfg0.N) (ht : t.val = 68) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e8, H8⟩, ⟨%e9, H9⟩⟩
  obtain ⟨rfl, rfl, rfl⟩ := hl.all m (by omega)
  obtain rfl := hy (by omega) (by omega)
  iapply ((rLast m c t ht (yBefore m c t)).2.2 Set.univ _)
  isplitl [HI]; · iexact HI
  isplitl [H8]; · iexists _; iexact H8
  isplitl [H9]; · iexists _; iexact H9
  isplitl [HW]; · iexact HW
  isplitl [HS3]; · iexists _; iexact HS3
  isplitl [HS4]; · iexact HS4
  isplitl [HS5]; · iexists _; iexact HS5
  isplitl [HS6]; · iexists _; iexact HS6
  iintro ⟨HI, ⟨%g8, H8⟩, ⟨%g9, H9⟩, HW, HS3, HS4, ⟨%d5, HS5⟩, ⟨%d6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]; · iexact HS3
    isplitl [HS4]
    · iexists _; isplitr
      swap
      · iexact HS4
      ipureintro; exact fun _ h => absurd h (by omega)
    isplitl [HS5]
    · iexists _; isplitr
      swap
      · iexact HS5
      ipureintro; exact fun _ h => absurd h (by omega)
    isplitl [HS6]
    · iexists _; isplitr
      swap
      · iexact HS6
      ipureintro; exact fun _ h => absurd h (by omega)
    iexact Hg
  isplitl [Ho]; · iexact Ho
  isplitl [HI]; · iexact HI
  isplitl [H8]
  · rw [leaves_8 m c t (by omega), xOut_last m c t ht]; unfold own owns; iexists _; isplitr
    swap; · iexact H8
    ipureintro; exact View.read_writes_eq_canon _ _ _ (cover_xLast m c t ht (yBefore m c t))
  rw [leaves_9 m c t (by omega), hOut_last m c t ht]; unfold own owns; iexists _; isplitr
  swap; · iexact H9
  ipureintro; exact View.read_writes_eq_canon _ _ _ (cover_hLast m c t ht (yBefore m c t))

theorem sound_body (c : Dev nD) (t : Fin cfg0.N) :
    bodyPre m c t ⊢ wp frame (wpE (defs₀ (F := F)) Variants.none c none) Set.univ (bodyAt0 t) (fun _ => bodyPost m c t) := by
  have hN : t.val < 69 := lt_of_lt_of_eq t.isLt N_0
  by_cases h4 : t.val < 4
  · exact body_load m c t h4
  by_cases h5 : t.val = 4
  · exact body_first m c t h5
  by_cases h6 : t.val < 68
  · rcases Nat.mod_two_eq_zero_or_one t.val with h7 | h7
    · exact body_even m c t ⟨by omega, h6, h7⟩
    · exact body_odd m c t ⟨by omega, h6, h7⟩
  · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, launchInv_eq]
  unfold Inv wts
  iintro ⟨⟨⟨%d0, HS0⟩, ⟨%d1, HS1⟩, ⟨%d2, HS2⟩, HS3, ⟨%d4, HS4⟩, ⟨%d5, HS5⟩, ⟨%d6, HS6⟩⟩, Hg⟩
  isplitl [HS0 HS1 HS2]
  · iexists _, _, _
    isplitr
    swap
    · iframe HS0 HS1 HS2
    ipureintro
    exact ⟨fun y h => absurd h (by simp), fun y h => absurd h (by simp), fun y h => absurd h (by simp)⟩
  isplitl [HS3]; · iexact HS3
  isplitl [HS4]
  · iexists _; isplitr
    swap; · iexact HS4
    ipureintro; exact fun h _ => absurd h (by omega)
  isplitl [HS5]
  · iexists _; isplitr
    swap; · iexact HS5
    ipureintro; exact fun h _ _ => absurd h (by omega)
  isplitl [HS6]
  · iexists _; isplitr
    swap; · iexact HS6
    ipureintro; exact fun h _ _ => absurd h (by omega)
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, launchInv_eq]
  unfold Inv wts
  iintro ⟨⟨%d0, %d1, %d2, %hl, HS0, HS1, HS2⟩, HS3, ⟨%dy, %hy, HS4⟩, ⟨%dp, %hp, HS5⟩, ⟨%dq, %hq, HS6⟩, Hg⟩
  isplitl [HS0 HS1 HS2 HS3 HS4 HS5 HS6]
  · skip
    isplitl [HS0]; · iexists _; iexact HS0
    isplitl [HS1]; · iexists _; iexact HS1
    isplitl [HS2]; · iexists _; iexact HS2
    isplitl [HS3]; · iexact HS3
    isplitl [HS4]; · iexists _; iexact HS4
    isplitl [HS5]; · iexists _; iexact HS5
    iexists _; iexact HS6
  iexact Hg

set_option backward.isDefEq.respectTransparency.types false in
/-- The launch: the arrays end as the library computes them from the data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnPreIdeal.Hand

end
-- ==== Proof.FfnPrePure.lean ====
module

public import proofs.«01_k».proof.Proof.Gen.FfnPreIdeal.Skeleton
public import proofs.«01_k».proof.Proof.FfnPure
public import proofs.«01_k».proof.Proof.FfnFin
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnPreIdeal.Value

open Cert.FfnPreIdeal Cert.FfnPreIdeal.Gen
open Cert.FfnIdeal.Value (rmsS hG hG_rows ld_rows idx128 rowsL hidG Filled Filled.hid)

/-- The leading norm of a block of 128 rows. -/
theorem norm_eq (g : Vec Ideal S1x1x1024 .f32) (x : Vec Ideal S128x1024 .f32) : k0_pay6 g x = hG g x := by
  funext z
  obtain ⟨z0, z1, rfl⟩ := idx128 z
  show _ = x (ix2 z0 z1) * rmsS x z0 * g (ix3 0 0 z1)
  unfold rmsS
  pointwise [k0_pay5, k0_pay6]

/-- The leading norm of the 128 rows of a tile from row `o` on. -/
abbrev normP (g : Vec Ideal S1x1x1024 .f32) (x : Vec Ideal S512x1024 .f32) (o : ℕ) (inb : ∀ a, (![o, 0] : Fin 2 → ℕ) a + S128x1024.size a ≤ S512x1024.size a) : Vec Ideal S128x1024 .bf16 :=
  k0_pay6 g (View.ld x (Rect.unit (s := S512x1024) ![o, 0] S128x1024.size inb))

theorem n_piece (o : ℕ) (ho : o + 128 ≤ 512) (g : Vec Ideal S1x1x1024 .f32) (x : Vec Ideal S512x1024 .f32) (inb : ∀ a, (![o, 0] : Fin 2 → ℕ) a + S128x1024.size a ≤ S512x1024.size a) (z : S128x1024.Idx) :
    normP g x o inb z = hG g x ((Rect.unit (s := S512x1024) ![o, 0] S128x1024.size inb).emb z) := by
  obtain ⟨z0, z1, rfl⟩ := idx128 z
  unfold normP
  rw [norm_eq]
  refine (hG_rows g x _ z0 z1 ⟨o + z0.val, by omega⟩ (fun l => ld_rows o x inb z0 l _ rfl)).trans (congrArg (hG g x) (funext fun a => Fin.ext ?_))
  rw [Rect.emb_apply]
  fin_cases a
  · exact (Nat.add_left_cancel_iff.mpr (Nat.one_mul _)).symm
  · exact ((Nat.zero_add _).trans (Nat.one_mul _)).symm

/-- The four stores of a tile's leading norm, the last first. -/
abbrev normL (g : Vec Ideal S1x1x1024 .f32) (x : Vec Ideal S512x1024 .f32) : List (View.Piece (Elt Ideal) S512x1024 .bf16) :=
  rowsL (e := .bf16) (normP g x 384 inb_S512x1024_S128x1024_384_0) (normP g x 256 inb_S512x1024_S128x1024_256_0) (normP g x 128 inb_S512x1024_S128x1024_128_0) (normP g x 0 inb_S512x1024_S128x1024_0_0)

theorem normL_eq (g : Vec Ideal S1x1x1024 .f32) (x : Vec Ideal S512x1024 .f32) : View.canon (normL g x) = hG g x := by
  funext j
  refine View.canon_apply_of_pieces _ _ ?_ j (View.cover_of_tiled_head _ _ _ (by rfl) j)
  simp only [normL, rowsL, List.forall_mem_cons]
  exact ⟨n_piece 384 (by omega) g x _, n_piece 256 (by omega) g x _, n_piece 128 (by omega) g x _, n_piece 0 (by omega) g x _, fun q hq => absurd hq List.not_mem_nil⟩

theorem readCov_whole {S : Shape} {e : EltTy} {sg : RefSig} {κ : Kind} {sp : Space} (v : View sg κ sp S e) (L : List (View.Piece (Elt Ideal) S e)) {off : Fin S.rank → Nat} (h : off = fun _ => 0) (inb : ∀ a, off a + S.size a ≤ S.size a) :
    v.readCov L (Rect.unit off S.size inb).toLoadRect = View.canon L := by
  rw [View.readCov_eq_canon']; exact View.ld_unit_zero h inb (View.canon L)

/-- The four stores read back whole. -/
abbrev normBack {sg : RefSig} {κ : Kind} {sp : Space} (v : View sg κ sp S512x1024 .bf16) (g : Vec Ideal S1x1x1024 .f32) (x : Vec Ideal S512x1024 .f32) : Vec Ideal S512x1024 .bf16 :=
  v.readCov (normL g x) (Rect.unit (s := S512x1024) ![0, 0] ![512, 1024] inb_S512x1024_S512x1024_0_0).toLoadRect

theorem normBack_eq {sg : RefSig} {κ : Kind} {sp : Space} (v : View sg κ sp S512x1024 .bf16) (g : Vec Ideal S1x1x1024 .f32) (x : Vec Ideal S512x1024 .f32) : normBack v g x = hG g x :=
  (readCov_whole v _ (by funext a; fin_cases a <;> rfl) _).trans (normL_eq g x)

end Cert.FfnPreIdeal.Value

end
-- ==== Proof.FfnPrePoint.lean ====
module

public import proofs.«01_k».proof.Proof.FfnPreIdealData
public import proofs.«01_k».proof.Proof.FfnPrePure

@[expose] public section

set_option maxRecDepth 16384

noncomputable section

open Idealize.ShloMosaic Idealize.ShloMosaic.TcCoe Idealize.SL.Sem
open Idealize.ShloMosaic.Pipeline (Dat)

namespace Cert.FfnPreIdeal.Value

open Cert.FfnPreIdeal Cert.FfnPreIdeal.Gen Cert.FfnPreIdeal.Hand
open Cert.FfnIdeal.Value (xG hG rowsL_x rowsL_h hidG outG pay6_eq pay22_id Filled Filled.hid Filled.corner Filled.nil Filled.canon)

variable (m : (ℓ : Loc nD τ sig) → Buf (Elt Ideal) ℓ)

theorem idx : ∀ t : Fin cfg0.N, win0_0.index t = ![min (t.val - 3) 63, 0] ∧ win0_1.index t = ![min (t.val - 5) 63, 0] ∧ win0_2.index t = ![0, 0, 0]
    ∧ win0_3.index t = ![0, min t.val 3, 0] ∧ win0_4.index t = ![0, min t.val 3, 0] ∧ win0_5.index t = ![0, min t.val 3, 0]
    ∧ win0_6.index t = ![0, 0, 0] ∧ win0_7.index t = ![1, 0, 0] ∧ win0_8.index t = ![min (t.val - 5) 63, 0] ∧ win0_9.index t = ![min (t.val - 5) 63, 0] :=
  (by decide +kernel : ∀ t : Fin grid0.N, _)

theorem flush_x : ∀ t : Fin cfg0.N, (cfg0.win 8).flush t = true → 5 ≤ t.val :=
  (by decide +kernel : ∀ t : Fin grid0.N, _)

theorem flush_h : ∀ t : Fin cfg0.N, (cfg0.win 9).flush t = true → 5 ≤ t.val :=
  (by decide +kernel : ∀ t : Fin grid0.N, _)

theorem covers_x : (cfg0.win 8).Covers := by decide +kernel

theorem covers_h : (cfg0.win 9).Covers := by decide +kernel

theorem xEven_eq (c : Dev nD) (t : Fin cfg0.N) (ht : 5 ≤ t.val ∧ t.val < 68 ∧ t.val % 2 = 0) (ys : Vec Ideal S512x1024 .f32) (hp : Vec Ideal S512x1024 .bf16) : xEven m c t ht ys hp = xG (iblk m c 6 t) ys (iblk m c 1 t) := by
  unfold xEven rEven
  frame_out
  simp only [read_unread_whole]
  exact rowsL_x _ _ _ _ _ _ _ rfl rfl rfl rfl

theorem hEven_eq (c : Dev nD) (t : Fin cfg0.N) (ht : 5 ≤ t.val ∧ t.val < 68 ∧ t.val % 2 = 0) (ys : Vec Ideal S512x1024 .f32) (hp : Vec Ideal S512x1024 .bf16) : hEven m c t ht ys hp = hG (iblk m c 7 t) (xG (iblk m c 6 t) ys (iblk m c 1 t)) := by
  unfold hEven rEven
  frame_out
  simp only [read_unread_whole]
  exact rowsL_h _ _ _ _ _ _ _ _ rfl rfl rfl rfl

theorem xOdd_eq (c : Dev nD) (t : Fin cfg0.N) (ht : 5 ≤ t.val ∧ t.val < 68 ∧ t.val % 2 = 1) (ys : Vec Ideal S512x1024 .f32) (hp : Vec Ideal S512x1024 .bf16) : xOdd m c t ht ys hp = xG (iblk m c 6 t) ys (iblk m c 1 t) := by
  unfold xOdd rOdd
  frame_out
  simp only [read_unread_whole]
  exact rowsL_x _ _ _ _ _ _ _ rfl rfl rfl rfl

theorem hOdd_eq (c : Dev nD) (t : Fin cfg0.N) (ht : 5 ≤ t.val ∧ t.val < 68 ∧ t.val % 2 = 1) (ys : Vec Ideal S512x1024 .f32) (hp : Vec Ideal S512x1024 .bf16) : hOdd m c t ht ys hp = hG (iblk m c 7 t) (xG (iblk m c 6 t) ys (iblk m c 1 t)) := by
  unfold hOdd rOdd
  frame_out
  simp only [read_unread_whole]
  exact rowsL_h _ _ _ _ _ _ _ _ rfl rfl rfl rfl

theorem xLast_eq (c : Dev nD) (t : Fin cfg0.N) (ht : t.val = 68) (ys : Vec Ideal S512x1024 .f32) : xLast m c t ht ys = xG (iblk m c 6 t) ys (iblk m c 1 t) := by
  unfold xLast rLast
  frame_out
  simp only [read_unread_whole]
  exact rowsL_x _ _ _ _ _ _ _ rfl rfl rfl rfl

theorem hLast_eq (c : Dev nD) (t : Fin cfg0.N) (ht : t.val = 68) (ys : Vec Ideal S512x1024 .f32) : hLast m c t ht ys = hG (iblk m c 7 t) (xG (iblk m c 6 t) ys (iblk m c 1 t)) := by
  unfold hLast rLast
  frame_out
  simp only [read_unread_whole]
  exact rowsL_h _ _ _ _ _ _ _ _ rfl rfl rfl rfl

theorem nFirst_eq (c : Dev nD) (t : Fin cfg0.N) (ht : t.val = 4)  : nFirst m c t ht = hG (n := 512) (iblk m c 2 t) (iblk m c 0 t) := by
  unfold nFirst rFirst
  frame_out
  exact normL_eq _ _

theorem nEven_eq (c : Dev nD) (t : Fin cfg0.N) (ht : 5 ≤ t.val ∧ t.val < 68 ∧ t.val % 2 = 0) (ys : Vec Ideal S512x1024 .f32) (hp : Vec Ideal S512x1024 .bf16) : nEven m c t ht ys hp = hG (n := 512) (iblk m c 2 t) (iblk m c 0 t) := by
  unfold nEven rEven
  frame_out
  exact normL_eq _ _

theorem nOdd_eq (c : Dev nD) (t : Fin cfg0.N) (ht : 5 ≤ t.val ∧ t.val < 68 ∧ t.val % 2 = 1) (ys : Vec Ideal S512x1024 .f32) (hp : Vec Ideal S512x1024 .bf16) : nOdd m c t ht ys hp = hG (n := 512) (iblk m c 2 t) (iblk m c 0 t) := by
  unfold nOdd rOdd
  frame_out
  exact normL_eq _ _

/-- The product of a tile whose normalised rows are `h`. -/
abbrev prodG (c : Dev nD) (h : Vec Ideal S512x1024 .bf16) : S512x1024.Idx → Elt Ideal .f32 := outG (hidG h (gateW m c) (upW m c)) (downW m c)

theorem prod_of (c : Dev nD) (h : Vec Ideal S512x1024 .bf16) {L : List (View.Piece (Elt Ideal) S512x2816 .bf16)} (hL : Filled (hidG h (gateW m c) (upW m c)) 2816 L) :
    k0_pay2 ((View.whole cc0_scratch3).readCov L (Rect.unit (s := S512x2816) ![0, 0] ![512, 2816] inb_S512x2816_S512x2816_0_0).toLoadRect) (downW m c) = prodG m c h := by
  refine Eq.trans ?_ (pay6_eq _ _)
  refine congrArg (k0_pay2 · (downW m c)) ((readCov_whole _ _ ?_ _).trans (hL.canon (le_refl _)))
  funext a; fin_cases a <;> rfl

set_option maxHeartbeats 2000000 in
theorem yEven_eq (c : Dev nD) (t : Fin cfg0.N) (ht : 5 ≤ t.val ∧ t.val < 68 ∧ t.val % 2 = 0) (ys : Vec Ideal S512x1024 .f32) (hp : Vec Ideal S512x1024 .bf16) : yEven m c t ht ys hp = prodG m c hp := by
  unfold yEven rEven
  frame_out
  simp only [read_unread_whole]
  refine prod_of m c hp ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

set_option maxHeartbeats 2000000 in
theorem yOdd_eq (c : Dev nD) (t : Fin cfg0.N) (ht : 5 ≤ t.val ∧ t.val < 68 ∧ t.val % 2 = 1) (ys : Vec Ideal S512x1024 .f32) (hp : Vec Ideal S512x1024 .bf16) : yOdd m c t ht ys hp = prodG m c hp := by
  unfold yOdd rOdd
  frame_out
  simp only [read_unread_whole]
  refine prod_of m c hp ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

set_option maxHeartbeats 2000000 in
theorem yFirst_eq (c : Dev nD) (t : Fin cfg0.N) (ht : t.val = 4)  : yFirst m c t ht = prodG m c (hG (n := 512) (iblk m c 2 t) (iblk m c 1 t)) := by
  rw [← normBack_eq (View.whole cc0_scratch5)]
  unfold yFirst rFirst
  frame_out
  simp only [read_unread_whole]
  refine prod_of m c (normBack (View.whole cc0_scratch5) (iblk m c 2 t) (iblk m c 1 t)) ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

/-- The point before a point. -/
abbrev pred (t : Fin cfg0.N) : Fin cfg0.N := ⟨t.val - 1, Nat.lt_of_le_of_lt (Nat.sub_le _ _) t.isLt⟩

/-- The normalised rows that a point multiplies: of its own input at the first tile, else what the point before left. -/
def normT (c : Dev nD) (t : Fin cfg0.N) : Vec Ideal S512x1024 .bf16 :=
  if t.val = 4 then hG (n := 512) (iblk m c 2 t) (iblk m c 1 t) else hG (n := 512) (iblk m c 2 (pred t)) (iblk m c 0 (pred t))

theorem n_at (c : Dev nD) (t : Fin cfg0.N) (h4 : 4 ≤ t.val) (h68 : t.val < 68) : (stAt m c t.val).2 = hG (n := 512) (iblk m c 2 t) (iblk m c 0 t) := by
  by_cases h : t.val = 4
  · rw [stAt_first m c t h]; dsimp only; rw [nFirst_eq]
  rcases Nat.mod_two_eq_zero_or_one t.val with h2 | h2
  · rw [stAt_even m c t ⟨by omega, h68, h2⟩]; dsimp only; rw [nEven_eq]
  · rw [stAt_odd m c t ⟨by omega, h68, h2⟩]; dsimp only; rw [nOdd_eq]

/-- What the carried scratch holds after a point that multiplies. -/
theorem y_at (c : Dev nD) (t : Fin cfg0.N) (h4 : 4 ≤ t.val) (h68 : t.val < 68) : (stAt m c t.val).1 = prodG m c (normT m c t) := by
  by_cases h : t.val = 4
  · rw [normT, if_pos h]; rw [stAt_first m c t h]; dsimp only; rw [yFirst_eq]
  have hn : nBefore m c t = normT m c t := (n_at m c (pred t) (by show 4 ≤ t.val - 1; omega) (by show t.val - 1 < 68; omega)).trans (if_neg h).symm
  rcases Nat.mod_two_eq_zero_or_one t.val with h2 | h2
  · rw [← hn]; rw [stAt_even m c t ⟨by omega, h68, h2⟩]; dsimp only; rw [yEven_eq]
  · rw [← hn]; rw [stAt_odd m c t ⟨by omega, h68, h2⟩]; dsimp only; rw [yOdd_eq]

theorem x_out (c : Dev nD) (t : Fin cfg0.N) (h5 : 5 ≤ t.val) : xOut m c t = xG (iblk m c 6 t) (prodG m c (normT m c (pred t))) (iblk m c 1 t) := by
  have hN : t.val < 69 := lt_of_lt_of_eq t.isLt N_0
  have hy : yBefore m c t = prodG m c (normT m c (pred t)) := y_at m c (pred t) (by show 4 ≤ t.val - 1; omega) (by show t.val - 1 < 68; omega)
  by_cases h : t.val = 68
  · rw [xOut_last m c t h, xLast_eq, hy]
  rcases Nat.mod_two_eq_zero_or_one t.val with h2 | h2
  · rw [xOut_even m c t ⟨h5, by omega, h2⟩, xEven_eq, hy]
  · rw [xOut_odd m c t ⟨h5, by omega, h2⟩, xOdd_eq, hy]

theorem h_out (c : Dev nD) (t : Fin cfg0.N) (h5 : 5 ≤ t.val) : hOut m c t = hG (iblk m c 7 t) (xG (iblk m c 6 t) (prodG m c (normT m c (pred t))) (iblk m c 1 t)) := by
  have hN : t.val < 69 := lt_of_lt_of_eq t.isLt N_0
  have hy : yBefore m c t = prodG m c (normT m c (pred t)) := y_at m c (pred t) (by show 4 ≤ t.val - 1; omega) (by show t.val - 1 < 68; omega)
  by_cases h : t.val = 68
  · rw [hOut_last m c t h, hLast_eq, hy]
  rcases Nat.mod_two_eq_zero_or_one t.val with h2 | h2
  · rw [hOut_even m c t ⟨h5, by omega, h2⟩, hEven_eq, hy]
  · rw [hOut_odd m c t ⟨h5, by omega, h2⟩, hOdd_eq, hy]

end Cert.FfnPreIdeal.Value

end
-- ==== Proof.FfnPreRef.lean ====
module

public import proofs.«01_k».proof.Proof.Gen.RefFfnPreIdeal.Run
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.RefFfnPreIdeal.Value

open Cert.RefFfnPreIdeal Cert.RefFfnPreIdeal.Gen
open Cert.FfnIdeal.Value (rmsS)
open Cert.RefFfnIdeal.Value (normR normR_at XR)

/-- The normalisation of every row by the second layer's gain. -/
def normN (y : FVec Ideal S32768x1024 .f32) (A5 : FVec Ideal S4x1x1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1x1024 ![1, 0, 0] A5 slices_S4x1x1024_S1x1x1024_1_0_0) shapeCasts_S1x1x1024_S1024)))

theorem normN_at (y : FVec Ideal S32768x1024 .f32) (A5 : FVec Ideal S4x1x1024 .f32) (r : Fin 32768) (d : Fin 1024) :
    normN y A5 (ix2 r d) = y (ix2 r d) * rmsS y r * A5 (ix3 1 0 d) := by
  unfold rmsS
  pointwise [normN]

/-- The first result: that of the half-step without the leading norm, of the normalised input. -/
def XP (A0 : FVec Ideal S32768x1024 .f32) (A1 : FVec Ideal S4x1x1024 .f32) (A2 A3 : FVec Ideal S4x1024x2816 .f32) (A4 : FVec Ideal S4x2816x1024 .f32) (A5 : FVec Ideal S4x1x1024 .f32) : FVec Ideal S32768x1024 .f32 :=
  XR (truncf .bf16 (normR A0 A1) Cert.RefFfnIdeal.Gen.bitsLt_bf16_f32) A0 A2 A3 A4 A5

/-- The second result: the first, normalised by the next layer's gain. -/
def HP (A0 : FVec Ideal S32768x1024 .f32) (A1 : FVec Ideal S4x1x1024 .f32) (A2 A3 : FVec Ideal S4x1024x2816 .f32) (A4 : FVec Ideal S4x2816x1024 .f32) (A5 A6 : FVec Ideal S4x1x1024 .f32) : FVec Ideal S32768x1024 .bf16 :=
  truncf .bf16 (normN (XP A0 A1 A2 A3 A4 A5) A6) bitsLt_bf16_f32

theorem HP_at (A0 : FVec Ideal S32768x1024 .f32) (A1 : FVec Ideal S4x1x1024 .f32) (A2 A3 : FVec Ideal S4x1024x2816 .f32) (A4 : FVec Ideal S4x2816x1024 .f32) (A5 A6 : FVec Ideal S4x1x1024 .f32) (r : Fin 32768) (d : Fin 1024) :
    HP A0 A1 A2 A3 A4 A5 A6 (ix2 r d) = XP A0 A1 A2 A3 A4 A5 (ix2 r d) * rmsS (XP A0 A1 A2 A3 A4 A5) r * A6 (ix3 1 0 d) :=
  normN_at (XP A0 A1 A2 A3 A4 A5) A6 r d

theorem res_x (m : (ℓ : Loc nD τ sig) → Buf (Elt Ideal) ℓ) (c : Dev nD) : res_main_v43 m c = XP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v43; rfl

theorem res_h (m : (ℓ : Loc nD τ sig) → Buf (Elt Ideal) ℓ) (c : Dev nD) : res_main_v59 m c = HP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v59; rfl

/-- The reference's run, its two results named. -/
theorem run_REF (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = XP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v59) = HP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (res_x m c), (h c).2.1.trans (res_h m c), (h c).2.2⟩) (run m ρ)

end Cert.RefFfnPreIdeal.Value

end
-- ==== Proof.FfnPreValue.lean ====
module

public import proofs.«01_k».proof.Proof.FfnPreIdealFrame
public import proofs.«01_k».proof.Proof.FfnPrePoint
public import proofs.«01_k».proof.Proof.FfnPreRef

@[expose] public section

set_option maxRecDepth 16384

noncomputable section

open Idealize.ShloMosaic Idealize.ShloMosaic.TcCoe Idealize.SL.Sem
open Idealize.ShloMosaic.Pipeline (Dat)

namespace Cert.FfnPreIdeal.Value

open Cert.FfnPreIdeal Cert.FfnPreIdeal.Gen Cert.FfnPreIdeal.Hand
open Cert.FfnIdeal.Value (act rmsS xG hG)
open Cert.RefFfnIdeal.Value (XR YR XR_at normR normR_at)
open Cert.RefFfnPreIdeal.Value (XP HP HP_at)

variable (m : (ℓ : Loc nD τ sig) → Buf (Elt Ideal) ℓ)

theorem pay1_at (v : Vec Ideal S1x256x2816 .f32) (r : Fin 256) (d : Fin 2816) : k0_pay112 (F := Ideal) v (ix2 r d) = v (ix3 0 r d) := by
  pointwise [k0_pay112]

theorem pay2_at (v : Vec Ideal S1x256x2816 .f32) (r : Fin 256) (d : Fin 2816) : k0_pay113 (F := Ideal) v (ix2 r d) = v (ix3 0 r d) := by
  pointwise [k0_pay113]

theorem pay3_at (v : Vec Ideal S1x704x1024 .f32) (r : Fin 704) (d : Fin 1024) : k0_pay114 (F := Ideal) v (ix2 r d) = v (ix3 0 r d) := by
  pointwise [k0_pay114]

theorem gblk (c : Dev nD) (t : Fin cfg0.N) (r : Fin 256) (d : Fin 2816) :
    (iblk m c 3 t : Vec Ideal S1x256x2816 .f32) (ix3 0 r d) = (m ((c : Thread nD τ).loc main_arg2)) (ix3 0 ⟨256 * min t.val 3 + r.val, by omega⟩ d) := by
  blk_ext [iblk, V, idx t]

theorem ublk (c : Dev nD) (t : Fin cfg0.N) (r : Fin 256) (d : Fin 2816) :
    (iblk m c 4 t : Vec Ideal S1x256x2816 .f32) (ix3 0 r d) = (m ((c : Thread nD τ).loc main_arg3)) (ix3 0 ⟨256 * min t.val 3 + r.val, by omega⟩ d) := by
  blk_ext [iblk, V, idx t]

theorem dblk (c : Dev nD) (t : Fin cfg0.N) (r : Fin 704) (d : Fin 1024) :
    (iblk m c 5 t : Vec Ideal S1x704x1024 .f32) (ix3 0 r d) = (m ((c : Thread nD τ).loc main_arg4)) (ix3 0 ⟨704 * min t.val 3 + r.val, by omega⟩ d) := by
  blk_ext [iblk, V, idx t]

theorem gate_at (c : Dev nD) (k : Fin 1024) (d : Fin 2816) : gateW m c (ix2 k d) = (m ((c : Thread nD τ).loc main_arg2)) (ix3 0 k d) := by
  refine (pay1_at _ _ _).trans ((gblk m c _ _ _).trans (congrArg (fun q => (m ((c : Thread nD τ).loc main_arg2)) (ix3 0 q d)) (Fin.ext ?_)))
  show 256 * min (k.val / 256) 3 + k.val % 256 = k.val
  omega

theorem up_at (c : Dev nD) (k : Fin 1024) (d : Fin 2816) : upW m c (ix2 k d) = (m ((c : Thread nD τ).loc main_arg3)) (ix3 0 k d) := by
  refine (pay2_at _ _ _).trans ((ublk m c _ _ _).trans (congrArg (fun q => (m ((c : Thread nD τ).loc main_arg3)) (ix3 0 q d)) (Fin.ext ?_)))
  show 256 * min (k.val / 256) 3 + k.val % 256 = k.val
  omega

theorem down_at (c : Dev nD) (k : Fin 2816) (d : Fin 1024) : downW m c (ix2 k d) = (m ((c : Thread nD τ).loc main_arg4)) (ix3 0 k d) := by
  refine (pay3_at _ _ _).trans ((dblk m c _ _ _).trans (congrArg (fun q => (m ((c : Thread nD τ).loc main_arg4)) (ix3 0 q d)) (Fin.ext ?_)))
  show 704 * min (k.val / 704) 3 + k.val % 704 = k.val
  omega

theorem hblk (c : Dev nD) (t : Fin cfg0.N) (r : Fin 512) (k : Fin 1024) :
    (iblk m c 0 t : Vec Ideal S512x1024 .f32) (ix2 r k) = (m ((c : Thread nD τ).loc main_arg0)) (ix2 ⟨512 * min (t.val - 3) 63 + r.val, by omega⟩ k) := by
  blk_ext [iblk, V, idx t]

theorem xblk (c : Dev nD) (t : Fin cfg0.N) (r : Fin 512) (k : Fin 1024) :
    (iblk m c 1 t : Vec Ideal S512x1024 .f32) (ix2 r k) = (m ((c : Thread nD τ).loc main_arg0)) (ix2 ⟨512 * min (t.val - 5) 63 + r.val, by omega⟩ k) := by
  blk_ext [iblk, V, idx t]

theorem preblk (c : Dev nD) (t : Fin cfg0.N) (d : Fin 1024) : (iblk m c 2 t : Vec Ideal S1x1x1024 .f32) (ix3 0 0 d) = (m ((c : Thread nD τ).loc main_arg1)) (ix3 0 0 d) := by
  blk_ext [iblk, V, idx t]

theorem postblk (c : Dev nD) (t : Fin cfg0.N) (d : Fin 1024) : (iblk m c 6 t : Vec Ideal S1x1x1024 .f32) (ix3 0 0 d) = (m ((c : Thread nD τ).loc main_arg5)) (ix3 0 0 d) := by
  blk_ext [iblk, V, idx t]

theorem nextblk (c : Dev nD) (t : Fin cfg0.N) (d : Fin 1024) : (iblk m c 7 t : Vec Ideal S1x1x1024 .f32) (ix3 0 0 d) = (m ((c : Thread nD τ).loc main_arg6)) (ix3 1 0 d) := by
  blk_ext [iblk, V, idx t]

/-- A block normalised by the leading gain is the whole input normalised, at the block's rows. -/
theorem rows_at (c : Dev nD) (g : Vec Ideal S1x1x1024 .f32) (x : Vec Ideal S512x1024 .f32) (r : Fin 512) (R : Fin 32768) (hg : ∀ d : Fin 1024, g (ix3 0 0 d) = (m ((c : Thread nD τ).loc main_arg1)) (ix3 0 0 d))
    (hx : ∀ k : Fin 1024, x (ix2 r k) = (m ((c : Thread nD τ).loc main_arg0)) (ix2 R k)) (k : Fin 1024) : hG g x (ix2 r k) = normR (m ((c : Thread nD τ).loc main_arg0)) (m ((c : Thread nD τ).loc main_arg1)) (ix2 R k) := by
  refine Eq.trans ?_ (normR_at _ _ R k).symm
  exact congrArg₂ (· * ·) (congrArg₂ (· * ·) (hx k) (congrArg Ideal.rsqrt (congrArg₂ (· + ·)
    (congrArg₂ Ideal.div (Finset.sum_congr rfl fun l _ => congrArg₂ (· * ·) (hx l) (hx l)) rfl) rfl))) (hg k)

/-- The normalised rows that a point multiplies are the reference's at its tile. -/
theorem normT_at (c : Dev nD) (t : Fin cfg0.N) (h4 : 4 ≤ t.val) (r : Fin 512) (k : Fin 1024) :
    normT m c t (ix2 r k) = normR (m ((c : Thread nD τ).loc main_arg0)) (m ((c : Thread nD τ).loc main_arg1)) (ix2 ⟨512 * min (t.val - 4) 63 + r.val, by omega⟩ k) := by
  unfold normT
  by_cases h : t.val = 4
  · rw [if_pos h]
    exact rows_at m c _ _ r _ (preblk m c t) (fun l => (xblk m c t r l).trans (congrArg (fun q => (m ((c : Thread nD τ).loc main_arg0)) (ix2 q l)) (Fin.ext (by
      show 512 * min (t.val - 5) 63 + r.val = 512 * min (t.val - 4) 63 + r.val
      omega)))) k
  · rw [if_neg h]
    exact rows_at m c _ _ r _ (preblk m c (pred t)) (fun l => (hblk m c (pred t) r l).trans (congrArg (fun q => (m ((c : Thread nD τ).loc main_arg0)) (ix2 q l)) (Fin.ext (by
      show 512 * min (t.val - 1 - 3) 63 + r.val = 512 * min (t.val - 4) 63 + r.val
      omega)))) k

/-- The input of the reference's projections. -/
abbrev NK (c : Dev nD) : FVec Ideal S32768x1024 .bf16 := truncf .bf16 (normR (m ((c : Thread nD τ).loc main_arg0)) (m ((c : Thread nD τ).loc main_arg1))) bitsLt_bf16_f32

/-- The product of one tile of tokens is the reference's at those tokens. -/
theorem prod_at (c : Dev nD) (t : Fin cfg0.N) (h5 : 5 ≤ t.val) (r : Fin 512) (d : Fin 1024) :
    prodG m c (normT m c (pred t)) (ix2 r d) = YR (NK m c) (m ((c : Thread nD τ).loc main_arg2)) (m ((c : Thread nD τ).loc main_arg3)) (m ((c : Thread nD τ).loc main_arg4))
      (ix2 ⟨512 * min (t.val - 5) 63 + r.val, by omega⟩ d) := by
  have hh : ∀ k : Fin 1024, normT m c (pred t) (ix2 r k) = NK m c (ix2 ⟨512 * min (t.val - 5) 63 + r.val, by omega⟩ k) := fun k =>
    (normT_at m c (pred t) (by show 4 ≤ t.val - 1; omega) r k).trans (congrArg (fun q => NK m c (ix2 q k)) (Fin.ext (by
      show 512 * min (t.val - 1 - 4) 63 + r.val = 512 * min (t.val - 5) 63 + r.val
      omega)))
  exact Finset.sum_congr rfl fun k _ => congrArg₂ (· * ·) (congrArg₂ act
    (Finset.sum_congr rfl fun l _ => congrArg₂ (· * ·) (hh l) (gate_at m c l k)) (Finset.sum_congr rfl fun l _ => congrArg₂ (· * ·) (hh l) (up_at m c l k))) (down_at m c k d)

/-- The reference's first result, of this run's arguments. -/
abbrev XK (c : Dev nD) := XP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's second result, of this run's arguments. -/
abbrev HK (c : Dev nD) := HP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem x_at (c : Dev nD) (t : Fin cfg0.N) (h5 : 5 ≤ t.val) (r : Fin 512) (d : Fin 1024) :
    xG (iblk m c 6 t) (prodG m c (normT m c (pred t))) (iblk m c 1 t) (ix2 r d) = XK m c (ix2 ⟨512 * min (t.val - 5) 63 + r.val, by omega⟩ d) := by
  have hy := prod_at m c t h5 r
  refine Eq.trans ?_ (XR_at _ _ _ _ _ _ _ d).symm
  exact congrArg₂ (· + ·) (xblk m c t r d) (congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (congrArg₂ (· * ·) rfl (postblk m c t d)))

theorem h_at (c : Dev nD) (t : Fin cfg0.N) (h5 : 5 ≤ t.val) (r : Fin 512) (d : Fin 1024) :
    hG (iblk m c 7 t) (xG (iblk m c 6 t) (prodG m c (normT m c (pred t))) (iblk m c 1 t)) (ix2 r d) = HK m c (ix2 ⟨512 * min (t.val - 5) 63 + r.val, by omega⟩ d) := by
  have hy := x_at m c t h5 r
  refine Eq.trans ?_ (HP_at _ _ _ _ _ _ _ _ d).symm
  exact congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (nextblk m c t d)

theorem idx512 (x : S512x1024.Idx) : ∃ (r : Fin 512) (d : Fin 1024), x = ix2 r d := ⟨x 0, x 1, funext fun a => by fin_cases a <;> rfl⟩

/-- The kernel's first result array, after its last grid point, is the reference's. -/
theorem final_x (c : Dev nD) : (dats m 0 c).arrAt 8 (cfgs 0).N = XK m c := by
  refine (dats m 0 c).arrAt_eq_of_covers 8 _ covers_x fun t hf y => ?_
  have ht := flush_x t hf
  blk_simp
  rw [after_8, x_out m c t ht]
  obtain ⟨r, d, rfl⟩ := idx512 y
  rw [show (win0_8.blk t).view.emb (ix2 r d : S512x1024.Idx) = (ix2 ⟨512 * min (t.val - 5) 63 + r.val, by omega⟩ d : S32768x1024.Idx) from by blk_ext [idx t]]
  exact x_at m c t ht r d

/-- The kernel's second result array, after its last grid point, is the reference's. -/
theorem final_h (c : Dev nD) : (dats m 0 c).arrAt 9 (cfgs 0).N = HK m c := by
  refine (dats m 0 c).arrAt_eq_of_covers 9 _ covers_h fun t hf y => ?_
  have ht := flush_h t hf
  blk_simp
  rw [after_9, h_out m c t ht]
  obtain ⟨r, d, rfl⟩ := idx512 y
  rw [show (win0_9.blk t).view.emb (ix2 r d : S512x1024.Idx) = (ix2 ⟨512 * min (t.val - 5) 63 + r.val, by omega⟩ d : S32768x1024.Idx) from by blk_ext [idx t]]
  exact h_at m c t ht r d

end Cert.FfnPreIdeal.Value

end
-- ==== Proof.FfnEndIdealPoints.lean ====
module

public import proofs.«01_k».proof.Proof.Gen.FfnEndIdeal.Frame
public import proofs.«01_k».proof.Proof.Gen.FfnEndIdeal.Skeleton
public import proofs.«01_k».proof.Proof.Gen.FfnEndIdeal.Points
public import proofs.«01_k».proof.Proof.Gen.FfnEndIdeal.Launch
public import Idealize.ShloMosaic.Lib.Pipeline.FrameBody
public import Idealize.ShloMosaic.Lib.Pipeline.ValueKit
public import Idealize.ShloMosaic.Lib.Pipeline.TableIdle
public import Idealize.ShloMosaic.Lib.Ring
public import Idealize.ShloMosaic.Lib.WritesUnit
public import Idealize.ShloMosaic.Lib.Tactic
public import Idealize.ShloMosaic.Lib.WordCmp

@[expose] public section

set_option maxRecDepth 16384

noncomputable section

namespace Cert.FfnEndIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnEndIdeal Cert.FfnEndIdeal.Gen

variable {F : FTy → Type} [FloatOps F]

local notation "𝕄" => MT nD τ sig Unit (Elt F) ℕ (UR sig nD τ) ℕ

/-- The first points, which load the weights. -/
abbrev condL (i : grid0.Coords) : Prop := k0_cond1 i = 1#1
/-- The first tile's point. -/
abbrev condZ (i : grid0.Coords) : Prop := (Scalar.cmpi .ne (Scalar.extui (Scalar.cmpi .eq (Scalar.subi (BitVec.ofNat 32 (i 0).val) 4#32) 0#32)) 0#32) = 1#1
/-- The points of the even tiles. -/
abbrev condP0 (i : grid0.Coords) : Prop := k0_cond3 i = 1#1
/-- The points of the odd tiles. -/
abbrev condP1 (i : grid0.Coords) : Prop := k0_cond4 i = 1#1
/-- The last point. -/
abbrev condE (i : grid0.Coords) : Prop := k0_cond5 i = 1#1

theorem hcondL : ∀ t : Fin cfg0.N, condL (grid0.coords t) ↔ t.val < 4 := (by decide +kernel : ∀ t : Fin grid0.N, _)
theorem hcondZ : ∀ t : Fin cfg0.N, condZ (grid0.coords t) ↔ t.val = 4 := (by decide +kernel : ∀ t : Fin grid0.N, _)
theorem hcondP0 : ∀ t : Fin cfg0.N, condP0 (grid0.coords t) ↔ 4 ≤ t.val ∧ t.val < 68 ∧ t.val % 2 = 0 := (by decide +kernel : ∀ t : Fin grid0.N, _)
theorem hcondP1 : ∀ t : Fin cfg0.N, condP1 (grid0.coords t) ↔ 4 ≤ t.val ∧ t.val < 68 ∧ t.val % 2 = 1 := (by decide +kernel : ∀ t : Fin grid0.N, _)
theorem hcondE : ∀ t : Fin cfg0.N, condE (grid0.coords t) ↔ t.val = 68 := (by decide +kernel : ∀ t : Fin grid0.N, _)

/-! The outputs are left alone at the loading points and written at every other. -/

theorem idleOut7 : ∀ t : Fin cfg0.N, cfg0.idle 7 (grid0.coords t) = decide (t.val < 4) := (by decide +kernel : ∀ t : Fin grid0.N, _)
theorem flushOut7 : ∀ t : Fin cfg0.N, t.val < 4 → (cfg0.win 7).flush t = false := (by decide +kernel : ∀ t : Fin grid0.N, _)

theorem offGate : ∀ t : Fin cfg0.N, t.val < 4 → k0_off1 (grid0.coords t) = ![256 * t.val, 0] := (by decide +kernel : ∀ t : Fin grid0.N, _)
theorem offDown : ∀ t : Fin cfg0.N, t.val < 4 → k0_off2 (grid0.coords t) = ![704 * t.val, 0] := (by decide +kernel : ∀ t : Fin grid0.N, _)

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2816 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x704x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2
abbrev sc3 : Memref sig .tc .vmem S512x2816 .bf16 := Memref.whole cc0_scratch3
abbrev sc4 : Memref sig .tc .vmem S512x1024 .f32 := Memref.whole cc0_scratch4
abbrev sc5 : Memref sig .tc .vmem S512x1024 .bf16 := Memref.whole cc0_scratch5
abbrev sc6 : Memref sig .tc .vmem S512x1024 .bf16 := Memref.whole cc0_scratch6

/-- A buffer owned whole, at contents. -/
abbrev own {s : Shape} {e : EltTy} (c : Dev nD) (a : Memref sig .tc .vmem s e) (x : Vec F s e) : sProp 𝕄 := owns (c : Thread nD τ) a fullShare x
/-- A buffer owned whole, with pieces written over contents. -/
abbrev wr {s : Shape} {e : EltTy} (c : Dev nD) (a : Memref sig .tc .vmem s e) (f : a.view.ty.Contents (Elt F)) (L : List (View.Piece (Elt F) s e)) : sProp 𝕄 := a.view.loc (c : Thread nD τ) ↦[a.view.set]{fullShare} a.view.writes (Elt F) f L

/-- What was owned at its contents is so again. -/
theorem own_back {s : Shape} {e : EltTy} {c : Dev nD} {a : Memref sig .tc .vmem s e} (h : a.IsWhole) (x : Vec F s e) :
    (a.view.loc (c : Thread nD τ) ↦[a.view.set]{fullShare} h.unread x : sProp 𝕄) ⊢ iprop(∃ f, ⌜a.view.read (Elt F) f = x⌝ ∗ a.view.loc (c : Thread nD τ) ↦[a.view.set]{fullShare} f) := by
  iintro H
  iexists _; isplitr; · ipureintro; exact h.read_unread _
  iexact H
/-- What was written over is owned at what it reads. -/
theorem own_read {s : Shape} {e : EltTy} {c : Dev nD} {a : Memref sig .tc .vmem s e} (f : a.view.ty.Contents (Elt F)) :
    (a.view.loc (c : Thread nD τ) ↦[a.view.set]{fullShare} f : sProp 𝕄) ⊢ own c a (a.view.read (Elt F) f) := by
  unfold own owns
  iintro H
  iexists _; isplitr; swap; · iexact H
  ipureintro; rfl

/-- What the launch hands over, with each scratch as a buffer owned at some contents. -/
theorem launchInv_eq (c : Dev nD) :
    (Pipeline.ΦA spec0 c : sProp 𝕄)
      = iprop(iprop((∃ d, own c sc0 d) ∗ (∃ d, own c sc1 d) ∗ (∃ d, own c sc2 d) ∗ (∃ d, own c sc3 d) ∗ (∃ d, own c sc4 d) ∗ (∃ d, own c sc5 d) ∗ (∃ d, own c sc6 d)) ∗ (∃ r, prngReg c r)) := by
  unfold Pipeline.ΦA; rw [scopedRest0_eq]; simp only [sc0, sc1, sc2, sc3, sc4, sc5, sc6, own, owns_whole]; try rfl

end Cert.FfnEndIdeal.Hand

end
-- ==== Proof.FfnEndIdealRun.lean ====
module

public import proofs.«01_k».proof.Proof.FfnEndIdealPoints

@[expose] public section

set_option maxRecDepth 16384

noncomputable section

namespace Cert.FfnEndIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnEndIdeal Cert.FfnEndIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1x1024 .f32) (harg3 : arg3.IsWhole)
  (arg4 : Memref sig .tc .vmem S1x256x2816 .f32) (harg4 : arg4.IsWhole)
  (arg5 : Memref sig .tc .vmem S1x256x2816 .f32) (harg5 : arg5.IsWhole)
  (arg6 : Memref sig .tc .vmem S1x704x1024 .f32) (harg6 : arg6.IsWhole)
  (arg7 : Memref sig .tc .vmem S1x1x1024 .f32) (harg7 : arg7.IsWhole)
  (arg8 : Memref sig .tc .vmem S512x1024 .f32) (harg8 : arg8.IsWhole)
  (arg9 : Memref sig .tc .vmem S1024x2816 .bf16) (harg9 : arg9.IsWhole)
  (arg10 : Memref sig .tc .vmem S1024x2816 .bf16) (harg10 : arg10.IsWhole)
  (arg11 : Memref sig .tc .vmem S2816x1024 .bf16) (harg11 : arg11.IsWhole)
  (arg12 : Memref sig .tc .vmem S512x2816 .bf16) (harg12 : arg12.IsWhole)
  (arg13 : Memref sig .tc .vmem S512x1024 .f32) (harg13 : arg13.IsWhole)
  (arg14 : Memref sig .tc .vmem S512x1024 .bf16) (harg14 : arg14.IsWhole)
  (arg15 : Memref sig .tc .vmem S512x1024 .bf16) (harg15 : arg15.IsWhole)
  (x0 : Vec F S512x1024 .f32) (x1 : Vec F S512x1024 .f32) (x2 : Vec F S1x1x1024 .f32) (x3 : Vec F S1x256x2816 .f32) (x4 : Vec F S1x256x2816 .f32) (x5 : Vec F S1x704x1024 .f32) (x6 : Vec F S1x1x1024 .f32)
  (w0 w1 : Vec F S1024x2816 .bf16) (w2 : Vec F S2816x1024 .bf16)

/-- The blocks of the inputs, staged. -/
def ins : sProp 𝕄 := iprop(own c arg1 x0 ∗ own c arg2 x1 ∗ own c arg3 x2 ∗ own c arg4 x3 ∗ own c arg5 x4 ∗ own c arg6 x5 ∗ own c arg7 x6)
/-- The three weight scratches. -/
def wts : sProp 𝕄 := iprop(own c arg9 w0 ∗ own c arg10 w1 ∗ own c arg11 w2)

set_option maxHeartbeats 4000000 in
/-- The body at a loading point: a slice of each weight scratch is stored over what it held. -/
def RunLoad (hc0 : condL i) (hc1 : ¬condZ i) (hc2 : ¬condP0 i) (hc3 : ¬condP1 i) (hc4 : ¬condE i) :
    Σ' (L8 : List (View.Piece (Elt F) S1024x2816 .bf16)), Σ' (L9 : List (View.Piece (Elt F) S1024x2816 .bf16)), { L10 : List (View.Piece (Elt F) S2816x1024 .bf16) //
      ∀ (E : Set ℕ) (K : PUnit → sProp 𝕄),
        iprop(ins c arg1 arg2 arg3 arg4 arg5 arg6 arg7 x0 x1 x2 x3 x4 x5 x6 ∗ (∃ d, own c arg8 d) ∗ wts c arg9 arg10 arg11 w0 w1 w2 ∗ (∃ d, own c arg12 d) ∗ (∃ d, own c arg13 d) ∗ (∃ d, own c arg14 d) ∗ (∃ d, own c arg15 d)
            ∗ (iprop(ins c arg1 arg2 arg3 arg4 arg5 arg6 arg7 x0 x1 x2 x3 x4 x5 x6 ∗ (∃ d, own c arg8 d) ∗ (∃ f, ⌜arg9.view.read (Elt F) f = w0⌝ ∗ wr c arg9 f L8) ∗ (∃ f, ⌜arg10.view.read (Elt F) f = w1⌝ ∗ wr c arg10 f L9) ∗ (∃ f, ⌜arg11.view.read (Elt F) f = w2⌝ ∗ wr c arg11 f L10) ∗ (∃ d, own c arg12 d) ∗ (∃ d, own c arg13 d) ∗ (∃ d, own c arg14 d) ∗ (∃ d, own c arg15 d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10
    sl_exec (disch := first | sl_exact hc0 | sl_exact hc1 | sl_exact hc2 | sl_exact hc3 | sl_exact hc4)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _, _; isplitr; swap; · iexact H7
      ipureintro; rfl
    isplitl [H8]
    · iexists _; isplitr; swap; · iexact H8
      ipureintro; exact harg9.read_unread _
    isplitl [H9]
    · iexists _; isplitr; swap; · iexact H9
      ipureintro; exact harg10.read_unread _
    isplitl [H10]
    · iexists _; isplitr; swap; · iexact H10
      ipureintro; exact harg11.read_unread _
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    · iexists _, _; isplitr; swap; · iexact H14
      ipureintro; rfl

set_option maxHeartbeats 4000000 in
/-- The body at the first tile: its norm is taken here, and the next tile's. -/
def RunFirst (hc0 : ¬condL i) (hc1 : condZ i) (hc2 : condP0 i) (hc3 : ¬condP1 i) (hc4 : ¬condE i) :
    Σ' (L7 : List (View.Piece (Elt F) S512x1024 .f32)), Σ' (L11 : List (View.Piece (Elt F) S512x2816 .bf16)), Σ' (L12 : List (View.Piece (Elt F) S512x1024 .f32)), Σ' (L13 : List (View.Piece (Elt F) S512x1024 .bf16)), { L14 : List (View.Piece (Elt F) S512x1024 .bf16) //
      ∀ (E : Set ℕ) (K : PUnit → sProp 𝕄),
        iprop(ins c arg1 arg2 arg3 arg4 arg5 arg6 arg7 x0 x1 x2 x3 x4 x5 x6 ∗ (∃ d, own c arg8 d) ∗ wts c arg9 arg10 arg11 w0 w1 w2 ∗ (∃ d, own c arg12 d) ∗ (∃ d, own c arg13 d) ∗ (∃ d, own c arg14 d) ∗ (∃ d, own c arg15 d)
            ∗ (iprop(ins c arg1 arg2 arg3 arg4 arg5 arg6 arg7 x0 x1 x2 x3 x4 x5 x6 ∗ (∃ f, wr c arg8 f L7) ∗ wts c arg9 arg10 arg11 w0 w1 w2 ∗ (∃ f, wr c arg12 f L11) ∗ (∃ f, wr c arg13 f L12) ∗ (∃ f, wr c arg14 f L13) ∗ (∃ f, wr c arg15 f L14)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10
    sl_exec (disch := first | sl_exact hc0 | sl_exact hc1 | sl_exact hc2 | sl_exact hc3 | sl_exact hc4)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8 H9 H10]
    · skip
      isplitl [H8]
      · iapply (own_back harg9 _); iexact H8
      isplitl [H9]
      · iapply (own_back harg10 _); iexact H9
      · iapply (own_back harg11 _); iexact H10
    isplitl [H11]
    · iexists _; iexact H11
    isplitl [H12]
    · iexists _; iexact H12
    isplitl [H13]
    · iexists _; iexact H13
    · iexists _; iexact H14

set_option maxHeartbeats 4000000 in
/-- The body at a later even tile: the tile before is finished, the next norm taken, this tile multiplied. -/
def RunEven (hc0 : ¬condL i) (hc1 : ¬condZ i) (hc2 : condP0 i) (hc3 : ¬condP1 i) (hc4 : ¬condE i) (ys : Vec F S512x1024 .f32) (hp : Vec F S512x1024 .bf16) :
    Σ' (L7 : List (View.Piece (Elt F) S512x1024 .f32)), Σ' (L11 : List (View.Piece (Elt F) S512x2816 .bf16)), Σ' (L12 : List (View.Piece (Elt F) S512x1024 .f32)), { L14 : List (View.Piece (Elt F) S512x1024 .bf16) //
      ∀ (E : Set ℕ) (K : PUnit → sProp 𝕄),
        iprop(ins c arg1 arg2 arg3 arg4 arg5 arg6 arg7 x0 x1 x2 x3 x4 x5 x6 ∗ (∃ d, own c arg8 d) ∗ wts c arg9 arg10 arg11 w0 w1 w2 ∗ (∃ d, own c arg12 d) ∗ own c arg13 ys ∗ own c arg14 hp ∗ (∃ d, own c arg15 d)
            ∗ (iprop(ins c arg1 arg2 arg3 arg4 arg5 arg6 arg7 x0 x1 x2 x3 x4 x5 x6 ∗ (∃ f, wr c arg8 f L7) ∗ wts c arg9 arg10 arg11 w0 w1 w2 ∗ (∃ f, wr c arg12 f L11) ∗ (∃ f, ⌜arg13.view.read (Elt F) f = ys⌝ ∗ wr c arg13 f L12) ∗ own c arg14 hp ∗ (∃ f, wr c arg15 f L14)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨⟨%f8, %hf8, H8⟩, ⟨%f9, %hf9, H9⟩, ⟨%f10, %hf10, H10⟩⟩, ⟨%d11, %f11, -, H11⟩, ⟨%f12, %hf12, H12⟩, ⟨%f13, %hf13, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg13.eq_unread hf12; obtain rfl := harg14.eq_unread hf13
    sl_exec (disch := first | sl_exact hc0 | sl_exact hc1 | sl_exact hc2 | sl_exact hc3 | sl_exact hc4)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8 H9 H10]
    · skip
      isplitl [H8]
      · iapply (own_back harg9 _); iexact H8
      isplitl [H9]
      · iapply (own_back harg10 _); iexact H9
      · iapply (own_back harg11 _); iexact H10
    isplitl [H11]
    · iexists _; iexact H11
    isplitl [H12]
    · iexists _; isplitr; swap; · iexact H12
      ipureintro; exact harg13.read_unread _
    isplitl [H13]
    · iapply (own_back harg14 _); iexact H13
    · iexists _; iexact H14

set_option maxHeartbeats 4000000 in
/-- The body at an odd tile: the same with the two norm buffers exchanged. -/
def RunOdd (hc0 : ¬condL i) (hc1 : ¬condZ i) (hc2 : ¬condP0 i) (hc3 : condP1 i) (hc4 : ¬condE i) (ys : Vec F S512x1024 .f32) (hp : Vec F S512x1024 .bf16) :
    Σ' (L7 : List (View.Piece (Elt F) S512x1024 .f32)), Σ' (L11 : List (View.Piece (Elt F) S512x2816 .bf16)), Σ' (L12 : List (View.Piece (Elt F) S512x1024 .f32)), { L13 : List (View.Piece (Elt F) S512x1024 .bf16) //
      ∀ (E : Set ℕ) (K : PUnit → sProp 𝕄),
        iprop(ins c arg1 arg2 arg3 arg4 arg5 arg6 arg7 x0 x1 x2 x3 x4 x5 x6 ∗ (∃ d, own c arg8 d) ∗ wts c arg9 arg10 arg11 w0 w1 w2 ∗ (∃ d, own c arg12 d) ∗ own c arg13 ys ∗ (∃ d, own c arg14 d) ∗ own c arg15 hp
            ∗ (iprop(ins c arg1 arg2 arg3 arg4 arg5 arg6 arg7 x0 x1 x2 x3 x4 x5 x6 ∗ (∃ f, wr c arg8 f L7) ∗ wts c arg9 arg10 arg11 w0 w1 w2 ∗ (∃ f, wr c arg12 f L11) ∗ (∃ f, ⌜arg13.view.read (Elt F) f = ys⌝ ∗ wr c arg13 f L12) ∗ (∃ f, wr c arg14 f L13) ∗ own c arg15 hp) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨⟨%f8, %hf8, H8⟩, ⟨%f9, %hf9, H9⟩, ⟨%f10, %hf10, H10⟩⟩, ⟨%d11, %f11, -, H11⟩, ⟨%f12, %hf12, H12⟩, ⟨%d13, %f13, -, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg13.eq_unread hf12; obtain rfl := harg15.eq_unread hf14
    sl_exec (disch := first | sl_exact hc0 | sl_exact hc1 | sl_exact hc2 | sl_exact hc3 | sl_exact hc4)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8 H9 H10]
    · skip
      isplitl [H8]
      · iapply (own_back harg9 _); iexact H8
      isplitl [H9]
      · iapply (own_back harg10 _); iexact H9
      · iapply (own_back harg11 _); iexact H10
    isplitl [H11]
    · iexists _; iexact H11
    isplitl [H12]
    · iexists _; isplitr; swap; · iexact H12
      ipureintro; exact harg13.read_unread _
    isplitl [H13]
    · iexists _; iexact H13
    · iapply (own_back harg15 _); iexact H14

set_option maxHeartbeats 4000000 in
/-- The body at the last point: the last tile is finished. -/
def RunLast (hc0 : ¬condL i) (hc1 : ¬condZ i) (hc2 : ¬condP0 i) (hc3 : ¬condP1 i) (hc4 : condE i) (ys : Vec F S512x1024 .f32) :
    { L7 : List (View.Piece (Elt F) S512x1024 .f32) //
      ∀ (E : Set ℕ) (K : PUnit → sProp 𝕄),
        iprop(ins c arg1 arg2 arg3 arg4 arg5 arg6 arg7 x0 x1 x2 x3 x4 x5 x6 ∗ (∃ d, own c arg8 d) ∗ wts c arg9 arg10 arg11 w0 w1 w2 ∗ (∃ d, own c arg12 d) ∗ own c arg13 ys ∗ (∃ d, own c arg14 d) ∗ (∃ d, own c arg15 d)
            ∗ (iprop(ins c arg1 arg2 arg3 arg4 arg5 arg6 arg7 x0 x1 x2 x3 x4 x5 x6 ∗ (∃ f, wr c arg8 f L7) ∗ wts c arg9 arg10 arg11 w0 w1 w2 ∗ (∃ d, own c arg12 d) ∗ own c arg13 ys ∗ (∃ d, own c arg14 d) ∗ (∃ d, own c arg15 d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold ins wts own wr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨⟨%f8, %hf8, H8⟩, ⟨%f9, %hf9, H9⟩, ⟨%f10, %hf10, H10⟩⟩, ⟨%d11, %f11, -, H11⟩, ⟨%f12, %hf12, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg13.eq_unread hf12
    sl_exec (disch := first | sl_exact hc0 | sl_exact hc1 | sl_exact hc2 | sl_exact hc3 | sl_exact hc4)
    sl_step
    iapply Hk
    isplitl [H0 H1 H2 H3 H4 H5 H6]
    · skip
      isplitl [H0]
      · iapply (own_back harg1 _); iexact H0
      isplitl [H1]
      · iapply (own_back harg2 _); iexact H1
      isplitl [H2]
      · iapply (own_back harg3 _); iexact H2
      isplitl [H3]
      · iapply (own_back harg4 _); iexact H3
      isplitl [H4]
      · iapply (own_back harg5 _); iexact H4
      isplitl [H5]
      · iapply (own_back harg6 _); iexact H5
      · iapply (own_back harg7 _); iexact H6
    isplitl [H7]
    · iexists _; iexact H7
    isplitl [H8 H9 H10]
    · skip
      isplitl [H8]
      · iapply (own_back harg9 _); iexact H8
      isplitl [H9]
      · iapply (own_back harg10 _); iexact H9
      · iapply (own_back harg11 _); iexact H10
    isplitl [H11]
    · iexists _, _; isplitr; swap; · iexact H11
      ipureintro; rfl
    isplitl [H12]
    · iapply (own_back harg13 _); iexact H12
    isplitl [H13]
    · iexists _, _; isplitr; swap; · iexact H13
      ipureintro; rfl
    · iexists _, _; isplitr; swap; · iexact H14
      ipureintro; rfl

end Cert.FfnEndIdeal.Hand

end
-- ==== Proof.FfnEndIdealData.lean ====
module

public import proofs.«01_k».proof.Proof.FfnEndIdealRun

@[expose] public section

set_option maxRecDepth 16384

noncomputable section

namespace Cert.FfnEndIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnEndIdeal Cert.FfnEndIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the weight scratches hold once loaded -/

/-- The gate weights: row `r` was stored at point `r / 256`. -/
def gateW (c : Dev nD) : Vec F S1024x2816 .bf16 := fun y =>
  have h : (y 0).val < 1024 := (y 0).isLt
  k0_pay85 (iblk m c 3 ⟨(y 0).val / 256, lt_of_lt_of_eq (b := 69) (by omega) N_0.symm⟩) (ix2 ⟨(y 0).val % 256, Nat.mod_lt _ (by decide)⟩ (y 1))
/-- The up weights, likewise. -/
def upW (c : Dev nD) : Vec F S1024x2816 .bf16 := fun y =>
  have h : (y 0).val < 1024 := (y 0).isLt
  k0_pay86 (iblk m c 4 ⟨(y 0).val / 256, lt_of_lt_of_eq (b := 69) (by omega) N_0.symm⟩) (ix2 ⟨(y 0).val % 256, Nat.mod_lt _ (by decide)⟩ (y 1))
/-- The down weights: row `r` was stored at point `r / 704`. -/
def downW (c : Dev nD) : Vec F S2816x1024 .bf16 := fun y =>
  have h : (y 0).val < 2816 := (y 0).isLt
  k0_pay87 (iblk m c 5 ⟨(y 0).val / 704, lt_of_lt_of_eq (b := 69) (by omega) N_0.symm⟩) (ix2 ⟨(y 0).val % 704, Nat.mod_lt _ (by decide)⟩ (y 1))

/-- Before point `n` the weight scratches hold the rows the points before stored. -/
structure Loaded (c : Dev nD) (n : ℕ) (d0 : Vec F S1024x2816 .bf16) (d1 : Vec F S1024x2816 .bf16) (d2 : Vec F S2816x1024 .bf16) : Prop where
  gate : ∀ y, (y 0).val < 256 * min n 4 → d0 y = gateW m c y
  up : ∀ y, (y 0).val < 256 * min n 4 → d1 y = upW m c y
  down : ∀ y, (y 0).val < 704 * min n 4 → d2 y = downW m c y

theorem Loaded.all {c : Dev nD} {n : ℕ} {d0 d1 d2} (h : Loaded m c n d0 d1 d2) (hn : 4 ≤ n) : d0 = gateW m c ∧ d1 = upW m c ∧ d2 = downW m c := by
  have e : min n 4 = 4 := by omega
  refine ⟨funext fun y => h.gate y ?_, funext fun y => h.up y ?_, funext fun y => h.down y ?_⟩
  · rw [e]; exact (y 0).isLt
  · rw [e]; exact (y 0).isLt
  · rw [e]; exact (y 0).isLt

section

variable (c : Dev nD) (t : Fin cfg0.N)

/-- The blocks of the inputs at a point. -/
abbrev insAt : sProp 𝕄 := ins c (ms0 t) (ms1 t) (ms2 t) (ms3 t) (ms4 t) (ms5 t) (ms6 t) (iblk m c 0 t) (iblk m c 1 t) (iblk m c 2 t) (iblk m c 3 t) (iblk m c 4 t) (iblk m c 5 t) (iblk m c 6 t)

section
variable (ht : t.val < 4) (d0 d1 : Vec F S1024x2816 .bf16) (d2 : Vec F S2816x1024 .bf16)
/-- The run of the body at a point, load. -/
abbrev rLoad :=
  RunLoad (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) d0 d1 d2 ((hcondL t).mpr (by omega)) (fun h => absurd ((hcondZ t).mp h) (by omega)) (fun h => absurd ((hcondP0 t).mp h) (by omega)) (fun h => absurd ((hcondP1 t).mp h) (by omega)) (fun h => absurd ((hcondE t).mp h) (by omega))
end

section
variable (ht : t.val = 4)
/-- The run of the body at a point, first. -/
abbrev rFirst :=
  RunFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) ((hcondZ t).mpr (by omega)) ((hcondP0 t).mpr (by omega)) (fun h => absurd ((hcondP1 t).mp h) (by omega)) (fun h => absurd ((hcondE t).mp h) (by omega))
/-- What first leaves of the residual stream. -/
def xFirst : Vec F S512x1024 .f32 := View.canon (rFirst m c t ht).1
theorem cover_xFirst (y : S512x1024.Idx) : ∃ pc ∈ (rFirst m c t ht).1, y ∈ pc.1.set :=
  View.cover_of_tiledL (rFirst m c t ht).1 S128x1024.size (by sl_kernel_rfl) y
/-- What first leaves of the product. -/
def yFirst : Vec F S512x1024 .f32 := View.canon (rFirst m c t ht).2.2.1
theorem cover_yFirst (y : S512x1024.Idx) : ∃ pc ∈ (rFirst m c t ht).2.2.1, y ∈ pc.1.set :=
  View.cover_of_tiledL (rFirst m c t ht).2.2.1 S512x1024.size (by sl_kernel_rfl) y
/-- What first leaves of the next tile's leading norm. -/
def nFirst : Vec F S512x1024 .bf16 := View.canon (rFirst m c t ht).2.2.2.2.1
theorem cover_nFirst (y : S512x1024.Idx) : ∃ pc ∈ (rFirst m c t ht).2.2.2.2.1, y ∈ pc.1.set :=
  View.cover_of_tiledL (rFirst m c t ht).2.2.2.2.1 S128x1024.size (by sl_kernel_rfl) y
end

section
variable (ht : 5 ≤ t.val ∧ t.val < 68 ∧ t.val % 2 = 0) (ys : Vec F S512x1024 .f32) (hp : Vec F S512x1024 .bf16)
/-- The run of the body at a point, even. -/
abbrev rEven :=
  RunEven (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) (fun h => absurd ((hcondZ t).mp h) (by omega)) ((hcondP0 t).mpr (by omega)) (fun h => absurd ((hcondP1 t).mp h) (by omega)) (fun h => absurd ((hcondE t).mp h) (by omega)) ys hp
/-- What even leaves of the residual stream. -/
def xEven : Vec F S512x1024 .f32 := View.canon (rEven m c t ht ys hp).1
theorem cover_xEven (y : S512x1024.Idx) : ∃ pc ∈ (rEven m c t ht ys hp).1, y ∈ pc.1.set :=
  View.cover_of_tiledL (rEven m c t ht ys hp).1 S128x1024.size (by sl_kernel_rfl) y
/-- What even leaves of the product. -/
def yEven : Vec F S512x1024 .f32 := View.canon (rEven m c t ht ys hp).2.2.1
theorem cover_yEven (y : S512x1024.Idx) : ∃ pc ∈ (rEven m c t ht ys hp).2.2.1, y ∈ pc.1.set :=
  View.cover_of_tiledL (rEven m c t ht ys hp).2.2.1 S512x1024.size (by sl_kernel_rfl) y
/-- What even leaves of the next tile's leading norm. -/
def nEven : Vec F S512x1024 .bf16 := View.canon (rEven m c t ht ys hp).2.2.2.1
theorem cover_nEven (y : S512x1024.Idx) : ∃ pc ∈ (rEven m c t ht ys hp).2.2.2.1, y ∈ pc.1.set :=
  View.cover_of_tiledL (rEven m c t ht ys hp).2.2.2.1 S128x1024.size (by sl_kernel_rfl) y
end

section
variable (ht : 5 ≤ t.val ∧ t.val < 68 ∧ t.val % 2 = 1) (ys : Vec F S512x1024 .f32) (hp : Vec F S512x1024 .bf16)
/-- The run of the body at a point, odd. -/
abbrev rOdd :=
  RunOdd (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) (fun h => absurd ((hcondZ t).mp h) (by omega)) (fun h => absurd ((hcondP0 t).mp h) (by omega)) ((hcondP1 t).mpr (by omega)) (fun h => absurd ((hcondE t).mp h) (by omega)) ys hp
/-- What odd leaves of the residual stream. -/
def xOdd : Vec F S512x1024 .f32 := View.canon (rOdd m c t ht ys hp).1
theorem cover_xOdd (y : S512x1024.Idx) : ∃ pc ∈ (rOdd m c t ht ys hp).1, y ∈ pc.1.set :=
  View.cover_of_tiledL (rOdd m c t ht ys hp).1 S128x1024.size (by sl_kernel_rfl) y
/-- What odd leaves of the product. -/
def yOdd : Vec F S512x1024 .f32 := View.canon (rOdd m c t ht ys hp).2.2.1
theorem cover_yOdd (y : S512x1024.Idx) : ∃ pc ∈ (rOdd m c t ht ys hp).2.2.1, y ∈ pc.1.set :=
  View.cover_of_tiledL (rOdd m c t ht ys hp).2.2.1 S512x1024.size (by sl_kernel_rfl) y
/-- What odd leaves of the next tile's leading norm. -/
def nOdd : Vec F S512x1024 .bf16 := View.canon (rOdd m c t ht ys hp).2.2.2.1
theorem cover_nOdd (y : S512x1024.Idx) : ∃ pc ∈ (rOdd m c t ht ys hp).2.2.2.1, y ∈ pc.1.set :=
  View.cover_of_tiledL (rOdd m c t ht ys hp).2.2.2.1 S128x1024.size (by sl_kernel_rfl) y
end

section
variable (ht : t.val = 68) (ys : Vec F S512x1024 .f32)
/-- The run of the body at a point, last. -/
abbrev rLast :=
  RunLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t) (iblk m c 5 t) (iblk m c 6 t) (gateW m c) (upW m c) (downW m c) (fun h => absurd ((hcondL t).mp h) (by omega)) (fun h => absurd ((hcondZ t).mp h) (by omega)) (fun h => absurd ((hcondP0 t).mp h) (by omega)) (fun h => absurd ((hcondP1 t).mp h) (by omega)) ((hcondE t).mpr (by omega)) ys
/-- What last leaves of the residual stream. -/
def xLast : Vec F S512x1024 .f32 := View.canon (rLast m c t ht ys).1
theorem cover_xLast (y : S512x1024.Idx) : ∃ pc ∈ (rLast m c t ht ys).1, y ∈ pc.1.set :=
  View.cover_of_tiledL (rLast m c t ht ys).1 S128x1024.size (by sl_kernel_rfl) y
end

end

/-- What the product scratch and the buffer of the next tile's norm hold after point `n`. -/
def stAt (c : Dev nD) : ℕ → Vec F S512x1024 .f32 × Vec F S512x1024 .bf16
  | 0 => (View.canon [], View.canon [])
  | n + 1 =>
    if h4 : n + 1 = 4 then (yFirst m c ⟨n + 1, lt_of_lt_of_eq (b := 69) (by omega) N_0.symm⟩ h4, nFirst m c ⟨n + 1, lt_of_lt_of_eq (b := 69) (by omega) N_0.symm⟩ h4)
    else if h5 : 5 ≤ n + 1 ∧ n + 1 < 68 ∧ (n + 1) % 2 = 0 then (yEven m c ⟨n + 1, lt_of_lt_of_eq (b := 69) (by omega) N_0.symm⟩ h5 (stAt c n).1 (stAt c n).2, nEven m c ⟨n + 1, lt_of_lt_of_eq (b := 69) (by omega) N_0.symm⟩ h5 (stAt c n).1 (stAt c n).2)
    else if h6 : 5 ≤ n + 1 ∧ n + 1 < 68 ∧ (n + 1) % 2 = 1 then (yOdd m c ⟨n + 1, lt_of_lt_of_eq (b := 69) (by omega) N_0.symm⟩ h6 (stAt c n).1 (stAt c n).2, nOdd m c ⟨n + 1, lt_of_lt_of_eq (b := 69) (by omega) N_0.symm⟩ h6 (stAt c n).1 (stAt c n).2)
    else (View.canon [], View.canon [])

theorem stAt_first (c : Dev nD) (t : Fin cfg0.N) (ht : t.val = 4) : stAt m c t.val = (yFirst m c t ht, nFirst m c t ht) := by
  obtain ⟨n, hn⟩ := t
  obtain rfl : n = 4 := ht
  exact dif_pos rfl

/-- The product and the norm the point before left. -/
abbrev yBefore (c : Dev nD) (t : Fin cfg0.N) := (stAt m c (t.val - 1)).1
abbrev nBefore (c : Dev nD) (t : Fin cfg0.N) := (stAt m c (t.val - 1)).2

theorem stAt_even (c : Dev nD) (t : Fin cfg0.N) (ht : 5 ≤ t.val ∧ t.val < 68 ∧ t.val % 2 = 0) : stAt m c t.val = (yEven m c t ht (yBefore m c t) (nBefore m c t), nEven m c t ht (yBefore m c t) (nBefore m c t)) := by
  obtain ⟨n, hn⟩ := t
  cases n with
  | zero => exact absurd ht.1 (by show ¬ 5 ≤ 0; omega)
  | succ n => exact (dif_neg (by have := ht.1; simp only at this; omega)).trans (dif_pos ht)

theorem stAt_odd (c : Dev nD) (t : Fin cfg0.N) (ht : 5 ≤ t.val ∧ t.val < 68 ∧ t.val % 2 = 1) : stAt m c t.val = (yOdd m c t ht (yBefore m c t) (nBefore m c t), nOdd m c t ht (yBefore m c t) (nBefore m c t)) := by
  obtain ⟨n, hn⟩ := t
  cases n with
  | zero => exact absurd ht.1 (by show ¬ 5 ≤ 0; omega)
  | succ n => exact (dif_neg (by have := ht.1; simp only at this; omega)).trans ((dif_neg (by have := ht.2.2; simp only at this; omega)).trans (dif_pos ht))

/-- What the body leaves of the residual stream at a point. -/
def xOut (c : Dev nD) (t : Fin cfg0.N) : Vec F S512x1024 .f32 :=
  if h4 : t.val = 4 then xFirst m c t h4
  else if h5 : 5 ≤ t.val ∧ t.val < 68 ∧ t.val % 2 = 0 then xEven m c t h5 (yBefore m c t) (nBefore m c t)
  else if h6 : 5 ≤ t.val ∧ t.val < 68 ∧ t.val % 2 = 1 then xOdd m c t h6 (yBefore m c t) (nBefore m c t)
  else if h7 : t.val = 68 then xLast m c t h7 (yBefore m c t)
  else View.canon []

theorem xOut_first (c : Dev nD) (t : Fin cfg0.N) (ht : t.val = 4) : xOut m c t = xFirst m c t ht := dif_pos ht
theorem xOut_even (c : Dev nD) (t : Fin cfg0.N) (ht : 5 ≤ t.val ∧ t.val < 68 ∧ t.val % 2 = 0) : xOut m c t = xEven m c t ht (yBefore m c t) (nBefore m c t) :=
  (dif_neg (by omega)).trans (dif_pos ht)
theorem xOut_odd (c : Dev nD) (t : Fin cfg0.N) (ht : 5 ≤ t.val ∧ t.val < 68 ∧ t.val % 2 = 1) : xOut m c t = xOdd m c t ht (yBefore m c t) (nBefore m c t) :=
  (dif_neg (by omega)).trans ((dif_neg (by omega)).trans (dif_pos ht))
theorem xOut_last (c : Dev nD) (t : Fin cfg0.N) (ht : t.val = 68) : xOut m c t = xLast m c t ht (yBefore m c t) :=
  (dif_neg (by omega)).trans ((dif_neg (by omega)).trans ((dif_neg (by omega)).trans (dif_pos ht)))

/-- The invariant before point `n`: the weights loaded so far, the hidden scratch at anything, the product the point before left, the norm it left in the buffer this point reads, the generator register at some state. -/
def Inv (c : Dev nD) (n : ℕ) : sProp 𝕄 :=
  iprop((∃ d0 d1 d2, ⌜Loaded m c n d0 d1 d2⌝ ∗ wts c sc0 sc1 sc2 d0 d1 d2)
    ∗ (∃ d, own c sc3 d) ∗ (∃ d, ⌜5 ≤ n → n ≤ 68 → d = (stAt m c (n - 1)).1⌝ ∗ own c sc4 d)
    ∗ (∃ d, ⌜5 ≤ n → n < 68 → n % 2 = 0 → d = (stAt m c (n - 1)).2⌝ ∗ own c sc5 d)
    ∗ (∃ d, ⌜5 ≤ n → n < 68 → n % 2 = 1 → d = (stAt m c (n - 1)).2⌝ ∗ own c sc6 d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => xOut m c t
  Φ t := Inv m c t.val
  q w := Pipeline.shareOf spec0 w
  owed _ := 0

variable (c : Dev nD) (t : Fin cfg0.N)

theorem A_eq (w : Fin cfg0.W) : (dats m 0 c).A w = V m c (Pipeline.arrRef spec0 w) := by dsimp only [dats]
theorem after_0 : (dats m 0 c).after 0 t = iblk m c 0 t := by dsimp only [dats]
theorem before_0 (d) : (dats m 0 c).before 0 t d = iblk m c 0 t := before0_0_of m (dats m 0 c) (A_eq m c 0) (after_0 m c) t d
theorem leaves_0 : (dats m 0 c).leavesExact 0 t = own c (ms0 t) (iblk m c 0 t) := by rw [← after_0]
theorem after_1 : (dats m 0 c).after 1 t = iblk m c 1 t := by dsimp only [dats]
theorem before_1 (d) : (dats m 0 c).before 1 t d = iblk m c 1 t := before0_1_of m (dats m 0 c) (A_eq m c 1) (after_1 m c) t d
theorem leaves_1 : (dats m 0 c).leavesExact 1 t = own c (ms1 t) (iblk m c 1 t) := by rw [← after_1]
theorem after_2 : (dats m 0 c).after 2 t = iblk m c 2 t := by dsimp only [dats]
theorem before_2 (d) : (dats m 0 c).before 2 t d = iblk m c 2 t := before0_2_of m (dats m 0 c) (A_eq m c 2) (after_2 m c) t d
theorem leaves_2 : (dats m 0 c).leavesExact 2 t = own c (ms2 t) (iblk m c 2 t) := by rw [← after_2]
theorem after_3 : (dats m 0 c).after 3 t = iblk m c 3 t := by dsimp only [dats]
theorem before_3 (d) : (dats m 0 c).before 3 t d = iblk m c 3 t := before0_3_of m (dats m 0 c) (A_eq m c 3) (after_3 m c) t d
theorem leaves_3 : (dats m 0 c).leavesExact 3 t = own c (ms3 t) (iblk m c 3 t) := by rw [← after_3]
theorem after_4 : (dats m 0 c).after 4 t = iblk m c 4 t := by dsimp only [dats]
theorem before_4 (d) : (dats m 0 c).before 4 t d = iblk m c 4 t := before0_4_of m (dats m 0 c) (A_eq m c 4) (after_4 m c) t d
theorem leaves_4 : (dats m 0 c).leavesExact 4 t = own c (ms4 t) (iblk m c 4 t) := by rw [← after_4]
theorem after_5 : (dats m 0 c).after 5 t = iblk m c 5 t := by dsimp only [dats]
theorem before_5 (d) : (dats m 0 c).before 5 t d = iblk m c 5 t := before0_5_of m (dats m 0 c) (A_eq m c 5) (after_5 m c) t d
theorem leaves_5 : (dats m 0 c).leavesExact 5 t = own c (ms5 t) (iblk m c 5 t) := by rw [← after_5]
theorem after_6 : (dats m 0 c).after 6 t = iblk m c 6 t := by dsimp only [dats]
theorem before_6 (d) : (dats m 0 c).before 6 t d = iblk m c 6 t := before0_6_of m (dats m 0 c) (A_eq m c 6) (after_6 m c) t d
theorem leaves_6 : (dats m 0 c).leavesExact 6 t = own c (ms6 t) (iblk m c 6 t) := by rw [← after_6]
theorem after_7 : (dats m 0 c).after 7 t = xOut m c t := by dsimp only [dats]
theorem leaves_7 (ht : 4 ≤ t.val) : (dats m 0 c).leavesExact 7 t = own c (ms7 t) (xOut m c t) := by
  unfold Dat.leavesExact; rw [idleOut7 t, decide_eq_false (by omega), after_7]
theorem leaves_7_idle (ht : t.val < 4) : (dats m 0 c).leavesExact 7 t = iprop(∃ d, own c (ms7 t) ((dats m 0 c).before 7 t d)) :=
  (dats m 0 c).leavesExact_idle 7 t ((idleOut7 t).trans (decide_eq_true ht)) (flushOut7 t ht)
theorem before_7_idle (ht : t.val < 4) (d) : (dats m 0 c).before 7 t d = d := by
  rw [(dats m 0 c).before_idle_run 7 ((cfg0.win 7).fetch_out rfl) d t.val t le_rfl
    (fun j _ hj => ⟨(idleOut7 j).trans (decide_eq_true (by omega)), flushOut7 j (by omega)⟩)]
  unfold Dat.before
  rw [if_neg (by rw [(cfg0.win 7).fetch_out rfl]; exact Bool.false_ne_true), if_pos (Nat.sub_self _)]

end Cert.FfnEndIdeal.Hand

end
-- ==== Proof.FfnEndIdealFrame.lean ====
module

public import proofs.«01_k».proof.Proof.FfnEndIdealData
public import proofs.«01_k».proof.Proof.FfnSlice

@[expose] public section

set_option maxRecDepth 16384

noncomputable section

namespace Cert.FfnEndIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnEndIdeal Cert.FfnEndIdeal.Gen

variable {F : FTy → Type} [FloatOps F]

local notation "𝕄" => MT nD τ sig Unit (Elt F) ℕ (UR sig nD τ) ℕ

open Cert.FfnSlice

variable (m : (ℓ : Loc nD τ sig) → Buf (Elt F) ℓ) (ρ : Dev nD → PrngReg)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it has to leave. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The inputs hold their blocks. -/
theorem split_pre (c : Dev nD) (t : Fin cfg0.N) : bodyPre m c t ⊢ iprop(Inv m c t.val ∗ (dats m 0 c).owesAt () t.castSucc ∗ insAt m c t
    ∗ (∃ d, own c (ms7 t) ((dats m 0 c).before 7 t d))) := by
  unfold bodyPre insAt ins
  simp only [before_0, before_1, before_2, before_3, before_4, before_5, before_6]
  rw [show (dats m 0 c).Φ t.castSucc = Inv m c t.val from rfl]
  iintro ⟨Hi, Ho, ⟨%e0, H0⟩, ⟨%e1, H1⟩, ⟨%e2, H2⟩, ⟨%e3, H3⟩, ⟨%e4, H4⟩, ⟨%e5, H5⟩, ⟨%e6, H6⟩, HX⟩
  iframe Hi Ho H0 H1 H2 H3 H4 H5 H6 HX

theorem join_post (c : Dev nD) (t : Fin cfg0.N) : iprop(Inv m c (t.val + 1) ∗ (dats m 0 c).owesAt () t.castSucc ∗ insAt m c t
    ∗ (dats m 0 c).leavesExact 7 t) ⊢ bodyPost m c t := by
  unfold bodyPost insAt ins
  rw [show (dats m 0 c).owesAt () t.succ = (dats m 0 c).owesAt () t.castSucc from rfl, show (dats m 0 c).Φ t.succ = Inv m c (t.val + 1) from rfl]
  rw [leaves_0 m c t, leaves_1 m c t, leaves_2 m c t, leaves_3 m c t, leaves_4 m c t, leaves_5 m c t, leaves_6 m c t]
  iintro ⟨Hi, Ho, ⟨H0, H1, H2, H3, H4, H5, H6⟩, HX⟩
  iframe Hi Ho H0 H1 H2 H3 H4 H5 H6 HX

theorem gate_step (c : Dev nD) (t : Fin cfg0.N) (ht : t.val < 4) (x : S256x2816.Idx) (y : S1024x2816.Idx) (h0 : (y 0).val = 256 * t.val + (x 0).val) (h1 : (y 1).val = (x 1).val) :
    k0_pay85 (iblk m c 3 t) x = gateW m c y := by
  have hx : (x 0).val < 256 := (x 0).isLt
  have key : ∀ (t' : Fin cfg0.N) (x' : S256x2816.Idx), t' = t → x' = x → k0_pay85 (iblk m c 3 t) x = k0_pay85 (iblk m c 3 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem up_step (c : Dev nD) (t : Fin cfg0.N) (ht : t.val < 4) (x : S256x2816.Idx) (y : S1024x2816.Idx) (h0 : (y 0).val = 256 * t.val + (x 0).val) (h1 : (y 1).val = (x 1).val) :
    k0_pay86 (iblk m c 4 t) x = upW m c y := by
  have hx : (x 0).val < 256 := (x 0).isLt
  have key : ∀ (t' : Fin cfg0.N) (x' : S256x2816.Idx), t' = t → x' = x → k0_pay86 (iblk m c 4 t) x = k0_pay86 (iblk m c 4 t') x' := by
    rintro _ _ rfl rfl; rfl
  refine key _ _ (Fin.ext (by show (y 0).val / 256 = t.val; omega)) (funext fun a => ?_)
  fin_cases a
  · exact Fin.ext (by show (y 0).val % 256 = (x 0).val; omega)
  · exact Fin.ext h1
theorem down_step (c : Dev nD) (t : Fin cfg0.N) (ht : t.val < 4) (x : S704x1024.Idx) (y : S2816x1024.Idx) (h0 : (y 0).val = 704 * t.val + (x 0).val) (h1 : (y 1).val = (x 1).val) :
    k0_pay87 (iblk m c 5 t) x = downW m c y := by
  have hx : (x 0).val < 704 := (x 0).isLt
  have key : ∀ (t' : Fin cfg0.N) (x' : S704x1024.Idx), t' = t → x' = x → k0_pay87 (iblk m c 5 t) x = k0_pay87 (iblk m c 5 t') x' := by
    rintro _ _ rfl rfl; rfl
  refine key _ _ (Fin.ext (by show (y 0).val / 704 = t.val; omega)) (funext fun a => ?_)
  fin_cases a
  · exact Fin.ext (by show (y 0).val % 704 = (x 0).val; omega)
  · exact Fin.ext h1

variable (d0 d1 : Vec F S1024x2816 .bf16) (d2 : Vec F S2816x1024 .bf16)

/-- A loading point's stores: the slice of each weight. -/
theorem pieces_gate (c : Dev nD) (t : Fin cfg0.N) (ht : t.val < 4) :
    (rLoad m c t ht d0 d1 d2).1 = [⟨Rect.unit (s := S1024x2816) (k0_off1 (grid0.coords t)) S256x2816.size (k0_off1_inb (grid0.coords t) ((hcondL t).mpr ht)), k0_pay85 (iblk m c 3 t)⟩] := by
  unfold rLoad; frame_out
theorem pieces_up (c : Dev nD) (t : Fin cfg0.N) (ht : t.val < 4) :
    (rLoad m c t ht d0 d1 d2).2.1 = [⟨Rect.unit (s := S1024x2816) (k0_off1 (grid0.coords t)) S256x2816.size (k0_off1_inb (grid0.coords t) ((hcondL t).mpr ht)), k0_pay86 (iblk m c 4 t)⟩] := by
  unfold rLoad; frame_out
theorem pieces_down (c : Dev nD) (t : Fin cfg0.N) (ht : t.val < 4) :
    (rLoad m c t ht d0 d1 d2).2.2.1 = [⟨Rect.unit (s := S2816x1024) (k0_off2 (grid0.coords t)) S704x1024.size (k0_off2_inb (grid0.coords t) ((hcondL t).mpr ht)), k0_pay87 (iblk m c 5 t)⟩] := by
  unfold rLoad; frame_out

theorem Loaded.step (c : Dev nD) (t : Fin cfg0.N) (ht : t.val < 4) (h : Loaded m c t.val d0 d1 d2)
    (f0 : (sc0.view).ty.Contents (Elt F)) (f1 : (sc1.view).ty.Contents (Elt F)) (f2 : (sc2.view).ty.Contents (Elt F))
    (h0 : sc0.view.read (Elt F) f0 = d0) (h1 : sc1.view.read (Elt F) f1 = d1) (h2 : sc2.view.read (Elt F) f2 = d2) :
    Loaded m c (t.val + 1) (sc0.view.read (Elt F) (sc0.view.writes (Elt F) f0 (rLoad m c t ht d0 d1 d2).1)) (sc1.view.read (Elt F) (sc1.view.writes (Elt F) f1 (rLoad m c t ht d0 d1 d2).2.1)) (sc2.view.read (Elt F) (sc2.view.writes (Elt F) f2 (rLoad m c t ht d0 d1 d2).2.2.1)) := by
  have e : min t.val 4 = t.val := by omega
  have e' : min (t.val + 1) 4 = t.val + 1 := by omega
  refine ⟨fun y hy => ?_, fun y hy => ?_, fun y hy => ?_⟩
  · rw [e'] at hy; rw [pieces_gate m d0 d1 d2 c t ht]
    exact slice_step (size := S256x2816.size) _ _ _ _ t.val 256 d0 (gateW m c) h0 (offGate t ht) rfl rfl (gate_step m c t ht) (by have := h.gate; rwa [e] at this) y hy
  · rw [e'] at hy; rw [pieces_up m d0 d1 d2 c t ht]
    exact slice_step (size := S256x2816.size) _ _ _ _ t.val 256 d1 (upW m c) h1 (offGate t ht) rfl rfl (up_step m c t ht) (by have := h.up; rwa [e] at this) y hy
  · rw [e'] at hy; rw [pieces_down m d0 d1 d2 c t ht]
    exact slice_step (size := S704x1024.size) _ _ _ _ t.val 704 d2 (downW m c) h2 (offDown t ht) rfl rfl (down_step m c t ht) (by have := h.down; rwa [e] at this) y hy

theorem Loaded.keep (c : Dev nD) (n : ℕ) (hn : 4 ≤ n) : Loaded m c n (gateW m c) (upW m c) (downW m c) := ⟨fun _ _ => rfl, fun _ _ => rfl, fun _ _ => rfl⟩

set_option maxHeartbeats 9600000 in
/-- The body at a loading point. -/
theorem body_load (c : Dev nD) (t : Fin cfg0.N) (ht : t.val < 4) :
    bodyPre m c t ⊢ wp frame (wpE (defs₀ (F := F)) Variants.none c none) Set.univ (bodyAt0 t) (fun _ => bodyPost m c t) := by
  refine (split_pre m c t).trans ?_
  unfold bodyAt0
  simp only [before_7_idle m c t ht]
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e7, H7⟩⟩
  iapply ((rLoad m c t ht d0 d1 d2).2.2.2 Set.univ _)
  isplitl [HI]; · iexact HI
  isplitl [H7]; · iexists _; iexact H7
  isplitl [HW]; · iexact HW
  isplitl [HS3]; · iexists _; iexact HS3
  isplitl [HS4]; · iexists _; iexact HS4
  isplitl [HS5]; · iexists _; iexact HS5
  isplitl [HS6]; · iexists _; iexact HS6
  iintro ⟨HI, H7, ⟨%f0, %hf0, HS0⟩, ⟨%f1, %hf1, HS1⟩, ⟨%f2, %hf2, HS2⟩, HS3, ⟨%dy', HS4⟩, ⟨%dp', HS5⟩, ⟨%dq', HS6⟩⟩
  iapply (join_post m c t)
  isplitl [HS0 HS1 HS2 HS3 HS4 HS5 HS6 Hg]
  · unfold Inv
    isplitl [HS0 HS1 HS2]
    · iexists _, _, _
      isplitr
      · ipureintro; exact Loaded.step m d0 d1 d2 c t ht hl f0 f1 f2 hf0 hf1 hf2
      unfold wts
      isplitl [HS0]; · iapply (own_read _); iexact HS0
      isplitl [HS1]; · iapply (own_read _); iexact HS1
      iapply (own_read _); iexact HS2
    isplitl [HS3]; · iexact HS3
    isplitl [HS4]
    · iexists _; isplitr
      swap
      · iexact HS4
      ipureintro; intro h5 _; exact absurd h5 (by omega)
    isplitl [HS5]
    · iexists _; isplitr
      swap
      · iexact HS5
      ipureintro; intro h5 _ _; exact absurd h5 (by omega)
    isplitl [HS6]
    · iexists _; isplitr
      swap
      · iexact HS6
      ipureintro; intro h5 _ _; exact absurd h5 (by omega)
    iexact Hg
  isplitl [Ho]; · iexact Ho
  isplitl [HI]; · iexact HI
  rw [leaves_7_idle m c t ht]; simp only [before_7_idle m c t ht]; iexact H7

set_option maxHeartbeats 9600000 in
/-- The body at the first tile's point. -/
theorem body_first (c : Dev nD) (t : Fin cfg0.N) (ht : t.val = 4) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e7, H7⟩⟩
  obtain ⟨rfl, rfl, rfl⟩ := hl.all m (by omega)
  iapply ((rFirst m c t ht).2.2.2.2.2 Set.univ _)
  isplitl [HI]; · iexact HI
  isplitl [H7]; · iexists _; iexact H7
  isplitl [HW]; · iexact HW
  isplitl [HS3]; · iexists _; iexact HS3
  isplitl [HS4]; · iexists _; iexact HS4
  isplitl [HS5]; · iexists _; iexact HS5
  isplitl [HS6]; · iexists _; iexact HS6
  iintro ⟨HI, ⟨%g7, H7⟩, HW, ⟨%g3, HS3⟩, ⟨%g4, HS4⟩, ⟨%g5, HS5⟩, ⟨%g6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yFirst m c t ht)).trans ?_
      rw [Nat.add_sub_cancel, stAt_first m c t ht]
      rfl
    isplitl [HS5]
    · iexists _; isplitr
      swap
      · iapply (own_read _); iexact HS5
      ipureintro; exact fun _ _ h => absurd h (by omega)
    isplitl [HS6]
    · iexists _; isplitr
      swap
      · iapply (own_read _); iexact HS6
      ipureintro; intro _ _ _
      refine (View.read_writes_eq_canon _ _ _ (cover_nFirst m c t ht)).trans ?_
      rw [Nat.add_sub_cancel, stAt_first m c t ht]
      rfl
    iexact Hg
  isplitl [Ho]; · iexact Ho
  isplitl [HI]; · iexact HI
  rw [leaves_7 m c t (by omega), xOut_first m c t ht]; unfold own owns; iexists _; isplitr
  swap; · iexact H7
  ipureintro; exact View.read_writes_eq_canon _ _ _ (cover_xFirst m c t ht)

set_option maxHeartbeats 9600000 in
/-- The body at a later even tile. -/
theorem body_even (c : Dev nD) (t : Fin cfg0.N) (ht : 5 ≤ t.val ∧ t.val < 68 ∧ t.val % 2 = 0) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e7, H7⟩⟩
  obtain ⟨rfl, rfl, rfl⟩ := hl.all m (by omega)
  obtain rfl := hy (by omega) (by omega)
  obtain rfl := hp (by omega) (by omega) (by omega)
  iapply ((rEven m c t ht (yBefore m c t) (nBefore m c t)).2.2.2.2 Set.univ _)
  isplitl [HI]; · iexact HI
  isplitl [H7]; · iexists _; iexact H7
  isplitl [HW]; · iexact HW
  isplitl [HS3]; · iexists _; iexact HS3
  isplitl [HS4]; · iexact HS4
  isplitl [HS5]; · iexact HS5
  isplitl [HS6]; · iexists _; iexact HS6
  iintro ⟨HI, ⟨%g7, H7⟩, HW, ⟨%g3, HS3⟩, ⟨%g4, %hg4, HS4⟩, HS5, ⟨%g6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yEven m c t ht (yBefore m c t) (nBefore m c t))).trans ?_
      rw [Nat.add_sub_cancel, stAt_even m c t ht]
      rfl
    isplitl [HS5]
    · iexists _; isplitr
      swap
      · iexact HS5
      ipureintro; exact fun _ _ h => absurd h (by omega)
    isplitl [HS6]
    · iexists _; isplitr
      swap
      · iapply (own_read _); iexact HS6
      ipureintro; intro _ _ _
      refine (View.read_writes_eq_canon _ _ _ (cover_nEven m c t ht (yBefore m c t) (nBefore m c t))).trans ?_
      rw [Nat.add_sub_cancel, stAt_even m c t ht]
      rfl
    iexact Hg
  isplitl [Ho]; · iexact Ho
  isplitl [HI]; · iexact HI
  rw [leaves_7 m c t (by omega), xOut_even m c t ht]; unfold own owns; iexists _; isplitr
  swap; · iexact H7
  ipureintro; exact View.read_writes_eq_canon _ _ _ (cover_xEven m c t ht (yBefore m c t) (nBefore m c t))

set_option maxHeartbeats 9600000 in
/-- The body at an odd tile. -/
theorem body_odd (c : Dev nD) (t : Fin cfg0.N) (ht : 5 ≤ t.val ∧ t.val < 68 ∧ t.val % 2 = 1) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e7, H7⟩⟩
  obtain ⟨rfl, rfl, rfl⟩ := hl.all m (by omega)
  obtain rfl := hy (by omega) (by omega)
  obtain rfl := hq (by omega) (by omega) (by omega)
  iapply ((rOdd m c t ht (yBefore m c t) (nBefore m c t)).2.2.2.2 Set.univ _)
  isplitl [HI]; · iexact HI
  isplitl [H7]; · iexists _; iexact H7
  isplitl [HW]; · iexact HW
  isplitl [HS3]; · iexists _; iexact HS3
  isplitl [HS4]; · iexact HS4
  isplitl [HS5]; · iexists _; iexact HS5
  isplitl [HS6]; · iexact HS6
  iintro ⟨HI, ⟨%g7, H7⟩, HW, ⟨%g3, HS3⟩, ⟨%g4, %hg4, HS4⟩, ⟨%g5, HS5⟩, HS6⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]
    · iexists _; iapply (own_read _); iexact HS3
    isplitl [HS4]
    · iexists _; isplitr
      swap
      · iapply (own_read _); iexact HS4
      ipureintro; intro _ _
      refine (View.read_writes_eq_canon _ _ _ (cover_yOdd m c t ht (yBefore m c t) (nBefore m c t))).trans ?_
      rw [Nat.add_sub_cancel, stAt_odd m c t ht]
      rfl
    isplitl [HS5]
    · iexists _; isplitr
      swap
      · iapply (own_read _); iexact HS5
      ipureintro; intro _ _ _
      refine (View.read_writes_eq_canon _ _ _ (cover_nOdd m c t ht (yBefore m c t) (nBefore m c t))).trans ?_
      rw [Nat.add_sub_cancel, stAt_odd m c t ht]
      rfl
    isplitl [HS6]
    · iexists _; isplitr
      swap
      · iexact HS6
      ipureintro; exact fun _ _ h => absurd h (by omega)
    iexact Hg
  isplitl [Ho]; · iexact Ho
  isplitl [HI]; · iexact HI
  rw [leaves_7 m c t (by omega), xOut_odd m c t ht]; unfold own owns; iexists _; isplitr
  swap; · iexact H7
  ipureintro; exact View.read_writes_eq_canon _ _ _ (cover_xOdd m c t ht (yBefore m c t) (nBefore m c t))

set_option maxHeartbeats 9600000 in
/-- The body at the last point. -/
theorem body_last (c : Dev nD) (t : Fin cfg0.N) (ht : t.val = 68) :
    bodyPre m c t ⊢ wp frame (wpE (defs₀ (F := F)) Variants.none c none) Set.univ (bodyAt0 t) (fun _ => bodyPost m c t) := by
  refine (split_pre m c t).trans ?_
  unfold bodyAt0
  unfold Inv
  iintro ⟨⟨⟨%d0, %d1, %d2, %hl, HW⟩, ⟨%d3, HS3⟩, ⟨%dy, %hy, HS4⟩, ⟨%dp, %hp, HS5⟩, ⟨%dq, %hq, HS6⟩, Hg⟩, Ho, HI, ⟨%e7, H7⟩⟩
  obtain ⟨rfl, rfl, rfl⟩ := hl.all m (by omega)
  obtain rfl := hy (by omega) (by omega)
  iapply ((rLast m c t ht (yBefore m c t)).2 Set.univ _)
  isplitl [HI]; · iexact HI
  isplitl [H7]; · iexists _; iexact H7
  isplitl [HW]; · iexact HW
  isplitl [HS3]; · iexists _; iexact HS3
  isplitl [HS4]; · iexact HS4
  isplitl [HS5]; · iexists _; iexact HS5
  isplitl [HS6]; · iexists _; iexact HS6
  iintro ⟨HI, ⟨%g7, H7⟩, HW, HS3, HS4, ⟨%d5, HS5⟩, ⟨%d6, HS6⟩⟩
  iapply (join_post m c t)
  isplitl [HW HS3 HS4 HS5 HS6 Hg]
  · unfold Inv
    isplitl [HW]
    · iexists _, _, _
      isplitr
      · ipureintro; exact Loaded.keep m c (t.val + 1) (by omega)
      iexact HW
    isplitl [HS3]; · iexact HS3
    isplitl [HS4]
    · iexists _; isplitr
      swap
      · iexact HS4
      ipureintro; exact fun _ h => absurd h (by omega)
    isplitl [HS5]
    · iexists _; isplitr
      swap
      · iexact HS5
      ipureintro; exact fun _ h => absurd h (by omega)
    isplitl [HS6]
    · iexists _; isplitr
      swap
      · iexact HS6
      ipureintro; exact fun _ h => absurd h (by omega)
    iexact Hg
  isplitl [Ho]; · iexact Ho
  isplitl [HI]; · iexact HI
  rw [leaves_7 m c t (by omega), xOut_last m c t ht]; unfold own owns; iexists _; isplitr
  swap; · iexact H7
  ipureintro; exact View.read_writes_eq_canon _ _ _ (cover_xLast m c t ht (yBefore m c t))

theorem sound_body (c : Dev nD) (t : Fin cfg0.N) :
    bodyPre m c t ⊢ wp frame (wpE (defs₀ (F := F)) Variants.none c none) Set.univ (bodyAt0 t) (fun _ => bodyPost m c t) := by
  have hN : t.val < 69 := lt_of_lt_of_eq t.isLt N_0
  by_cases h4 : t.val < 4
  · exact body_load m c t h4
  by_cases h5 : t.val = 4
  · exact body_first m c t h5
  by_cases h6 : t.val < 68
  · rcases Nat.mod_two_eq_zero_or_one t.val with h7 | h7
    · exact body_even m c t ⟨by omega, h6, h7⟩
    · exact body_odd m c t ⟨by omega, h6, h7⟩
  · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, launchInv_eq]
  unfold Inv wts
  iintro ⟨⟨⟨%d0, HS0⟩, ⟨%d1, HS1⟩, ⟨%d2, HS2⟩, HS3, ⟨%d4, HS4⟩, ⟨%d5, HS5⟩, ⟨%d6, HS6⟩⟩, Hg⟩
  isplitl [HS0 HS1 HS2]
  · iexists _, _, _
    isplitr
    swap
    · iframe HS0 HS1 HS2
    ipureintro
    exact ⟨fun y h => absurd h (by simp), fun y h => absurd h (by simp), fun y h => absurd h (by simp)⟩
  isplitl [HS3]; · iexact HS3
  isplitl [HS4]
  · iexists _; isplitr
    swap; · iexact HS4
    ipureintro; exact fun h _ => absurd h (by omega)
  isplitl [HS5]
  · iexists _; isplitr
    swap; · iexact HS5
    ipureintro; exact fun h _ _ => absurd h (by omega)
  isplitl [HS6]
  · iexists _; isplitr
    swap; · iexact HS6
    ipureintro; exact fun h _ _ => absurd h (by omega)
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, launchInv_eq]
  unfold Inv wts
  iintro ⟨⟨%d0, %d1, %d2, %hl, HS0, HS1, HS2⟩, HS3, ⟨%dy, %hy, HS4⟩, ⟨%dp, %hp, HS5⟩, ⟨%dq, %hq, HS6⟩, Hg⟩
  isplitl [HS0 HS1 HS2 HS3 HS4 HS5 HS6]
  · skip
    isplitl [HS0]; · iexists _; iexact HS0
    isplitl [HS1]; · iexists _; iexact HS1
    isplitl [HS2]; · iexists _; iexact HS2
    isplitl [HS3]; · iexact HS3
    isplitl [HS4]; · iexists _; iexact HS4
    isplitl [HS5]; · iexists _; iexact HS5
    iexists _; iexact HS6
  iexact Hg

set_option backward.isDefEq.respectTransparency.types false in
/-- The launch: the arrays end as the library computes them from the data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnEndIdeal.Hand

end
-- ==== Proof.FfnEndPoint.lean ====
module

public import proofs.«01_k».proof.Proof.FfnEndIdealData
public import proofs.«01_k».proof.Proof.FfnPrePure

@[expose] public section

set_option maxRecDepth 16384

noncomputable section

open Idealize.ShloMosaic Idealize.ShloMosaic.TcCoe Idealize.SL.Sem
open Idealize.ShloMosaic.Pipeline (Dat)

namespace Cert.FfnEndIdeal.Value

open Cert.FfnEndIdeal Cert.FfnEndIdeal.Gen Cert.FfnEndIdeal.Hand
open Cert.FfnPreIdeal.Value (normL_eq normBack normBack_eq readCov_whole)
open Cert.FfnIdeal.Value (xG hG rowsL_x hidG outG pay6_eq pay22_id Filled Filled.hid Filled.corner Filled.nil Filled.canon)

variable (m : (ℓ : Loc nD τ sig) → Buf (Elt Ideal) ℓ)

theorem idx : ∀ t : Fin cfg0.N, win0_0.index t = ![min (t.val - 3) 63, 0] ∧ win0_1.index t = ![min (t.val - 5) 63, 0] ∧ win0_2.index t = ![0, 0, 0]
    ∧ win0_3.index t = ![0, min t.val 3, 0] ∧ win0_4.index t = ![0, min t.val 3, 0] ∧ win0_5.index t = ![0, min t.val 3, 0]
    ∧ win0_6.index t = ![0, 0, 0] ∧ win0_7.index t = ![min (t.val - 5) 63, 0] :=
  (by decide +kernel : ∀ t : Fin grid0.N, _)

theorem flush_x : ∀ t : Fin cfg0.N, (cfg0.win 7).flush t = true → 5 ≤ t.val :=
  (by decide +kernel : ∀ t : Fin grid0.N, _)

theorem covers_x : (cfg0.win 7).Covers := by decide +kernel

theorem xEven_eq (c : Dev nD) (t : Fin cfg0.N) (ht : 5 ≤ t.val ∧ t.val < 68 ∧ t.val % 2 = 0) (ys : Vec Ideal S512x1024 .f32) (hp : Vec Ideal S512x1024 .bf16) : xEven m c t ht ys hp = xG (iblk m c 6 t) ys (iblk m c 1 t) := by
  unfold xEven rEven
  frame_out
  simp only [read_unread_whole]
  exact rowsL_x _ _ _ _ _ _ _ rfl rfl rfl rfl

theorem xOdd_eq (c : Dev nD) (t : Fin cfg0.N) (ht : 5 ≤ t.val ∧ t.val < 68 ∧ t.val % 2 = 1) (ys : Vec Ideal S512x1024 .f32) (hp : Vec Ideal S512x1024 .bf16) : xOdd m c t ht ys hp = xG (iblk m c 6 t) ys (iblk m c 1 t) := by
  unfold xOdd rOdd
  frame_out
  simp only [read_unread_whole]
  exact rowsL_x _ _ _ _ _ _ _ rfl rfl rfl rfl

theorem xLast_eq (c : Dev nD) (t : Fin cfg0.N) (ht : t.val = 68) (ys : Vec Ideal S512x1024 .f32) : xLast m c t ht ys = xG (iblk m c 6 t) ys (iblk m c 1 t) := by
  unfold xLast rLast
  frame_out
  simp only [read_unread_whole]
  exact rowsL_x _ _ _ _ _ _ _ rfl rfl rfl rfl

theorem nFirst_eq (c : Dev nD) (t : Fin cfg0.N) (ht : t.val = 4)  : nFirst m c t ht = hG (n := 512) (iblk m c 2 t) (iblk m c 0 t) := by
  unfold nFirst rFirst
  frame_out
  exact normL_eq _ _

theorem nEven_eq (c : Dev nD) (t : Fin cfg0.N) (ht : 5 ≤ t.val ∧ t.val < 68 ∧ t.val % 2 = 0) (ys : Vec Ideal S512x1024 .f32) (hp : Vec Ideal S512x1024 .bf16) : nEven m c t ht ys hp = hG (n := 512) (iblk m c 2 t) (iblk m c 0 t) := by
  unfold nEven rEven
  frame_out
  exact normL_eq _ _

theorem nOdd_eq (c : Dev nD) (t : Fin cfg0.N) (ht : 5 ≤ t.val ∧ t.val < 68 ∧ t.val % 2 = 1) (ys : Vec Ideal S512x1024 .f32) (hp : Vec Ideal S512x1024 .bf16) : nOdd m c t ht ys hp = hG (n := 512) (iblk m c 2 t) (iblk m c 0 t) := by
  unfold nOdd rOdd
  frame_out
  exact normL_eq _ _

/-- The product of a tile whose normalised rows are `h`. -/
abbrev prodG (c : Dev nD) (h : Vec Ideal S512x1024 .bf16) : S512x1024.Idx → Elt Ideal .f32 := outG (hidG h (gateW m c) (upW m c)) (downW m c)

theorem prod_of (c : Dev nD) (h : Vec Ideal S512x1024 .bf16) {L : List (View.Piece (Elt Ideal) S512x2816 .bf16)} (hL : Filled (hidG h (gateW m c) (upW m c)) 2816 L) :
    k0_pay1 ((View.whole cc0_scratch3).readCov L (Rect.unit (s := S512x2816) ![0, 0] ![512, 2816] inb_S512x2816_S512x2816_0_0).toLoadRect) (downW m c) k0_pay4 = prodG m c h := by
  refine Eq.trans ?_ (pay6_eq _ _)
  refine congrArg (k0_pay1 · (downW m c) k0_pay4) ((readCov_whole _ _ ?_ _).trans (hL.canon (le_refl _)))
  funext a; fin_cases a <;> rfl

set_option maxHeartbeats 2000000 in
theorem yEven_eq (c : Dev nD) (t : Fin cfg0.N) (ht : 5 ≤ t.val ∧ t.val < 68 ∧ t.val % 2 = 0) (ys : Vec Ideal S512x1024 .f32) (hp : Vec Ideal S512x1024 .bf16) : yEven m c t ht ys hp = prodG m c hp := by
  unfold yEven rEven
  frame_out
  simp only [read_unread_whole]
  refine prod_of m c hp ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

set_option maxHeartbeats 2000000 in
theorem yOdd_eq (c : Dev nD) (t : Fin cfg0.N) (ht : 5 ≤ t.val ∧ t.val < 68 ∧ t.val % 2 = 1) (ys : Vec Ideal S512x1024 .f32) (hp : Vec Ideal S512x1024 .bf16) : yOdd m c t ht ys hp = prodG m c hp := by
  unfold yOdd rOdd
  frame_out
  simp only [read_unread_whole]
  refine prod_of m c hp ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

set_option maxHeartbeats 2000000 in
theorem yFirst_eq (c : Dev nD) (t : Fin cfg0.N) (ht : t.val = 4)  : yFirst m c t ht = prodG m c (hG (n := 512) (iblk m c 2 t) (iblk m c 1 t)) := by
  rw [← normBack_eq (View.whole cc0_scratch5)]
  unfold yFirst rFirst
  frame_out
  simp only [read_unread_whole]
  refine prod_of m c (normBack (View.whole cc0_scratch5) (iblk m c 2 t) (iblk m c 1 t)) ?_
  refine Filled.hid 2560 (by omega) ?_ inb_S1024x2816_S1024x256_0_2560 _ _ rfl
  refine Filled.hid 2304 (by omega) ?_ inb_S1024x2816_S1024x256_0_2304 _ _ rfl
  refine Filled.hid 2048 (by omega) ?_ inb_S1024x2816_S1024x256_0_2048 _ _ rfl
  refine Filled.corner ?_ _ _ _ (pay22_id _)
  refine Filled.hid 1792 (by omega) ?_ inb_S1024x2816_S1024x256_0_1792 _ _ rfl
  refine Filled.corner ?_ _ _ _ (pay22_id _)
  refine Filled.hid 1536 (by omega) ?_ inb_S1024x2816_S1024x256_0_1536 _ _ rfl
  refine Filled.corner ?_ _ _ _ (pay22_id _)
  refine Filled.hid 1280 (by omega) ?_ inb_S1024x2816_S1024x256_0_1280 _ _ rfl
  refine Filled.corner ?_ _ _ _ (pay22_id _)
  refine Filled.hid 1024 (by omega) ?_ inb_S1024x2816_S1024x256_0_1024 _ _ rfl
  refine Filled.corner ?_ _ _ _ (pay22_id _)
  refine Filled.hid 768 (by omega) ?_ inb_S1024x2816_S1024x256_0_768 _ _ rfl
  refine Filled.corner ?_ _ _ _ (pay22_id _)
  refine Filled.hid 512 (by omega) ?_ inb_S1024x2816_S1024x256_0_512 _ _ rfl
  refine Filled.corner ?_ _ _ _ (pay22_id _)
  refine Filled.hid 256 (by omega) ?_ inb_S1024x2816_S1024x256_0_256 _ _ rfl
  refine Filled.corner ?_ _ _ _ (pay22_id _)
  refine Filled.hid 0 (by omega) ?_ inb_S1024x2816_S1024x256_0_0 _ _ rfl
  exact Filled.nil _

/-- The point before a point. -/
abbrev pred (t : Fin cfg0.N) : Fin cfg0.N := ⟨t.val - 1, Nat.lt_of_le_of_lt (Nat.sub_le _ _) t.isLt⟩

/-- The normalised rows that a point multiplies: of its own input at the first tile, else what the point before left. -/
def normT (c : Dev nD) (t : Fin cfg0.N) : Vec Ideal S512x1024 .bf16 :=
  if t.val = 4 then hG (n := 512) (iblk m c 2 t) (iblk m c 1 t) else hG (n := 512) (iblk m c 2 (pred t)) (iblk m c 0 (pred t))

theorem n_at (c : Dev nD) (t : Fin cfg0.N) (h4 : 4 ≤ t.val) (h68 : t.val < 68) : (stAt m c t.val).2 = hG (n := 512) (iblk m c 2 t) (iblk m c 0 t) := by
  by_cases h : t.val = 4
  · rw [stAt_first m c t h]; dsimp only; rw [nFirst_eq]
  rcases Nat.mod_two_eq_zero_or_one t.val with h2 | h2
  · rw [stAt_even m c t ⟨by omega, h68, h2⟩]; dsimp only; rw [nEven_eq]
  · rw [stAt_odd m c t ⟨by omega, h68, h2⟩]; dsimp only; rw [nOdd_eq]

/-- What the carried scratch holds after a point that multiplies. -/
theorem y_at (c : Dev nD) (t : Fin cfg0.N) (h4 : 4 ≤ t.val) (h68 : t.val < 68) : (stAt m c t.val).1 = prodG m c (normT m c t) := by
  by_cases h : t.val = 4
  · rw [normT, if_pos h]; rw [stAt_first m c t h]; dsimp only; rw [yFirst_eq]
  have hn : nBefore m c t = normT m c t := (n_at m c (pred t) (by show 4 ≤ t.val - 1; omega) (by show t.val - 1 < 68; omega)).trans (if_neg h).symm
  rcases Nat.mod_two_eq_zero_or_one t.val with h2 | h2
  · rw [← hn]; rw [stAt_even m c t ⟨by omega, h68, h2⟩]; dsimp only; rw [yEven_eq]
  · rw [← hn]; rw [stAt_odd m c t ⟨by omega, h68, h2⟩]; dsimp only; rw [yOdd_eq]

theorem x_out (c : Dev nD) (t : Fin cfg0.N) (h5 : 5 ≤ t.val) : xOut m c t = xG (iblk m c 6 t) (prodG m c (normT m c (pred t))) (iblk m c 1 t) := by
  have hN : t.val < 69 := lt_of_lt_of_eq t.isLt N_0
  have hy : yBefore m c t = prodG m c (normT m c (pred t)) := y_at m c (pred t) (by show 4 ≤ t.val - 1; omega) (by show t.val - 1 < 68; omega)
  by_cases h : t.val = 68
  · rw [xOut_last m c t h, xLast_eq, hy]
  rcases Nat.mod_two_eq_zero_or_one t.val with h2 | h2
  · rw [xOut_even m c t ⟨h5, by omega, h2⟩, xEven_eq, hy]
  · rw [xOut_odd m c t ⟨h5, by omega, h2⟩, xOdd_eq, hy]

end Cert.FfnEndIdeal.Value

end
-- ==== Proof.FfnEndRef.lean ====
module

public import proofs.«01_k».proof.Proof.Gen.RefFfnEndIdeal.Run
public import proofs.«01_k».proof.Proof.FfnPreRef

@[expose] public section

set_option maxRecDepth 16384

noncomputable section

open Idealize.ShloMosaic Idealize.ShloMosaic.TcCoe Idealize.SL.Sem
open Idealize.ShloMosaic.Pipeline (Dat)

namespace Cert.RefFfnEndIdeal.Value

open Cert.RefFfnEndIdeal Cert.RefFfnEndIdeal.Gen
open Cert.RefFfnPreIdeal.Value (XP)

theorem res_x (m : (ℓ : Loc nD τ sig) → Buf (Elt Ideal) ℓ) (c : Dev nD) : res_main_v43 m c = XP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v43; rfl

/-- The reference's run, its result named. -/
theorem run_REF (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = XP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (res_x m c), (h c).2⟩) (run m ρ)

end Cert.RefFfnEndIdeal.Value

end
-- ==== Proof.FfnEndValue.lean ====
module

public import proofs.«01_k».proof.Proof.FfnEndIdealFrame
public import proofs.«01_k».proof.Proof.FfnEndPoint
public import proofs.«01_k».proof.Proof.FfnEndRef

@[expose] public section

set_option maxRecDepth 16384

noncomputable section

open Idealize.ShloMosaic Idealize.ShloMosaic.TcCoe Idealize.SL.Sem
open Idealize.ShloMosaic.Pipeline (Dat)

namespace Cert.FfnEndIdeal.Value

open Cert.FfnEndIdeal Cert.FfnEndIdeal.Gen Cert.FfnEndIdeal.Hand
open Cert.FfnIdeal.Value (act rmsS xG hG)
open Cert.RefFfnIdeal.Value (XR YR XR_at normR normR_at)
open Cert.RefFfnPreIdeal.Value (XP)

variable (m : (ℓ : Loc nD τ sig) → Buf (Elt Ideal) ℓ)

theorem pay1_at (v : Vec Ideal S1x256x2816 .f32) (r : Fin 256) (d : Fin 2816) : k0_pay85 (F := Ideal) v (ix2 r d) = v (ix3 0 r d) := by
  pointwise [k0_pay85]

theorem pay2_at (v : Vec Ideal S1x256x2816 .f32) (r : Fin 256) (d : Fin 2816) : k0_pay86 (F := Ideal) v (ix2 r d) = v (ix3 0 r d) := by
  pointwise [k0_pay86]

theorem pay3_at (v : Vec Ideal S1x704x1024 .f32) (r : Fin 704) (d : Fin 1024) : k0_pay87 (F := Ideal) v (ix2 r d) = v (ix3 0 r d) := by
  pointwise [k0_pay87]

theorem gblk (c : Dev nD) (t : Fin cfg0.N) (r : Fin 256) (d : Fin 2816) :
    (iblk m c 3 t : Vec Ideal S1x256x2816 .f32) (ix3 0 r d) = (m ((c : Thread nD τ).loc main_arg2)) (ix3 0 ⟨256 * min t.val 3 + r.val, by omega⟩ d) := by
  blk_ext [iblk, V, idx t]

theorem ublk (c : Dev nD) (t : Fin cfg0.N) (r : Fin 256) (d : Fin 2816) :
    (iblk m c 4 t : Vec Ideal S1x256x2816 .f32) (ix3 0 r d) = (m ((c : Thread nD τ).loc main_arg3)) (ix3 0 ⟨256 * min t.val 3 + r.val, by omega⟩ d) := by
  blk_ext [iblk, V, idx t]

theorem dblk (c : Dev nD) (t : Fin cfg0.N) (r : Fin 704) (d : Fin 1024) :
    (iblk m c 5 t : Vec Ideal S1x704x1024 .f32) (ix3 0 r d) = (m ((c : Thread nD τ).loc main_arg4)) (ix3 0 ⟨704 * min t.val 3 + r.val, by omega⟩ d) := by
  blk_ext [iblk, V, idx t]

theorem gate_at (c : Dev nD) (k : Fin 1024) (d : Fin 2816) : gateW m c (ix2 k d) = (m ((c : Thread nD τ).loc main_arg2)) (ix3 0 k d) := by
  refine (pay1_at _ _ _).trans ((gblk m c _ _ _).trans (congrArg (fun q => (m ((c : Thread nD τ).loc main_arg2)) (ix3 0 q d)) (Fin.ext ?_)))
  show 256 * min (k.val / 256) 3 + k.val % 256 = k.val
  omega

theorem up_at (c : Dev nD) (k : Fin 1024) (d : Fin 2816) : upW m c (ix2 k d) = (m ((c : Thread nD τ).loc main_arg3)) (ix3 0 k d) := by
  refine (pay2_at _ _ _).trans ((ublk m c _ _ _).trans (congrArg (fun q => (m ((c : Thread nD τ).loc main_arg3)) (ix3 0 q d)) (Fin.ext ?_)))
  show 256 * min (k.val / 256) 3 + k.val % 256 = k.val
  omega

theorem down_at (c : Dev nD) (k : Fin 2816) (d : Fin 1024) : downW m c (ix2 k d) = (m ((c : Thread nD τ).loc main_arg4)) (ix3 0 k d) := by
  refine (pay3_at _ _ _).trans ((dblk m c _ _ _).trans (congrArg (fun q => (m ((c : Thread nD τ).loc main_arg4)) (ix3 0 q d)) (Fin.ext ?_)))
  show 704 * min (k.val / 704) 3 + k.val % 704 = k.val
  omega

theorem hblk (c : Dev nD) (t : Fin cfg0.N) (r : Fin 512) (k : Fin 1024) :
    (iblk m c 0 t : Vec Ideal S512x1024 .f32) (ix2 r k) = (m ((c : Thread nD τ).loc main_arg0)) (ix2 ⟨512 * min (t.val - 3) 63 + r.val, by omega⟩ k) := by
  blk_ext [iblk, V, idx t]

theorem xblk (c : Dev nD) (t : Fin cfg0.N) (r : Fin 512) (k : Fin 1024) :
    (iblk m c 1 t : Vec Ideal S512x1024 .f32) (ix2 r k) = (m ((c : Thread nD τ).loc main_arg0)) (ix2 ⟨512 * min (t.val - 5) 63 + r.val, by omega⟩ k) := by
  blk_ext [iblk, V, idx t]

theorem preblk (c : Dev nD) (t : Fin cfg0.N) (d : Fin 1024) : (iblk m c 2 t : Vec Ideal S1x1x1024 .f32) (ix3 0 0 d) = (m ((c : Thread nD τ).loc main_arg1)) (ix3 0 0 d) := by
  blk_ext [iblk, V, idx t]

theorem postblk (c : Dev nD) (t : Fin cfg0.N) (d : Fin 1024) : (iblk m c 6 t : Vec Ideal S1x1x1024 .f32) (ix3 0 0 d) = (m ((c : Thread nD τ).loc main_arg5)) (ix3 0 0 d) := by
  blk_ext [iblk, V, idx t]

/-- A block normalised by the leading gain is the whole input normalised, at the block's rows. -/
theorem rows_at (c : Dev nD) (g : Vec Ideal S1x1x1024 .f32) (x : Vec Ideal S512x1024 .f32) (r : Fin 512) (R : Fin 32768) (hg : ∀ d : Fin 1024, g (ix3 0 0 d) = (m ((c : Thread nD τ).loc main_arg1)) (ix3 0 0 d))
    (hx : ∀ k : Fin 1024, x (ix2 r k) = (m ((c : Thread nD τ).loc main_arg0)) (ix2 R k)) (k : Fin 1024) : hG g x (ix2 r k) = normR (m ((c : Thread nD τ).loc main_arg0)) (m ((c : Thread nD τ).loc main_arg1)) (ix2 R k) := by
  refine Eq.trans ?_ (normR_at _ _ R k).symm
  exact congrArg₂ (· * ·) (congrArg₂ (· * ·) (hx k) (congrArg Ideal.rsqrt (congrArg₂ (· + ·)
    (congrArg₂ Ideal.div (Finset.sum_congr rfl fun l _ => congrArg₂ (· * ·) (hx l) (hx l)) rfl) rfl))) (hg k)

/-- The normalised rows that a point multiplies are the reference's at its tile. -/
theorem normT_at (c : Dev nD) (t : Fin cfg0.N) (h4 : 4 ≤ t.val) (r : Fin 512) (k : Fin 1024) :
    normT m c t (ix2 r k) = normR (m ((c : Thread nD τ).loc main_arg0)) (m ((c : Thread nD τ).loc main_arg1)) (ix2 ⟨512 * min (t.val - 4) 63 + r.val, by omega⟩ k) := by
  unfold normT
  by_cases h : t.val = 4
  · rw [if_pos h]
    exact rows_at m c _ _ r _ (preblk m c t) (fun l => (xblk m c t r l).trans (congrArg (fun q => (m ((c : Thread nD τ).loc main_arg0)) (ix2 q l)) (Fin.ext (by
      show 512 * min (t.val - 5) 63 + r.val = 512 * min (t.val - 4) 63 + r.val
      omega)))) k
  · rw [if_neg h]
    exact rows_at m c _ _ r _ (preblk m c (pred t)) (fun l => (hblk m c (pred t) r l).trans (congrArg (fun q => (m ((c : Thread nD τ).loc main_arg0)) (ix2 q l)) (Fin.ext (by
      show 512 * min (t.val - 1 - 3) 63 + r.val = 512 * min (t.val - 4) 63 + r.val
      omega)))) k

/-- The input of the reference's projections. -/
abbrev NK (c : Dev nD) : FVec Ideal S32768x1024 .bf16 := truncf .bf16 (normR (m ((c : Thread nD τ).loc main_arg0)) (m ((c : Thread nD τ).loc main_arg1))) bitsLt_bf16_f32

/-- The product of one tile of tokens is the reference's at those tokens. -/
theorem prod_at (c : Dev nD) (t : Fin cfg0.N) (h5 : 5 ≤ t.val) (r : Fin 512) (d : Fin 1024) :
    prodG m c (normT m c (pred t)) (ix2 r d) = YR (NK m c) (m ((c : Thread nD τ).loc main_arg2)) (m ((c : Thread nD τ).loc main_arg3)) (m ((c : Thread nD τ).loc main_arg4))
      (ix2 ⟨512 * min (t.val - 5) 63 + r.val, by omega⟩ d) := by
  have hh : ∀ k : Fin 1024, normT m c (pred t) (ix2 r k) = NK m c (ix2 ⟨512 * min (t.val - 5) 63 + r.val, by omega⟩ k) := fun k =>
    (normT_at m c (pred t) (by show 4 ≤ t.val - 1; omega) r k).trans (congrArg (fun q => NK m c (ix2 q k)) (Fin.ext (by
      show 512 * min (t.val - 1 - 4) 63 + r.val = 512 * min (t.val - 5) 63 + r.val
      omega)))
  exact Finset.sum_congr rfl fun k _ => congrArg₂ (· * ·) (congrArg₂ act
    (Finset.sum_congr rfl fun l _ => congrArg₂ (· * ·) (hh l) (gate_at m c l k)) (Finset.sum_congr rfl fun l _ => congrArg₂ (· * ·) (hh l) (up_at m c l k))) (down_at m c k d)

/-- The reference's result, of this run's arguments. -/
abbrev XK (c : Dev nD) := XP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem x_at (c : Dev nD) (t : Fin cfg0.N) (h5 : 5 ≤ t.val) (r : Fin 512) (d : Fin 1024) :
    xG (iblk m c 6 t) (prodG m c (normT m c (pred t))) (iblk m c 1 t) (ix2 r d) = XK m c (ix2 ⟨512 * min (t.val - 5) 63 + r.val, by omega⟩ d) := by
  have hy := prod_at m c t h5 r
  refine Eq.trans ?_ (XR_at _ _ _ _ _ _ _ d).symm
  exact congrArg₂ (· + ·) (xblk m c t r d) (congrArg₂ (· * ·) (congrArg₂ (· * ·) (hy d) (congrArg Ideal.rsqrt (congrArg₂ (· + ·)
    (congrArg₂ Ideal.div (Finset.sum_congr rfl fun l _ => congrArg₂ (· * ·) (hy l) (hy l)) rfl) rfl))) (congrArg₂ (· * ·) rfl (postblk m c t d)))

theorem idx512 (x : S512x1024.Idx) : ∃ (r : Fin 512) (d : Fin 1024), x = ix2 r d := ⟨x 0, x 1, funext fun a => by fin_cases a <;> rfl⟩

/-- The kernel's result array, after its last grid point, is the reference's. -/
theorem final (c : Dev nD) : (dats m 0 c).arrAt 7 (cfgs 0).N = XK m c := by
  refine (dats m 0 c).arrAt_eq_of_covers 7 _ covers_x fun t hf y => ?_
  have ht := flush_x t hf
  blk_simp
  rw [after_7, x_out m c t ht]
  obtain ⟨r, d, rfl⟩ := idx512 y
  rw [show (win0_7.blk t).view.emb (ix2 r d : S512x1024.Idx) = (ix2 ⟨512 * min (t.val - 5) 63 + r.val, by omega⟩ d : S32768x1024.Idx) from by blk_ext [idx t]]
  exact x_at m c t ht r d

end Cert.FfnEndIdeal.Value

end
-- ==== Proof.HeadValue.lean ====
module

public import proofs.«01_k».proof.Proof.Gen.HeadDftIdeal.Value
public import proofs.«01_k».proof.Proof.Gen.RefHeadIdeal.Run
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RefHeadIdeal.Value

open Cert.RefHeadIdeal Cert.RefHeadIdeal.Gen

/-- The reference's result, as its operations compose it, over its arguments. -/
def REF (A0 : FVec Ideal S2x128x128 .f32) (A1 : FVec Ideal S4x4x128x128 .f32) : FVec Ideal S4x4x128x256 .bf16 :=
  truncf .bf16 (shapeCast _ (transpose S4x4x128x2x128 [0, 1, 4, 3, 2] (Host.dotGeneral dot_S4x4x128x128_S2x128x128_S4x4x128x2x128_2_2_013_01_n_n none A1 A0) transposes_S4x4x128x2x128_S4x4x128x2x128_0_1_4_3_2) shapeCasts_S4x4x128x2x128_S4x4x128x256) bitsLt_bf16_f32

/-- At one layer, head, input channel and output column: the column's half names the table, cosine or sine. -/
theorem REF_at (A0 : FVec Ideal S2x128x128 .f32) (A1 : FVec Ideal S4x4x128x128 .f32) (l h : Fin 4) (a : Fin 128) (d : Fin 256) :
    REF A0 A1 (ix4 l h a d) = ∑ k : Fin 128, A1 (ix4 l h k ⟨d.val % 128, by omega⟩) * A0 (ix3 ⟨d.val / 128, by omega⟩ a k) := by
  pointwise [REF]

end Cert.RefHeadIdeal.Value

namespace Cert.HeadDftIdeal.Value

open Cert.HeadDftIdeal Cert.HeadDftIdeal.Gen
open Cert.RefHeadIdeal.Value (REF REF_at)

/-- One table times one head's map. -/
theorem prod_at (f : Vec Ideal S1x1x128x128 .f32) (t : Vec Ideal S1x128x128 .f32) (a c : Fin 128) :
    k0_pay3 f t (ix4 0 0 a c) = ∑ k : Fin 128, t (ix3 0 a k) * f (ix4 0 0 k c) := by
  pointwise [k0_pay2, k0_pay3]

theorem idx128 (z : S1x1x128x128.Idx) : ∃ a c : Fin 128, z = ix4 0 0 a c :=
  ⟨z 2, z 3, funext fun q => by
    fin_cases q
    · exact Fin.ext (Nat.lt_one_iff.mp (z 0).isLt)
    · exact Fin.ext (Nat.lt_one_iff.mp (z 1).isLt)
    · rfl
    · rfl⟩

/-- The product of layer `l`, head `h` and table `t`, stored at that head's columns of the table's half, is the reference's there. -/
theorem piece (A0 : Vec Ideal S2x128x128 .f32) (A1 : Vec Ideal S4x4x128x128 .f32) (l h : Fin 4) (t : Fin 2)
    (inF : ∀ a, (![l.val, h.val, 0, 0] : Fin 4 → ℕ) a + S1x1x128x128.size a ≤ S4x4x128x128.size a) (inT : ∀ a, (![t.val, 0, 0] : Fin 3 → ℕ) a + S1x128x128.size a ≤ S2x128x128.size a)
    (inb : ∀ a, (![l.val, h.val, 0, 128 * t.val] : Fin 4 → ℕ) a + S1x1x128x128.size a ≤ S4x4x128x256.size a) (z : S1x1x128x128.Idx) :
    k0_pay3 (View.ld A1 (Rect.unit (s := S4x4x128x128) ![l.val, h.val, 0, 0] S1x1x128x128.size inF)) (View.ld A0 (Rect.unit (s := S2x128x128) ![t.val, 0, 0] S1x128x128.size inT)) z
      = REF A0 A1 ((Rect.unit (s := S4x4x128x256) ![l.val, h.val, 0, 128 * t.val] S1x1x128x128.size inb).emb z) := by
  obtain ⟨a, c, rfl⟩ := idx128 z
  have e : (Rect.unit (s := S4x4x128x256) ![l.val, h.val, 0, 128 * t.val] S1x1x128x128.size inb).emb (ix4 0 0 a c) = ix4 l h a ⟨128 * t.val + c.val, by omega⟩ := by
    blk_ext []
  have eF (k : Fin 128) : (Rect.unit (s := S4x4x128x128) ![l.val, h.val, 0, 0] S1x1x128x128.size inF).emb (ix4 0 0 k c) = ix4 l h k ⟨(128 * t.val + c.val) % 128, by omega⟩ := by
    blk_ext []
  have eT (k : Fin 128) : (Rect.unit (s := S2x128x128) ![t.val, 0, 0] S1x128x128.size inT).emb (ix3 0 a k) = ix3 ⟨(128 * t.val + c.val) / 128, by omega⟩ a k := by
    blk_ext []
  rw [e, REF_at, prod_at]
  exact Finset.sum_congr rfl fun k _ => (mul_comm _ _).trans (congrArg₂ (· * ·) (congrArg A1 (eF k)) (congrArg A0 (eT k)))

/-- The kernel's result, of its arguments, is the reference's. -/
theorem final (A0 : Vec Ideal S2x128x128 .f32) (A1 : Vec Ideal S4x4x128x128 .f32) : G2 A0 A1 = REF A0 A1 := by
  funext j
  refine View.canon_apply_of_pieces _ _ ?_ j (View.cover_of_tiled_head _ _ _ (by rfl) j)
  simp only [List.forall_mem_cons]
  exact ⟨
    piece A0 A1 3 3 1 _ _ _, piece A0 A1 3 3 0 _ _ _,
    piece A0 A1 3 2 1 _ _ _, piece A0 A1 3 2 0 _ _ _,
    piece A0 A1 3 1 1 _ _ _, piece A0 A1 3 1 0 _ _ _,
    piece A0 A1 3 0 1 _ _ _, piece A0 A1 3 0 0 _ _ _,
    piece A0 A1 2 3 1 _ _ _, piece A0 A1 2 3 0 _ _ _,
    piece A0 A1 2 2 1 _ _ _, piece A0 A1 2 2 0 _ _ _,
    piece A0 A1 2 1 1 _ _ _, piece A0 A1 2 1 0 _ _ _,
    piece A0 A1 2 0 1 _ _ _, piece A0 A1 2 0 0 _ _ _,
    piece A0 A1 1 3 1 _ _ _, piece A0 A1 1 3 0 _ _ _,
    piece A0 A1 1 2 1 _ _ _, piece A0 A1 1 2 0 _ _ _,
    piece A0 A1 1 1 1 _ _ _, piece A0 A1 1 1 0 _ _ _,
    piece A0 A1 1 0 1 _ _ _, piece A0 A1 1 0 0 _ _ _,
    piece A0 A1 0 3 1 _ _ _, piece A0 A1 0 3 0 _ _ _,
    piece A0 A1 0 2 1 _ _ _, piece A0 A1 0 2 0 _ _ _,
    piece A0 A1 0 1 1 _ _ _, piece A0 A1 0 1 0 _ _ _,
    piece A0 A1 0 0 1 _ _ _, piece A0 A1 0 0 0 _ _ _, fun q hq => absurd hq List.not_mem_nil⟩

/-- The kernel's run, its result named as the reference's of the same arguments. -/
theorem run_REF (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final _ _), (h c).2⟩) (run m ρ)

end Cert.HeadDftIdeal.Value

end
-- ==== Proof.lean ====
module

public import proofs.«01_k».proof.Defs
public import proofs.«01_k».proof.Proof.Gen.MixOut.Frame
public import proofs.«01_k».proof.Proof.Gen.MixOutIdeal.Frame
public import proofs.«01_k».proof.Proof.Gen.RefOutIdeal.Run
public import proofs.«01_k».proof.Proof.OutValue
public import proofs.«01_k».proof.Proof.Gen.Ffn.Frame
public import proofs.«01_k».proof.Proof.Gen.FfnIdeal.Frame
public import proofs.«01_k».proof.Proof.Gen.RefFfnIdeal.Run
public import proofs.«01_k».proof.Proof.FfnFrame
public import proofs.«01_k».proof.Proof.FfnIdealFrame
public import proofs.«01_k».proof.Proof.FfnValue
public import proofs.«01_k».proof.Proof.Gen.FfnPre.Frame
public import proofs.«01_k».proof.Proof.Gen.FfnPreIdeal.Frame
public import proofs.«01_k».proof.Proof.Gen.RefFfnPreIdeal.Run
public import proofs.«01_k».proof.Proof.FfnPreFrame
public import proofs.«01_k».proof.Proof.FfnPreIdealFrame
public import proofs.«01_k».proof.Proof.FfnPreValue
public import proofs.«01_k».proof.Proof.Gen.FfnEnd.Frame
public import proofs.«01_k».proof.Proof.Gen.FfnEndIdeal.Frame
public import proofs.«01_k».proof.Proof.Gen.RefFfnEndIdeal.Run
public import proofs.«01_k».proof.Proof.FfnEndFrame
public import proofs.«01_k».proof.Proof.FfnEndIdealFrame
public import proofs.«01_k».proof.Proof.FfnEndValue
public import proofs.«01_k».proof.Proof.Gen.HeadDft.Frame
public import proofs.«01_k».proof.Proof.HeadValue
public import Idealize.ShloMosaic.Lib.Claim
public import Idealize.ShloMosaic.Adequacy
public import Idealize.ShloMosaic.Init

@[expose] public section

noncomputable section

namespace Cert.Proof

open Idealize.ShloMosaic Idealize.SL.Sem Cert.MixOut

theorem frame_out : Cert.quiescent_MixOut := fun m g _ => Cert.MixOut.Gen.frame m g

theorem frame_outIdeal : Cert.quiescent_MixOutIdeal := fun m g _ => Cert.MixOutIdeal.Gen.frame m g

theorem frame_refOut : Cert.quiescent_RefOutIdeal := fun m g _ =>
  (θ_run _ _ _).mono (fun r h => ⟨fun c => (h c).2, sem_eq_zero_of_no_sems rfl r.2⟩) (Cert.RefOutIdeal.Value.run m g)

theorem preserves_out : Cert.preserves_MixOut_MixOutIdeal := IdealRules.shift_out.by16TwiceStatement _

theorem algebraic_out : Cert.algebraic_MixOutIdeal_RefOutIdeal := by
  pair_intro
  · run_from Cert.MixOutIdeal.Gen.run_main m g
  · run_from Cert.RefOutIdeal.Value.run_REF m' g'
    exact (Cert.MixOutIdeal.Value.final m c).symm

theorem frame_ffn : Cert.quiescent_Ffn := fun m g _ => Cert.Ffn.Hand.frame m g

theorem frame_ffnIdeal : Cert.quiescent_FfnIdeal := fun m g _ => Cert.FfnIdeal.Hand.frame m g

theorem frame_refFfn : Cert.quiescent_RefFfnIdeal := fun m g _ =>
  (θ_run _ _ _).mono (fun r h => ⟨fun c => (h c).2.2, sem_eq_zero_of_no_sems rfl r.2⟩) (Cert.RefFfnIdeal.Value.run m g)

theorem preserves_ffn : Cert.preserves_Ffn_FfnIdeal := IdealRules.shift_out.by16TwiceStatement _

theorem algebraic_ffn : Cert.algebraic_FfnIdeal_RefFfnIdeal := by
  pair_intro
  · run_from Cert.FfnIdeal.Hand.run_main m g
  · run_from Cert.RefFfnIdeal.Value.run_REF m' g'
    · exact (Cert.FfnIdeal.Value.final_x m c).symm
    · exact (Cert.FfnIdeal.Value.final_h m c).symm

theorem frame_pre : Cert.quiescent_FfnPre := fun m g _ => Cert.FfnPre.Hand.frame m g

theorem frame_preIdeal : Cert.quiescent_FfnPreIdeal := fun m g _ => Cert.FfnPreIdeal.Hand.frame m g

theorem frame_refPre : Cert.quiescent_RefFfnPreIdeal := fun m g _ =>
  (θ_run _ _ _).mono (fun r h => ⟨fun c => (h c).2.2, sem_eq_zero_of_no_sems rfl r.2⟩) (Cert.RefFfnPreIdeal.Value.run m g)

theorem preserves_pre : Cert.preserves_FfnPre_FfnPreIdeal := IdealRules.shift_out.by16TwiceStatement _

theorem algebraic_pre : Cert.algebraic_FfnPreIdeal_RefFfnPreIdeal := by
  pair_intro
  · run_from Cert.FfnPreIdeal.Hand.run_main m g
  · run_from Cert.RefFfnPreIdeal.Value.run_REF m' g'
    · exact (Cert.FfnPreIdeal.Value.final_x m c).symm
    · exact (Cert.FfnPreIdeal.Value.final_h m c).symm

theorem frame_end : Cert.quiescent_FfnEnd := fun m g _ => Cert.FfnEnd.Hand.frame m g

theorem frame_endIdeal : Cert.quiescent_FfnEndIdeal := fun m g _ => Cert.FfnEndIdeal.Hand.frame m g

theorem frame_refEnd : Cert.quiescent_RefFfnEndIdeal := fun m g _ =>
  (θ_run _ _ _).mono (fun r h => ⟨fun c => (h c).2, sem_eq_zero_of_no_sems rfl r.2⟩) (Cert.RefFfnEndIdeal.Value.run m g)

theorem preserves_end : Cert.preserves_FfnEnd_FfnEndIdeal := IdealRules.shift_out.by16TwiceStatement _

theorem algebraic_end : Cert.algebraic_FfnEndIdeal_RefFfnEndIdeal := by
  pair_intro
  · run_from Cert.FfnEndIdeal.Hand.run_main m g
  · run_from Cert.RefFfnEndIdeal.Value.run_REF m' g'
    exact (Cert.FfnEndIdeal.Value.final m c).symm

theorem frame_head : Cert.quiescent_HeadDft := fun m g _ => Cert.HeadDft.Gen.frame m g

theorem frame_headIdeal : Cert.quiescent_HeadDftIdeal := fun m g _ => Cert.HeadDftIdeal.Gen.frame m g

theorem frame_refHead : Cert.quiescent_RefHeadIdeal := fun m g _ =>
  (θ_run _ _ _).mono (fun r h => ⟨fun c => (h c).2, sem_eq_zero_of_no_sems rfl r.2⟩) (Cert.RefHeadIdeal.Value.run m g)

theorem preserves_head : Cert.preserves_HeadDft_HeadDftIdeal := trivial

theorem algebraic_head : Cert.algebraic_HeadDftIdeal_RefHeadIdeal := by
  intro m g m' g' _ hagree
  refine ⟨_, Cert.HeadDftIdeal.Value.run_REF m g, (θ_run _ _ _).mono (fun _ h c => ⟨?_, (h c).2⟩) (Cert.RefHeadIdeal.Value.run m' g')⟩
  exact (h c).1.trans (congrArg₂ Cert.RefHeadIdeal.Value.REF (hagree c).1 (hagree c).2)

theorem claim : Cert.Claim := ⟨Cert.MixOut.Gen.facts, Cert.MixOutIdeal.Gen.facts, Cert.RefOutIdeal.Gen.facts,
  Cert.Ffn.Gen.facts, Cert.FfnIdeal.Gen.facts, Cert.RefFfnIdeal.Gen.facts, Cert.FfnPre.Gen.facts, Cert.FfnPreIdeal.Gen.facts, Cert.RefFfnPreIdeal.Gen.facts,
  Cert.FfnEnd.Gen.facts, Cert.FfnEndIdeal.Gen.facts, Cert.RefFfnEndIdeal.Gen.facts,
  Cert.HeadDft.Gen.facts, Cert.HeadDftIdeal.Gen.facts, Cert.RefHeadIdeal.Gen.facts,
  frame_out, frame_outIdeal, frame_refOut, frame_ffn, frame_ffnIdeal, frame_refFfn, frame_pre, frame_preIdeal, frame_refPre,
  frame_end, frame_endIdeal, frame_refEnd, frame_head, frame_headIdeal, frame_refHead,
  preserves_out, algebraic_out, preserves_ffn, algebraic_ffn, preserves_pre, algebraic_pre, preserves_end, algebraic_end,
  preserves_head, algebraic_head⟩

end Cert.Proof

end
